-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_InEven (m : (ℓ : Loc Cert.InEven.nD Cert.InEven.τ Cert.InEven.sig) → Buf (Elt Bits) ℓ) : Prop :=
  True

def Pre_InEvenIdeal (m : (ℓ : Loc Cert.InEvenIdeal.nD Cert.InEvenIdeal.τ Cert.InEvenIdeal.sig) → Buf (Elt Ideal) ℓ) : Prop :=
  True

def Pre_InEvenReferenceIdeal (m : (ℓ : Loc Cert.InEvenReferenceIdeal.nD Cert.InEvenReferenceIdeal.τ Cert.InEvenReferenceIdeal.sig) → Buf (Elt Ideal) ℓ) : Prop :=
  True

def Pre_OutOdd (m : (ℓ : Loc Cert.OutOdd.nD Cert.OutOdd.τ Cert.OutOdd.sig) → Buf (Elt Bits) ℓ) : Prop :=
  True

def Pre_OutOddIdeal (m : (ℓ : Loc Cert.OutOddIdeal.nD Cert.OutOddIdeal.τ Cert.OutOddIdeal.sig) → Buf (Elt Ideal) ℓ) : Prop :=
  True

def Pre_OutOddReferenceIdeal (m : (ℓ : Loc Cert.OutOddReferenceIdeal.nD Cert.OutOddReferenceIdeal.τ Cert.OutOddReferenceIdeal.sig) → Buf (Elt Ideal) ℓ) : Prop :=
  True

def Pre_OutEven (m : (ℓ : Loc Cert.OutEven.nD Cert.OutEven.τ Cert.OutEven.sig) → Buf (Elt Bits) ℓ) : Prop :=
  True

def Pre_OutEvenIdeal (m : (ℓ : Loc Cert.OutEvenIdeal.nD Cert.OutEvenIdeal.τ Cert.OutEvenIdeal.sig) → Buf (Elt Ideal) ℓ) : Prop :=
  True

def Pre_OutEvenReferenceIdeal (m : (ℓ : Loc Cert.OutEvenReferenceIdeal.nD Cert.OutEvenReferenceIdeal.τ Cert.OutEvenReferenceIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_Finish (m : (ℓ : Loc Cert.Finish.nD Cert.Finish.τ Cert.Finish.sig) → Buf (Elt Bits) ℓ) : Prop :=
  True

def Pre_FinishIdeal (m : (ℓ : Loc Cert.FinishIdeal.nD Cert.FinishIdeal.τ Cert.FinishIdeal.sig) → Buf (Elt Ideal) ℓ) : Prop :=
  True

def Pre_FinishReferenceIdeal (m : (ℓ : Loc Cert.FinishReferenceIdeal.nD Cert.FinishReferenceIdeal.τ Cert.FinishReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7))
      ∧ r.2.sem = fun _ => 0)

def quiescent_InEven [hInEven : Cert.InEven.Facts] : Prop :=
  ∀ (m : (ℓ : Loc Cert.InEven.nD Cert.InEven.τ Cert.InEven.sig) → Buf (Elt Bits) ℓ) (g : Dev Cert.InEven.nD → PrngReg), Pre_InEven m →
    θ_run (Cert.InEven.defs (F := Bits)) (onTc (τ := Cert.InEven.τ) (Cert.InEven.main (F := Bits))) ⟨m, fun _ => 0, g⟩ (fun r => (∀ c : Dev Cert.InEven.nD,
      r.2.mem ((c.tc : Thread Cert.InEven.nD Cert.InEven.τ).loc Cert.InEven.main_arg0) = m ((c.tc : Thread Cert.InEven.nD Cert.InEven.τ).loc Cert.InEven.main_arg0)
      ∧ r.2.mem ((c.tc : Thread Cert.InEven.nD Cert.InEven.τ).loc Cert.InEven.main_arg1) = m ((c.tc : Thread Cert.InEven.nD Cert.InEven.τ).loc Cert.InEven.main_arg1)
      ∧ r.2.mem ((c.tc : Thread Cert.InEven.nD Cert.InEven.τ).loc Cert.InEven.main_arg2) = m ((c.tc : Thread Cert.InEven.nD Cert.InEven.τ).loc Cert.InEven.main_arg2)
      ∧ r.2.mem ((c.tc : Thread Cert.InEven.nD Cert.InEven.τ).loc Cert.InEven.main_arg3) = m ((c.tc : Thread Cert.InEven.nD Cert.InEven.τ).loc Cert.InEven.main_arg3)
      ∧ r.2.mem ((c.tc : Thread Cert.InEven.nD Cert.InEven.τ).loc Cert.InEven.main_arg4) = m ((c.tc : Thread Cert.InEven.nD Cert.InEven.τ).loc Cert.InEven.main_arg4))
      ∧ r.2.sem = fun _ => 0)

def quiescent_InEvenIdeal [hInEvenIdeal : Cert.InEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
      ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
      ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3)
      ∧ r.2.mem ((c.tc : Thread Cert.InEvenIdeal.nD Cert.InEvenIdeal.τ).loc Cert.InEvenIdeal.main_arg4) = m ((c.tc : Thread Cert.InEvenIdeal.nD Cert.InEvenIdeal.τ).loc Cert.InEvenIdeal.main_arg4))
      ∧ r.2.sem = fun _ => 0)

def quiescent_InEvenReferenceIdeal [hInEvenReferenceIdeal : Cert.InEvenReferenceIdeal.Facts] : Prop :=
  ∀ (m : (ℓ : Loc Cert.InEvenReferenceIdeal.nD Cert.InEvenReferenceIdeal.τ Cert.InEvenReferenceIdeal.sig) → Buf (Elt Ideal) ℓ) (g : Dev Cert.InEvenReferenceIdeal.nD → PrngReg), Pre_InEvenReferenceIdeal m →
    θ_run (Cert.InEvenReferenceIdeal.defs (F := Ideal)) (onTc (τ := Cert.InEvenReferenceIdeal.τ) (Cert.InEvenReferenceIdeal.main (F := Ideal))) ⟨m, fun _ => 0, g⟩ (fun r => (∀ c : Dev Cert.InEvenReferenceIdeal.nD,
      r.2.mem ((c.tc : Thread Cert.InEvenReferenceIdeal.nD Cert.InEvenReferenceIdeal.τ).loc Cert.InEvenReferenceIdeal.main_arg0) = m ((c.tc : Thread Cert.InEvenReferenceIdeal.nD Cert.InEvenReferenceIdeal.τ).loc Cert.InEvenReferenceIdeal.main_arg0)
      ∧ r.2.mem ((c.tc : Thread Cert.InEvenReferenceIdeal.nD Cert.InEvenReferenceIdeal.τ).loc Cert.InEvenReferenceIdeal.main_arg1) = m ((c.tc : Thread Cert.InEvenReferenceIdeal.nD Cert.InEvenReferenceIdeal.τ).loc Cert.InEvenReferenceIdeal.main_arg1)
      ∧ r.2.mem ((c.tc : Thread Cert.InEvenReferenceIdeal.nD Cert.InEvenReferenceIdeal.τ).loc Cert.InEvenReferenceIdeal.main_arg2) = m ((c.tc : Thread Cert.InEvenReferenceIdeal.nD Cert.InEvenReferenceIdeal.τ).loc Cert.InEvenReferenceIdeal.main_arg2)
      ∧ r.2.mem ((c.tc : Thread Cert.InEvenReferenceIdeal.nD Cert.InEvenReferenceIdeal.τ).loc Cert.InEvenReferenceIdeal.main_arg3) = m ((c.tc : Thread Cert.InEvenReferenceIdeal.nD Cert.InEvenReferenceIdeal.τ).loc Cert.InEvenReferenceIdeal.main_arg3)
      ∧ r.2.mem ((c.tc : Thread Cert.InEvenReferenceIdeal.nD Cert.InEvenReferenceIdeal.τ).loc Cert.InEvenReferenceIdeal.main_arg4) = m ((c.tc : Thread Cert.InEvenReferenceIdeal.nD Cert.InEvenReferenceIdeal.τ).loc Cert.InEvenReferenceIdeal.main_arg4))
      ∧ r.2.sem = fun _ => 0)

def quiescent_OutOdd [hOutOdd : Cert.OutOdd.Facts] : Prop :=
  ∀ (m : (ℓ : Loc Cert.OutOdd.nD Cert.OutOdd.τ Cert.OutOdd.sig) → Buf (Elt Bits) ℓ) (g : Dev Cert.OutOdd.nD → PrngReg), Pre_OutOdd m →
    θ_run (Cert.OutOdd.defs (F := Bits)) (onTc (τ := Cert.OutOdd.τ) (Cert.OutOdd.main (F := Bits))) ⟨m, fun _ => 0, g⟩ (fun r => (∀ c : Dev Cert.OutOdd.nD,
      r.2.mem ((c.tc : Thread Cert.OutOdd.nD Cert.OutOdd.τ).loc Cert.OutOdd.main_arg0) = m ((c.tc : Thread Cert.OutOdd.nD Cert.OutOdd.τ).loc Cert.OutOdd.main_arg0)
      ∧ r.2.mem ((c.tc : Thread Cert.OutOdd.nD Cert.OutOdd.τ).loc Cert.OutOdd.main_arg1) = m ((c.tc : Thread Cert.OutOdd.nD Cert.OutOdd.τ).loc Cert.OutOdd.main_arg1)
      ∧ r.2.mem ((c.tc : Thread Cert.OutOdd.nD Cert.OutOdd.τ).loc Cert.OutOdd.main_arg2) = m ((c.tc : Thread Cert.OutOdd.nD Cert.OutOdd.τ).loc Cert.OutOdd.main_arg2)
      ∧ r.2.mem ((c.tc : Thread Cert.OutOdd.nD Cert.OutOdd.τ).loc Cert.OutOdd.main_arg3) = m ((c.tc : Thread Cert.OutOdd.nD Cert.OutOdd.τ).loc Cert.OutOdd.main_arg3)
      ∧ r.2.mem ((c.tc : Thread Cert.OutOdd.nD Cert.OutOdd.τ).loc Cert.OutOdd.main_arg4) = m ((c.tc : Thread Cert.OutOdd.nD Cert.OutOdd.τ).loc Cert.OutOdd.main_arg4))
      ∧ r.2.sem = fun _ => 0)

def quiescent_OutOddIdeal [hOutOddIdeal : Cert.OutOddIdeal.Facts] : Prop :=
  ∀ (m : (ℓ : Loc Cert.OutOddIdeal.nD Cert.OutOddIdeal.τ Cert.OutOddIdeal.sig) → Buf (Elt Ideal) ℓ) (g : Dev Cert.OutOddIdeal.nD → PrngReg), Pre_OutOddIdeal m →
    θ_run (Cert.OutOddIdeal.defs (F := Ideal)) (onTc (τ := Cert.OutOddIdeal.τ) (Cert.OutOddIdeal.main (F := Ideal))) ⟨m, fun _ => 0, g⟩ (fun r => (∀ c : Dev Cert.OutOddIdeal.nD,
      r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
      ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
      ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
      ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3)
      ∧ r.2.mem ((c.tc : Thread Cert.OutOddIdeal.nD Cert.OutOddIdeal.τ).loc Cert.OutOddIdeal.main_arg4) = m ((c.tc : Thread Cert.OutOddIdeal.nD Cert.OutOddIdeal.τ).loc Cert.OutOddIdeal.main_arg4))
      ∧ r.2.sem = fun _ => 0)

def quiescent_OutOddReferenceIdeal [hOutOddReferenceIdeal : Cert.OutOddReferenceIdeal.Facts] : Prop :=
  ∀ (m : (ℓ : Loc Cert.OutOddReferenceIdeal.nD Cert.OutOddReferenceIdeal.τ Cert.OutOddReferenceIdeal.sig) → Buf (Elt Ideal) ℓ) (g : Dev Cert.OutOddReferenceIdeal.nD → PrngReg), Pre_OutOddReferenceIdeal m →
    θ_run (Cert.OutOddReferenceIdeal.defs (F := Ideal)) (onTc (τ := Cert.OutOddReferenceIdeal.τ) (Cert.OutOddReferenceIdeal.main (F := Ideal))) ⟨m, fun _ => 0, g⟩ (fun r => (∀ c : Dev Cert.OutOddReferenceIdeal.nD,
      r.2.mem ((c.tc : Thread Cert.OutOddReferenceIdeal.nD Cert.OutOddReferenceIdeal.τ).loc Cert.OutOddReferenceIdeal.main_arg0) = m ((c.tc : Thread Cert.OutOddReferenceIdeal.nD Cert.OutOddReferenceIdeal.τ).loc Cert.OutOddReferenceIdeal.main_arg0)
      ∧ r.2.mem ((c.tc : Thread Cert.OutOddReferenceIdeal.nD Cert.OutOddReferenceIdeal.τ).loc Cert.OutOddReferenceIdeal.main_arg1) = m ((c.tc : Thread Cert.OutOddReferenceIdeal.nD Cert.OutOddReferenceIdeal.τ).loc Cert.OutOddReferenceIdeal.main_arg1)
      ∧ r.2.mem ((c.tc : Thread Cert.OutOddReferenceIdeal.nD Cert.OutOddReferenceIdeal.τ).loc Cert.OutOddReferenceIdeal.main_arg2) = m ((c.tc : Thread Cert.OutOddReferenceIdeal.nD Cert.OutOddReferenceIdeal.τ).loc Cert.OutOddReferenceIdeal.main_arg2)
      ∧ r.2.mem ((c.tc : Thread Cert.OutOddReferenceIdeal.nD Cert.OutOddReferenceIdeal.τ).loc Cert.OutOddReferenceIdeal.main_arg3) = m ((c.tc : Thread Cert.OutOddReferenceIdeal.nD Cert.OutOddReferenceIdeal.τ).loc Cert.OutOddReferenceIdeal.main_arg3)
      ∧ r.2.mem ((c.tc : Thread Cert.OutOddReferenceIdeal.nD Cert.OutOddReferenceIdeal.τ).loc Cert.OutOddReferenceIdeal.main_arg4) = m ((c.tc : Thread Cert.OutOddReferenceIdeal.nD Cert.OutOddReferenceIdeal.τ).loc Cert.OutOddReferenceIdeal.main_arg4))
      ∧ r.2.sem = fun _ => 0)

def quiescent_OutEven [hOutEven : Cert.OutEven.Facts] : Prop :=
  ∀ (m : (ℓ : Loc Cert.OutEven.nD Cert.OutEven.τ Cert.OutEven.sig) → Buf (Elt Bits) ℓ) (g : Dev Cert.OutEven.nD → PrngReg), Pre_OutEven m →
    θ_run (Cert.OutEven.defs (F := Bits)) (onTc (τ := Cert.OutEven.τ) (Cert.OutEven.main (F := Bits))) ⟨m, fun _ => 0, g⟩ (fun r => (∀ c : Dev Cert.OutEven.nD,
      r.2.mem ((c.tc : Thread Cert.OutEven.nD Cert.OutEven.τ).loc Cert.OutEven.main_arg0) = m ((c.tc : Thread Cert.OutEven.nD Cert.OutEven.τ).loc Cert.OutEven.main_arg0)
      ∧ r.2.mem ((c.tc : Thread Cert.OutEven.nD Cert.OutEven.τ).loc Cert.OutEven.main_arg1) = m ((c.tc : Thread Cert.OutEven.nD Cert.OutEven.τ).loc Cert.OutEven.main_arg1)
      ∧ r.2.mem ((c.tc : Thread Cert.OutEven.nD Cert.OutEven.τ).loc Cert.OutEven.main_arg2) = m ((c.tc : Thread Cert.OutEven.nD Cert.OutEven.τ).loc Cert.OutEven.main_arg2)
      ∧ r.2.mem ((c.tc : Thread Cert.OutEven.nD Cert.OutEven.τ).loc Cert.OutEven.main_arg3) = m ((c.tc : Thread Cert.OutEven.nD Cert.OutEven.τ).loc Cert.OutEven.main_arg3)
      ∧ r.2.mem ((c.tc : Thread Cert.OutEven.nD Cert.OutEven.τ).loc Cert.OutEven.main_arg4) = m ((c.tc : Thread Cert.OutEven.nD Cert.OutEven.τ).loc Cert.OutEven.main_arg4)
      ∧ r.2.mem ((c.tc : Thread Cert.OutEven.nD Cert.OutEven.τ).loc Cert.OutEven.main_arg5) = m ((c.tc : Thread Cert.OutEven.nD Cert.OutEven.τ).loc Cert.OutEven.main_arg5))
      ∧ r.2.sem = fun _ => 0)

def quiescent_OutEvenIdeal [hOutEvenIdeal : Cert.OutEvenIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg), Pre_OutEvenIdeal m →
    θ_run (Cert.OutEvenIdeal.defs (F := Ideal)) (onTc (τ := Cert.OutEvenIdeal.τ) (Cert.OutEvenIdeal.main (F := Ideal))) ⟨m, fun _ => 0, g⟩ (fun r => (∀ c : Dev Cert.OutEvenIdeal.nD,
      r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
      ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
      ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
      ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
      ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4)
      ∧ r.2.mem ((c.tc : Thread Cert.OutEvenIdeal.nD Cert.OutEvenIdeal.τ).loc Cert.OutEvenIdeal.main_arg5) = m ((c.tc : Thread Cert.OutEvenIdeal.nD Cert.OutEvenIdeal.τ).loc Cert.OutEvenIdeal.main_arg5))
      ∧ r.2.sem = fun _ => 0)

def quiescent_OutEvenReferenceIdeal [hOutEvenReferenceIdeal : Cert.OutEvenReferenceIdeal.Facts] : Prop :=
  ∀ (m : (ℓ : Loc Cert.OutEvenReferenceIdeal.nD Cert.OutEvenReferenceIdeal.τ Cert.OutEvenReferenceIdeal.sig) → Buf (Elt Ideal) ℓ) (g : Dev Cert.OutEvenReferenceIdeal.nD → PrngReg), Pre_OutEvenReferenceIdeal m →
    θ_run (Cert.OutEvenReferenceIdeal.defs (F := Ideal)) (onTc (τ := Cert.OutEvenReferenceIdeal.τ) (Cert.OutEvenReferenceIdeal.main (F := Ideal))) ⟨m, fun _ => 0, g⟩ (fun r => (∀ c : Dev Cert.OutEvenReferenceIdeal.nD,
      r.2.mem ((c.tc : Thread Cert.OutEvenReferenceIdeal.nD Cert.OutEvenReferenceIdeal.τ).loc Cert.OutEvenReferenceIdeal.main_arg0) = m ((c.tc : Thread Cert.OutEvenReferenceIdeal.nD Cert.OutEvenReferenceIdeal.τ).loc Cert.OutEvenReferenceIdeal.main_arg0)
      ∧ r.2.mem ((c.tc : Thread Cert.OutEvenReferenceIdeal.nD Cert.OutEvenReferenceIdeal.τ).loc Cert.OutEvenReferenceIdeal.main_arg1) = m ((c.tc : Thread Cert.OutEvenReferenceIdeal.nD Cert.OutEvenReferenceIdeal.τ).loc Cert.OutEvenReferenceIdeal.main_arg1)
      ∧ r.2.mem ((c.tc : Thread Cert.OutEvenReferenceIdeal.nD Cert.OutEvenReferenceIdeal.τ).loc Cert.OutEvenReferenceIdeal.main_arg2) = m ((c.tc : Thread Cert.OutEvenReferenceIdeal.nD Cert.OutEvenReferenceIdeal.τ).loc Cert.OutEvenReferenceIdeal.main_arg2)
      ∧ r.2.mem ((c.tc : Thread Cert.OutEvenReferenceIdeal.nD Cert.OutEvenReferenceIdeal.τ).loc Cert.OutEvenReferenceIdeal.main_arg3) = m ((c.tc : Thread Cert.OutEvenReferenceIdeal.nD Cert.OutEvenReferenceIdeal.τ).loc Cert.OutEvenReferenceIdeal.main_arg3)
      ∧ r.2.mem ((c.tc : Thread Cert.OutEvenReferenceIdeal.nD Cert.OutEvenReferenceIdeal.τ).loc Cert.OutEvenReferenceIdeal.main_arg4) = m ((c.tc : Thread Cert.OutEvenReferenceIdeal.nD Cert.OutEvenReferenceIdeal.τ).loc Cert.OutEvenReferenceIdeal.main_arg4)
      ∧ r.2.mem ((c.tc : Thread Cert.OutEvenReferenceIdeal.nD Cert.OutEvenReferenceIdeal.τ).loc Cert.OutEvenReferenceIdeal.main_arg5) = m ((c.tc : Thread Cert.OutEvenReferenceIdeal.nD Cert.OutEvenReferenceIdeal.τ).loc Cert.OutEvenReferenceIdeal.main_arg5))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2))
      ∧ r.2.sem = fun _ => 0)

def quiescent_Finish [hFinish : Cert.Finish.Facts] : Prop :=
  ∀ (m : (ℓ : Loc Cert.Finish.nD Cert.Finish.τ Cert.Finish.sig) → Buf (Elt Bits) ℓ) (g : Dev Cert.Finish.nD → PrngReg), Pre_Finish m →
    θ_run (Cert.Finish.defs (F := Bits)) (onTc (τ := Cert.Finish.τ) (Cert.Finish.main (F := Bits))) ⟨m, fun _ => 0, g⟩ (fun r => (∀ c : Dev Cert.Finish.nD,
      r.2.mem ((c.tc : Thread Cert.Finish.nD Cert.Finish.τ).loc Cert.Finish.main_arg0) = m ((c.tc : Thread Cert.Finish.nD Cert.Finish.τ).loc Cert.Finish.main_arg0)
      ∧ r.2.mem ((c.tc : Thread Cert.Finish.nD Cert.Finish.τ).loc Cert.Finish.main_arg1) = m ((c.tc : Thread Cert.Finish.nD Cert.Finish.τ).loc Cert.Finish.main_arg1)
      ∧ r.2.mem ((c.tc : Thread Cert.Finish.nD Cert.Finish.τ).loc Cert.Finish.main_arg2) = m ((c.tc : Thread Cert.Finish.nD Cert.Finish.τ).loc Cert.Finish.main_arg2)
      ∧ r.2.mem ((c.tc : Thread Cert.Finish.nD Cert.Finish.τ).loc Cert.Finish.main_arg3) = m ((c.tc : Thread Cert.Finish.nD Cert.Finish.τ).loc Cert.Finish.main_arg3)
      ∧ r.2.mem ((c.tc : Thread Cert.Finish.nD Cert.Finish.τ).loc Cert.Finish.main_arg4) = m ((c.tc : Thread Cert.Finish.nD Cert.Finish.τ).loc Cert.Finish.main_arg4))
      ∧ r.2.sem = fun _ => 0)

def quiescent_FinishIdeal [hFinishIdeal : Cert.FinishIdeal.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
      ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
      ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4))
      ∧ r.2.sem = fun _ => 0)

def quiescent_FinishReferenceIdeal [hFinishReferenceIdeal : Cert.FinishReferenceIdeal.Facts] : Prop :=
  ∀ (m : (ℓ : Loc Cert.FinishReferenceIdeal.nD Cert.FinishReferenceIdeal.τ Cert.FinishReferenceIdeal.sig) → Buf (Elt Ideal) ℓ) (g : Dev Cert.FinishReferenceIdeal.nD → PrngReg), Pre_FinishReferenceIdeal m →
    θ_run (Cert.FinishReferenceIdeal.defs (F := Ideal)) (onTc (τ := Cert.FinishReferenceIdeal.τ) (Cert.FinishReferenceIdeal.main (F := Ideal))) ⟨m, fun _ => 0, g⟩ (fun r => (∀ c : Dev Cert.FinishReferenceIdeal.nD,
      r.2.mem ((c.tc : Thread Cert.FinishReferenceIdeal.nD Cert.FinishReferenceIdeal.τ).loc Cert.FinishReferenceIdeal.main_arg0) = m ((c.tc : Thread Cert.FinishReferenceIdeal.nD Cert.FinishReferenceIdeal.τ).loc Cert.FinishReferenceIdeal.main_arg0)
      ∧ r.2.mem ((c.tc : Thread Cert.FinishReferenceIdeal.nD Cert.FinishReferenceIdeal.τ).loc Cert.FinishReferenceIdeal.main_arg1) = m ((c.tc : Thread Cert.FinishReferenceIdeal.nD Cert.FinishReferenceIdeal.τ).loc Cert.FinishReferenceIdeal.main_arg1)
      ∧ r.2.mem ((c.tc : Thread Cert.FinishReferenceIdeal.nD Cert.FinishReferenceIdeal.τ).loc Cert.FinishReferenceIdeal.main_arg2) = m ((c.tc : Thread Cert.FinishReferenceIdeal.nD Cert.FinishReferenceIdeal.τ).loc Cert.FinishReferenceIdeal.main_arg2)
      ∧ r.2.mem ((c.tc : Thread Cert.FinishReferenceIdeal.nD Cert.FinishReferenceIdeal.τ).loc Cert.FinishReferenceIdeal.main_arg3) = m ((c.tc : Thread Cert.FinishReferenceIdeal.nD Cert.FinishReferenceIdeal.τ).loc Cert.FinishReferenceIdeal.main_arg3)
      ∧ r.2.mem ((c.tc : Thread Cert.FinishReferenceIdeal.nD Cert.FinishReferenceIdeal.τ).loc Cert.FinishReferenceIdeal.main_arg4) = m ((c.tc : Thread Cert.FinishReferenceIdeal.nD Cert.FinishReferenceIdeal.τ).loc Cert.FinishReferenceIdeal.main_arg4))
      ∧ r.2.sem = fun _ => 0)

def preserves_Kernel_KernelIdeal : Prop :=
  IdealRules.named_const.Statement Cert.KernelIdeal.κ "log2e_8" .f32 0x3E38AA3B#32 (((8 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)
      ∧ m' ((c.tc : Thread Cert.MlpReferenceIdeal.nD Cert.MlpReferenceIdeal.τ).loc Cert.MlpReferenceIdeal.main_arg6) = m ((c.tc : Thread Cert.MlpIdeal.nD Cert.MlpIdeal.τ).loc Cert.MlpIdeal.main_arg6)
      ∧ m' ((c.tc : Thread Cert.MlpReferenceIdeal.nD Cert.MlpReferenceIdeal.τ).loc Cert.MlpReferenceIdeal.main_arg7) = m ((c.tc : Thread Cert.MlpIdeal.nD Cert.MlpIdeal.τ).loc Cert.MlpIdeal.main_arg7)) →
    ∃ (v0 : (c : Dev Cert.MlpIdeal.nD) → Buf (Elt Ideal) ((c.tc : Thread Cert.MlpIdeal.nD Cert.MlpIdeal.τ).loc Cert.MlpIdeal.main_v2)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v2) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v60) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5)
          ∧ r.2.mem ((c.tc : Thread Cert.MlpReferenceIdeal.nD Cert.MlpReferenceIdeal.τ).loc Cert.MlpReferenceIdeal.main_arg6) = m' ((c.tc : Thread Cert.MlpReferenceIdeal.nD Cert.MlpReferenceIdeal.τ).loc Cert.MlpReferenceIdeal.main_arg6)
          ∧ r.2.mem ((c.tc : Thread Cert.MlpReferenceIdeal.nD Cert.MlpReferenceIdeal.τ).loc Cert.MlpReferenceIdeal.main_arg7) = m' ((c.tc : Thread Cert.MlpReferenceIdeal.nD Cert.MlpReferenceIdeal.τ).loc Cert.MlpReferenceIdeal.main_arg7))

def preserves_InEven_InEvenIdeal : Prop :=
  True

def algebraic_InEvenIdeal_InEvenReferenceIdeal [hInEvenIdeal : Cert.InEvenIdeal.Facts] [hInEvenReferenceIdeal : Cert.InEvenReferenceIdeal.Facts] : Prop :=
  ∀ (m : (ℓ : Loc Cert.InEvenIdeal.nD Cert.InEvenIdeal.τ Cert.InEvenIdeal.sig) → Buf (Elt Ideal) ℓ) (g : Dev Cert.InEvenIdeal.nD → PrngReg)
    (m' : (ℓ : Loc Cert.InEvenReferenceIdeal.nD Cert.InEvenReferenceIdeal.τ Cert.InEvenReferenceIdeal.sig) → Buf (Elt Ideal) ℓ) (g' : Dev Cert.InEvenReferenceIdeal.nD → PrngReg), Pre_InEvenIdeal m →
    (∀ c : Dev Cert.InEvenIdeal.nD,
      m' ((c.tc : Thread Cert.InEvenReferenceIdeal.nD Cert.InEvenReferenceIdeal.τ).loc Cert.InEvenReferenceIdeal.main_arg0) = m ((c.tc : Thread Cert.InEvenIdeal.nD Cert.InEvenIdeal.τ).loc Cert.InEvenIdeal.main_arg0)
      ∧ m' ((c.tc : Thread Cert.InEvenReferenceIdeal.nD Cert.InEvenReferenceIdeal.τ).loc Cert.InEvenReferenceIdeal.main_arg1) = m ((c.tc : Thread Cert.InEvenIdeal.nD Cert.InEvenIdeal.τ).loc Cert.InEvenIdeal.main_arg1)
      ∧ m' ((c.tc : Thread Cert.InEvenReferenceIdeal.nD Cert.InEvenReferenceIdeal.τ).loc Cert.InEvenReferenceIdeal.main_arg2) = m ((c.tc : Thread Cert.InEvenIdeal.nD Cert.InEvenIdeal.τ).loc Cert.InEvenIdeal.main_arg2)
      ∧ m' ((c.tc : Thread Cert.InEvenReferenceIdeal.nD Cert.InEvenReferenceIdeal.τ).loc Cert.InEvenReferenceIdeal.main_arg3) = m ((c.tc : Thread Cert.InEvenIdeal.nD Cert.InEvenIdeal.τ).loc Cert.InEvenIdeal.main_arg3)
      ∧ m' ((c.tc : Thread Cert.InEvenReferenceIdeal.nD Cert.InEvenReferenceIdeal.τ).loc Cert.InEvenReferenceIdeal.main_arg4) = m ((c.tc : Thread Cert.InEvenIdeal.nD Cert.InEvenIdeal.τ).loc Cert.InEvenIdeal.main_arg4)) →
    ∃ (v0 : (c : Dev Cert.InEvenIdeal.nD) → Buf (Elt Ideal) ((c.tc : Thread Cert.InEvenIdeal.nD Cert.InEvenIdeal.τ).loc Cert.InEvenIdeal.main_v1)),
      θ_run (Cert.InEvenIdeal.defs (F := Ideal)) (onTc (τ := Cert.InEvenIdeal.τ) (Cert.InEvenIdeal.main (F := Ideal))) ⟨m, fun _ => 0, g⟩ (fun r => ∀ c : Dev Cert.InEvenIdeal.nD,
          r.2.mem ((c.tc : Thread Cert.InEvenIdeal.nD Cert.InEvenIdeal.τ).loc Cert.InEvenIdeal.main_v1) = v0 c
          ∧ r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
          ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
          ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
          ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3)
          ∧ r.2.mem ((c.tc : Thread Cert.InEvenIdeal.nD Cert.InEvenIdeal.τ).loc Cert.InEvenIdeal.main_arg4) = m ((c.tc : Thread Cert.InEvenIdeal.nD Cert.InEvenIdeal.τ).loc Cert.InEvenIdeal.main_arg4))
      ∧ θ_run (Cert.InEvenReferenceIdeal.defs (F := Ideal)) (onTc (τ := Cert.InEvenReferenceIdeal.τ) (Cert.InEvenReferenceIdeal.main (F := Ideal))) ⟨m', fun _ => 0, g'⟩ (fun r => ∀ c : Dev Cert.InEvenReferenceIdeal.nD,
          r.2.mem ((c.tc : Thread Cert.InEvenReferenceIdeal.nD Cert.InEvenReferenceIdeal.τ).loc Cert.InEvenReferenceIdeal.main_v33) = v0 c
          ∧ r.2.mem ((c.tc : Thread Cert.InEvenReferenceIdeal.nD Cert.InEvenReferenceIdeal.τ).loc Cert.InEvenReferenceIdeal.main_arg0) = m' ((c.tc : Thread Cert.InEvenReferenceIdeal.nD Cert.InEvenReferenceIdeal.τ).loc Cert.InEvenReferenceIdeal.main_arg0)
          ∧ r.2.mem ((c.tc : Thread Cert.InEvenReferenceIdeal.nD Cert.InEvenReferenceIdeal.τ).loc Cert.InEvenReferenceIdeal.main_arg1) = m' ((c.tc : Thread Cert.InEvenReferenceIdeal.nD Cert.InEvenReferenceIdeal.τ).loc Cert.InEvenReferenceIdeal.main_arg1)
          ∧ r.2.mem ((c.tc : Thread Cert.InEvenReferenceIdeal.nD Cert.InEvenReferenceIdeal.τ).loc Cert.InEvenReferenceIdeal.main_arg2) = m' ((c.tc : Thread Cert.InEvenReferenceIdeal.nD Cert.InEvenReferenceIdeal.τ).loc Cert.InEvenReferenceIdeal.main_arg2)
          ∧ r.2.mem ((c.tc : Thread Cert.InEvenReferenceIdeal.nD Cert.InEvenReferenceIdeal.τ).loc Cert.InEvenReferenceIdeal.main_arg3) = m' ((c.tc : Thread Cert.InEvenReferenceIdeal.nD Cert.InEvenReferenceIdeal.τ).loc Cert.InEvenReferenceIdeal.main_arg3)
          ∧ r.2.mem ((c.tc : Thread Cert.InEvenReferenceIdeal.nD Cert.InEvenReferenceIdeal.τ).loc Cert.InEvenReferenceIdeal.main_arg4) = m' ((c.tc : Thread Cert.InEvenReferenceIdeal.nD Cert.InEvenReferenceIdeal.τ).loc Cert.InEvenReferenceIdeal.main_arg4))

def preserves_OutOdd_OutOddIdeal : Prop :=
  True

def algebraic_OutOddIdeal_OutOddReferenceIdeal [hOutOddIdeal : Cert.OutOddIdeal.Facts] [hOutOddReferenceIdeal : Cert.OutOddReferenceIdeal.Facts] : Prop :=
  ∀ (m : (ℓ : Loc Cert.OutOddIdeal.nD Cert.OutOddIdeal.τ Cert.OutOddIdeal.sig) → Buf (Elt Ideal) ℓ) (g : Dev Cert.OutOddIdeal.nD → PrngReg)
    (m' : (ℓ : Loc Cert.OutOddReferenceIdeal.nD Cert.OutOddReferenceIdeal.τ Cert.OutOddReferenceIdeal.sig) → Buf (Elt Ideal) ℓ) (g' : Dev Cert.OutOddReferenceIdeal.nD → PrngReg), Pre_OutOddIdeal m →
    (∀ c : Dev Cert.OutOddIdeal.nD,
      m' ((c.tc : Thread Cert.OutOddReferenceIdeal.nD Cert.OutOddReferenceIdeal.τ).loc Cert.OutOddReferenceIdeal.main_arg0) = m ((c.tc : Thread Cert.OutOddIdeal.nD Cert.OutOddIdeal.τ).loc Cert.OutOddIdeal.main_arg0)
      ∧ m' ((c.tc : Thread Cert.OutOddReferenceIdeal.nD Cert.OutOddReferenceIdeal.τ).loc Cert.OutOddReferenceIdeal.main_arg1) = m ((c.tc : Thread Cert.OutOddIdeal.nD Cert.OutOddIdeal.τ).loc Cert.OutOddIdeal.main_arg1)
      ∧ m' ((c.tc : Thread Cert.OutOddReferenceIdeal.nD Cert.OutOddReferenceIdeal.τ).loc Cert.OutOddReferenceIdeal.main_arg2) = m ((c.tc : Thread Cert.OutOddIdeal.nD Cert.OutOddIdeal.τ).loc Cert.OutOddIdeal.main_arg2)
      ∧ m' ((c.tc : Thread Cert.OutOddReferenceIdeal.nD Cert.OutOddReferenceIdeal.τ).loc Cert.OutOddReferenceIdeal.main_arg3) = m ((c.tc : Thread Cert.OutOddIdeal.nD Cert.OutOddIdeal.τ).loc Cert.OutOddIdeal.main_arg3)
      ∧ m' ((c.tc : Thread Cert.OutOddReferenceIdeal.nD Cert.OutOddReferenceIdeal.τ).loc Cert.OutOddReferenceIdeal.main_arg4) = m ((c.tc : Thread Cert.OutOddIdeal.nD Cert.OutOddIdeal.τ).loc Cert.OutOddIdeal.main_arg4)) →
    ∃ (v0 : (c : Dev Cert.OutOddIdeal.nD) → Buf (Elt Ideal) ((c.tc : Thread Cert.OutOddIdeal.nD Cert.OutOddIdeal.τ).loc Cert.OutOddIdeal.main_v1)),
      θ_run (Cert.OutOddIdeal.defs (F := Ideal)) (onTc (τ := Cert.OutOddIdeal.τ) (Cert.OutOddIdeal.main (F := Ideal))) ⟨m, fun _ => 0, g⟩ (fun r => ∀ c : Dev Cert.OutOddIdeal.nD,
          r.2.mem ((c.tc : Thread Cert.OutOddIdeal.nD Cert.OutOddIdeal.τ).loc Cert.OutOddIdeal.main_v1) = v0 c
          ∧ r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
          ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
          ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
          ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3)
          ∧ r.2.mem ((c.tc : Thread Cert.OutOddIdeal.nD Cert.OutOddIdeal.τ).loc Cert.OutOddIdeal.main_arg4) = m ((c.tc : Thread Cert.OutOddIdeal.nD Cert.OutOddIdeal.τ).loc Cert.OutOddIdeal.main_arg4))
      ∧ θ_run (Cert.OutOddReferenceIdeal.defs (F := Ideal)) (onTc (τ := Cert.OutOddReferenceIdeal.τ) (Cert.OutOddReferenceIdeal.main (F := Ideal))) ⟨m', fun _ => 0, g'⟩ (fun r => ∀ c : Dev Cert.OutOddReferenceIdeal.nD,
          r.2.mem ((c.tc : Thread Cert.OutOddReferenceIdeal.nD Cert.OutOddReferenceIdeal.τ).loc Cert.OutOddReferenceIdeal.main_v25) = v0 c
          ∧ r.2.mem ((c.tc : Thread Cert.OutOddReferenceIdeal.nD Cert.OutOddReferenceIdeal.τ).loc Cert.OutOddReferenceIdeal.main_arg0) = m' ((c.tc : Thread Cert.OutOddReferenceIdeal.nD Cert.OutOddReferenceIdeal.τ).loc Cert.OutOddReferenceIdeal.main_arg0)
          ∧ r.2.mem ((c.tc : Thread Cert.OutOddReferenceIdeal.nD Cert.OutOddReferenceIdeal.τ).loc Cert.OutOddReferenceIdeal.main_arg1) = m' ((c.tc : Thread Cert.OutOddReferenceIdeal.nD Cert.OutOddReferenceIdeal.τ).loc Cert.OutOddReferenceIdeal.main_arg1)
          ∧ r.2.mem ((c.tc : Thread Cert.OutOddReferenceIdeal.nD Cert.OutOddReferenceIdeal.τ).loc Cert.OutOddReferenceIdeal.main_arg2) = m' ((c.tc : Thread Cert.OutOddReferenceIdeal.nD Cert.OutOddReferenceIdeal.τ).loc Cert.OutOddReferenceIdeal.main_arg2)
          ∧ r.2.mem ((c.tc : Thread Cert.OutOddReferenceIdeal.nD Cert.OutOddReferenceIdeal.τ).loc Cert.OutOddReferenceIdeal.main_arg3) = m' ((c.tc : Thread Cert.OutOddReferenceIdeal.nD Cert.OutOddReferenceIdeal.τ).loc Cert.OutOddReferenceIdeal.main_arg3)
          ∧ r.2.mem ((c.tc : Thread Cert.OutOddReferenceIdeal.nD Cert.OutOddReferenceIdeal.τ).loc Cert.OutOddReferenceIdeal.main_arg4) = m' ((c.tc : Thread Cert.OutOddReferenceIdeal.nD Cert.OutOddReferenceIdeal.τ).loc Cert.OutOddReferenceIdeal.main_arg4))

def preserves_OutEven_OutEvenIdeal : Prop :=
  True

def algebraic_OutEvenIdeal_OutEvenReferenceIdeal [hOutEvenIdeal : Cert.OutEvenIdeal.Facts] [hOutEvenReferenceIdeal : Cert.OutEvenReferenceIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg)
    (m' : (ℓ : Loc Cert.OutEvenReferenceIdeal.nD Cert.OutEvenReferenceIdeal.τ Cert.OutEvenReferenceIdeal.sig) → Buf (Elt Ideal) ℓ) (g' : Dev Cert.OutEvenReferenceIdeal.nD → PrngReg), Pre_OutEvenIdeal m →
    (∀ c : Dev Cert.OutEvenIdeal.nD,
      m' ((c.tc : Thread Cert.OutEvenReferenceIdeal.nD Cert.OutEvenReferenceIdeal.τ).loc Cert.OutEvenReferenceIdeal.main_arg0) = m ((c.tc : Thread Cert.OutEvenIdeal.nD Cert.OutEvenIdeal.τ).loc Cert.OutEvenIdeal.main_arg0)
      ∧ m' ((c.tc : Thread Cert.OutEvenReferenceIdeal.nD Cert.OutEvenReferenceIdeal.τ).loc Cert.OutEvenReferenceIdeal.main_arg1) = m ((c.tc : Thread Cert.OutEvenIdeal.nD Cert.OutEvenIdeal.τ).loc Cert.OutEvenIdeal.main_arg1)
      ∧ m' ((c.tc : Thread Cert.OutEvenReferenceIdeal.nD Cert.OutEvenReferenceIdeal.τ).loc Cert.OutEvenReferenceIdeal.main_arg2) = m ((c.tc : Thread Cert.OutEvenIdeal.nD Cert.OutEvenIdeal.τ).loc Cert.OutEvenIdeal.main_arg2)
      ∧ m' ((c.tc : Thread Cert.OutEvenReferenceIdeal.nD Cert.OutEvenReferenceIdeal.τ).loc Cert.OutEvenReferenceIdeal.main_arg3) = m ((c.tc : Thread Cert.OutEvenIdeal.nD Cert.OutEvenIdeal.τ).loc Cert.OutEvenIdeal.main_arg3)
      ∧ m' ((c.tc : Thread Cert.OutEvenReferenceIdeal.nD Cert.OutEvenReferenceIdeal.τ).loc Cert.OutEvenReferenceIdeal.main_arg4) = m ((c.tc : Thread Cert.OutEvenIdeal.nD Cert.OutEvenIdeal.τ).loc Cert.OutEvenIdeal.main_arg4)
      ∧ m' ((c.tc : Thread Cert.OutEvenReferenceIdeal.nD Cert.OutEvenReferenceIdeal.τ).loc Cert.OutEvenReferenceIdeal.main_arg5) = m ((c.tc : Thread Cert.OutEvenIdeal.nD Cert.OutEvenIdeal.τ).loc Cert.OutEvenIdeal.main_arg5)) →
    ∃ (v0 : (c : Dev Cert.OutEvenIdeal.nD) → Buf (Elt Ideal) ((c.tc : Thread Cert.OutEvenIdeal.nD Cert.OutEvenIdeal.τ).loc Cert.OutEvenIdeal.main_v1)),
      θ_run (Cert.OutEvenIdeal.defs (F := Ideal)) (onTc (τ := Cert.OutEvenIdeal.τ) (Cert.OutEvenIdeal.main (F := Ideal))) ⟨m, fun _ => 0, g⟩ (fun r => ∀ c : Dev Cert.OutEvenIdeal.nD,
          r.2.mem ((c.tc : Thread Cert.OutEvenIdeal.nD Cert.OutEvenIdeal.τ).loc Cert.OutEvenIdeal.main_v1) = v0 c
          ∧ r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
          ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
          ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
          ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
          ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4)
          ∧ r.2.mem ((c.tc : Thread Cert.OutEvenIdeal.nD Cert.OutEvenIdeal.τ).loc Cert.OutEvenIdeal.main_arg5) = m ((c.tc : Thread Cert.OutEvenIdeal.nD Cert.OutEvenIdeal.τ).loc Cert.OutEvenIdeal.main_arg5))
      ∧ θ_run (Cert.OutEvenReferenceIdeal.defs (F := Ideal)) (onTc (τ := Cert.OutEvenReferenceIdeal.τ) (Cert.OutEvenReferenceIdeal.main (F := Ideal))) ⟨m', fun _ => 0, g'⟩ (fun r => ∀ c : Dev Cert.OutEvenReferenceIdeal.nD,
          r.2.mem ((c.tc : Thread Cert.OutEvenReferenceIdeal.nD Cert.OutEvenReferenceIdeal.τ).loc Cert.OutEvenReferenceIdeal.main_v26) = v0 c
          ∧ r.2.mem ((c.tc : Thread Cert.OutEvenReferenceIdeal.nD Cert.OutEvenReferenceIdeal.τ).loc Cert.OutEvenReferenceIdeal.main_arg0) = m' ((c.tc : Thread Cert.OutEvenReferenceIdeal.nD Cert.OutEvenReferenceIdeal.τ).loc Cert.OutEvenReferenceIdeal.main_arg0)
          ∧ r.2.mem ((c.tc : Thread Cert.OutEvenReferenceIdeal.nD Cert.OutEvenReferenceIdeal.τ).loc Cert.OutEvenReferenceIdeal.main_arg1) = m' ((c.tc : Thread Cert.OutEvenReferenceIdeal.nD Cert.OutEvenReferenceIdeal.τ).loc Cert.OutEvenReferenceIdeal.main_arg1)
          ∧ r.2.mem ((c.tc : Thread Cert.OutEvenReferenceIdeal.nD Cert.OutEvenReferenceIdeal.τ).loc Cert.OutEvenReferenceIdeal.main_arg2) = m' ((c.tc : Thread Cert.OutEvenReferenceIdeal.nD Cert.OutEvenReferenceIdeal.τ).loc Cert.OutEvenReferenceIdeal.main_arg2)
          ∧ r.2.mem ((c.tc : Thread Cert.OutEvenReferenceIdeal.nD Cert.OutEvenReferenceIdeal.τ).loc Cert.OutEvenReferenceIdeal.main_arg3) = m' ((c.tc : Thread Cert.OutEvenReferenceIdeal.nD Cert.OutEvenReferenceIdeal.τ).loc Cert.OutEvenReferenceIdeal.main_arg3)
          ∧ r.2.mem ((c.tc : Thread Cert.OutEvenReferenceIdeal.nD Cert.OutEvenReferenceIdeal.τ).loc Cert.OutEvenReferenceIdeal.main_arg4) = m' ((c.tc : Thread Cert.OutEvenReferenceIdeal.nD Cert.OutEvenReferenceIdeal.τ).loc Cert.OutEvenReferenceIdeal.main_arg4)
          ∧ r.2.mem ((c.tc : Thread Cert.OutEvenReferenceIdeal.nD Cert.OutEvenReferenceIdeal.τ).loc Cert.OutEvenReferenceIdeal.main_arg5) = m' ((c.tc : Thread Cert.OutEvenReferenceIdeal.nD Cert.OutEvenReferenceIdeal.τ).loc Cert.OutEvenReferenceIdeal.main_arg5))

def preserves_Glu_GluIdeal : Prop :=
  True

def algebraic_GluIdeal_GluReferenceIdeal [hGluIdeal : Cert.GluIdeal.Facts] [hGluReferenceIdeal : Cert.GluReferenceIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluIdeal m →
    (∀ c : Dev Cert.GluIdeal.nD,
      m' ((c.tc : Thread Cert.GluReferenceIdeal.nD Cert.GluReferenceIdeal.τ).loc Cert.GluReferenceIdeal.main_arg0) = m ((c.tc : Thread Cert.GluIdeal.nD Cert.GluIdeal.τ).loc Cert.GluIdeal.main_arg0)
      ∧ m' ((c.tc : Thread Cert.GluReferenceIdeal.nD Cert.GluReferenceIdeal.τ).loc Cert.GluReferenceIdeal.main_arg1) = m ((c.tc : Thread Cert.GluIdeal.nD Cert.GluIdeal.τ).loc Cert.GluIdeal.main_arg1)
      ∧ m' ((c.tc : Thread Cert.GluReferenceIdeal.nD Cert.GluReferenceIdeal.τ).loc Cert.GluReferenceIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v2)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v2) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v24) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2))

def preserves_Finish_FinishIdeal : Prop :=
  True

def algebraic_FinishIdeal_FinishReferenceIdeal [hFinishIdeal : Cert.FinishIdeal.Facts] [hFinishReferenceIdeal : Cert.FinishReferenceIdeal.Facts] : Prop :=
  ∀ (m : (ℓ : Loc Cert.FinishIdeal.nD Cert.FinishIdeal.τ Cert.FinishIdeal.sig) → Buf (Elt Ideal) ℓ) (g : Dev Cert.FinishIdeal.nD → PrngReg)
    (m' : (ℓ : Loc Cert.FinishReferenceIdeal.nD Cert.FinishReferenceIdeal.τ Cert.FinishReferenceIdeal.sig) → Buf (Elt Ideal) ℓ) (g' : Dev Cert.FinishReferenceIdeal.nD → PrngReg), Pre_FinishIdeal m →
    (∀ c : Dev Cert.FinishIdeal.nD,
      m' ((c.tc : Thread Cert.FinishReferenceIdeal.nD Cert.FinishReferenceIdeal.τ).loc Cert.FinishReferenceIdeal.main_arg0) = m ((c.tc : Thread Cert.FinishIdeal.nD Cert.FinishIdeal.τ).loc Cert.FinishIdeal.main_arg0)
      ∧ m' ((c.tc : Thread Cert.FinishReferenceIdeal.nD Cert.FinishReferenceIdeal.τ).loc Cert.FinishReferenceIdeal.main_arg1) = m ((c.tc : Thread Cert.FinishIdeal.nD Cert.FinishIdeal.τ).loc Cert.FinishIdeal.main_arg1)
      ∧ m' ((c.tc : Thread Cert.FinishReferenceIdeal.nD Cert.FinishReferenceIdeal.τ).loc Cert.FinishReferenceIdeal.main_arg2) = m ((c.tc : Thread Cert.FinishIdeal.nD Cert.FinishIdeal.τ).loc Cert.FinishIdeal.main_arg2)
      ∧ m' ((c.tc : Thread Cert.FinishReferenceIdeal.nD Cert.FinishReferenceIdeal.τ).loc Cert.FinishReferenceIdeal.main_arg3) = m ((c.tc : Thread Cert.FinishIdeal.nD Cert.FinishIdeal.τ).loc Cert.FinishIdeal.main_arg3)
      ∧ m' ((c.tc : Thread Cert.FinishReferenceIdeal.nD Cert.FinishReferenceIdeal.τ).loc Cert.FinishReferenceIdeal.main_arg4) = m ((c.tc : Thread Cert.FinishIdeal.nD Cert.FinishIdeal.τ).loc Cert.FinishIdeal.main_arg4)) →
    ∃ (v0 : (c : Dev Cert.FinishIdeal.nD) → Buf (Elt Ideal) ((c.tc : Thread Cert.FinishIdeal.nD Cert.FinishIdeal.τ).loc Cert.FinishIdeal.main_v4)),
      θ_run (Cert.FinishIdeal.defs (F := Ideal)) (onTc (τ := Cert.FinishIdeal.τ) (Cert.FinishIdeal.main (F := Ideal))) ⟨m, fun _ => 0, g⟩ (fun r => ∀ c : Dev Cert.FinishIdeal.nD,
          r.2.mem ((c.tc : Thread Cert.FinishIdeal.nD Cert.FinishIdeal.τ).loc Cert.FinishIdeal.main_v4) = v0 c
          ∧ r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
          ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
          ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
          ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
          ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4))
      ∧ θ_run (Cert.FinishReferenceIdeal.defs (F := Ideal)) (onTc (τ := Cert.FinishReferenceIdeal.τ) (Cert.FinishReferenceIdeal.main (F := Ideal))) ⟨m', fun _ => 0, g'⟩ (fun r => ∀ c : Dev Cert.FinishReferenceIdeal.nD,
          r.2.mem ((c.tc : Thread Cert.FinishReferenceIdeal.nD Cert.FinishReferenceIdeal.τ).loc Cert.FinishReferenceIdeal.main_v29) = v0 c
          ∧ r.2.mem ((c.tc : Thread Cert.FinishReferenceIdeal.nD Cert.FinishReferenceIdeal.τ).loc Cert.FinishReferenceIdeal.main_arg0) = m' ((c.tc : Thread Cert.FinishReferenceIdeal.nD Cert.FinishReferenceIdeal.τ).loc Cert.FinishReferenceIdeal.main_arg0)
          ∧ r.2.mem ((c.tc : Thread Cert.FinishReferenceIdeal.nD Cert.FinishReferenceIdeal.τ).loc Cert.FinishReferenceIdeal.main_arg1) = m' ((c.tc : Thread Cert.FinishReferenceIdeal.nD Cert.FinishReferenceIdeal.τ).loc Cert.FinishReferenceIdeal.main_arg1)
          ∧ r.2.mem ((c.tc : Thread Cert.FinishReferenceIdeal.nD Cert.FinishReferenceIdeal.τ).loc Cert.FinishReferenceIdeal.main_arg2) = m' ((c.tc : Thread Cert.FinishReferenceIdeal.nD Cert.FinishReferenceIdeal.τ).loc Cert.FinishReferenceIdeal.main_arg2)
          ∧ r.2.mem ((c.tc : Thread Cert.FinishReferenceIdeal.nD Cert.FinishReferenceIdeal.τ).loc Cert.FinishReferenceIdeal.main_arg3) = m' ((c.tc : Thread Cert.FinishReferenceIdeal.nD Cert.FinishReferenceIdeal.τ).loc Cert.FinishReferenceIdeal.main_arg3)
          ∧ r.2.mem ((c.tc : Thread Cert.FinishReferenceIdeal.nD Cert.FinishReferenceIdeal.τ).loc Cert.FinishReferenceIdeal.main_arg4) = m' ((c.tc : Thread Cert.FinishReferenceIdeal.nD Cert.FinishReferenceIdeal.τ).loc Cert.FinishReferenceIdeal.main_arg4))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hInEven : Cert.InEven.Facts) (hInEvenIdeal : Cert.InEvenIdeal.Facts) (hInEvenReferenceIdeal : Cert.InEvenReferenceIdeal.Facts) (hOutOdd : Cert.OutOdd.Facts) (hOutOddIdeal : Cert.OutOddIdeal.Facts) (hOutOddReferenceIdeal : Cert.OutOddReferenceIdeal.Facts) (hOutEven : Cert.OutEven.Facts) (hOutEvenIdeal : Cert.OutEvenIdeal.Facts) (hOutEvenReferenceIdeal : Cert.OutEvenReferenceIdeal.Facts) (hGlu : Cert.Glu.Facts) (hGluIdeal : Cert.GluIdeal.Facts) (hGluReferenceIdeal : Cert.GluReferenceIdeal.Facts) (hFinish : Cert.Finish.Facts) (hFinishIdeal : Cert.FinishIdeal.Facts) (hFinishReferenceIdeal : Cert.FinishReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mlp (hMlp := hMlp)
    ∧ quiescent_MlpIdeal (hMlpIdeal := hMlpIdeal)
    ∧ quiescent_MlpReferenceIdeal (hMlpReferenceIdeal := hMlpReferenceIdeal)
    ∧ quiescent_InEven (hInEven := hInEven)
    ∧ quiescent_InEvenIdeal (hInEvenIdeal := hInEvenIdeal)
    ∧ quiescent_InEvenReferenceIdeal (hInEvenReferenceIdeal := hInEvenReferenceIdeal)
    ∧ quiescent_OutOdd (hOutOdd := hOutOdd)
    ∧ quiescent_OutOddIdeal (hOutOddIdeal := hOutOddIdeal)
    ∧ quiescent_OutOddReferenceIdeal (hOutOddReferenceIdeal := hOutOddReferenceIdeal)
    ∧ quiescent_OutEven (hOutEven := hOutEven)
    ∧ quiescent_OutEvenIdeal (hOutEvenIdeal := hOutEvenIdeal)
    ∧ quiescent_OutEvenReferenceIdeal (hOutEvenReferenceIdeal := hOutEvenReferenceIdeal)
    ∧ quiescent_Glu (hGlu := hGlu)
    ∧ quiescent_GluIdeal (hGluIdeal := hGluIdeal)
    ∧ quiescent_GluReferenceIdeal (hGluReferenceIdeal := hGluReferenceIdeal)
    ∧ quiescent_Finish (hFinish := hFinish)
    ∧ quiescent_FinishIdeal (hFinishIdeal := hFinishIdeal)
    ∧ quiescent_FinishReferenceIdeal (hFinishReferenceIdeal := hFinishReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mlp_MlpIdeal
    ∧ algebraic_MlpIdeal_MlpReferenceIdeal (hMlpIdeal := hMlpIdeal) (hMlpReferenceIdeal := hMlpReferenceIdeal)
    ∧ preserves_InEven_InEvenIdeal
    ∧ algebraic_InEvenIdeal_InEvenReferenceIdeal (hInEvenIdeal := hInEvenIdeal) (hInEvenReferenceIdeal := hInEvenReferenceIdeal)
    ∧ preserves_OutOdd_OutOddIdeal
    ∧ algebraic_OutOddIdeal_OutOddReferenceIdeal (hOutOddIdeal := hOutOddIdeal) (hOutOddReferenceIdeal := hOutOddReferenceIdeal)
    ∧ preserves_OutEven_OutEvenIdeal
    ∧ algebraic_OutEvenIdeal_OutEvenReferenceIdeal (hOutEvenIdeal := hOutEvenIdeal) (hOutEvenReferenceIdeal := hOutEvenReferenceIdeal)
    ∧ preserves_Glu_GluIdeal
    ∧ algebraic_GluIdeal_GluReferenceIdeal (hGluIdeal := hGluIdeal) (hGluReferenceIdeal := hGluReferenceIdeal)
    ∧ preserves_Finish_FinishIdeal
    ∧ algebraic_FinishIdeal_FinishReferenceIdeal (hFinishIdeal := hFinishIdeal) (hFinishReferenceIdeal := hFinishReferenceIdeal)
-- ==== Pre_finite.lean ====
abbrev S8448x4096 : Shape := ⟨2, ![8448, 4096]⟩
abbrev S8192x64 : Shape := ⟨2, ![8192, 64]⟩
abbrev S4x64 : Shape := ⟨2, ![4, 64]⟩
abbrev S128 : Shape := ⟨1, ![128]⟩
abbrev S_ : Shape := ⟨0, ![]⟩
abbrev S8448x1024 : Shape := ⟨2, ![8448, 1024]⟩

class Facts : Prop where
  slices_S8448x4096_S8448x1024_0_2048 : S8448x4096.Slices ![0, 2048] S8448x1024
  bcast_S_S8448x1024 : S_.BroadcastsInDim S8448x1024 (![] : Fin 0 → Fin S8448x1024.rank)
  reducesTo_S8448x1024_S_d0_1 : S8448x1024.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S8448x4096 .f32) (main_arg1 : FVec F S8192x64 .f32) (main_arg2 : FVec F S8192x64 .f32) (main_arg3 : FVec F S4x64 .f32) (main_arg4 : FVec F S128 .f32) (main_arg5 : FVec F S_ .f32) : IVec S_ 1 :=
  let main_v0 : FVec F S8448x1024 .f32 := (extractStridedSlice S8448x1024 ![0, 2048] · slices_S8448x4096_S8448x1024_0_2048) main_arg0
  let main_v1 : FVec F S8448x1024 .f32 := Host.absf main_v0
  let main_cst : FVec F S_ .f32 := constant S_ .f32 0x7F800000#32
  let main_v2 : FVec F S8448x1024 .f32 := broadcastInDim S8448x1024 ![] bcast_S_S8448x1024 main_cst
  let main_v3 : IVec S8448x1024 1 := cmpf .olt main_v1 main_v2
  let main_c : IVec S_ 1 := constantI S_ 1 1#1
  let main_v4 : IVec S_ 1 := (fun x v => Host.reduce IntOp.andi x v reducesTo_S8448x1024_S_d0_1 h_S_) main_v3 main_c
  let main_v5 : FVec F S4x64 .f32 := Host.absf main_arg3
  let main_cst_0 : FVec F S_ .f32 := constant S_ .f32 0x7F800000#32
  let main_v6 : FVec F S4x64 .f32 := broadcastInDim S4x64 ![] bcast_S_S4x64 main_cst_0
  let main_v7 : IVec S4x64 1 := cmpf .olt main_v5 main_v6
  let main_c_1 : IVec S_ 1 := constantI S_ 1 1#1
  let main_v8 : IVec S_ 1 := (fun x v => Host.reduce IntOp.andi x v reducesTo_S4x64_S_d0_1 h_S_) main_v7 main_c_1
  let main_v9 : IVec S_ 1 := andi main_v4 main_v8
  let main_v10 : FVec F S_ .f32 := Host.absf main_arg5
  let main_cst_2 : FVec F S_ .f32 := constant S_ .f32 0x7F800000#32
  let main_v11 : IVec S_ 1 := cmpf .olt main_v10 main_cst_2
  let main_v12 : IVec S_ 1 := andi main_v9 main_v11
  main_v12
-- ==== Kernel.lean ====
abbrev S8448x4096 : Shape := ⟨2, ![8448, 4096]⟩
abbrev S8192x64 : Shape := ⟨2, ![8192, 64]⟩
abbrev S4x64 : Shape := ⟨2, ![4, 64]⟩
abbrev S128 : Shape := ⟨1, ![128]⟩
abbrev S_ : Shape := ⟨0, ![]⟩
abbrev S256x64 : Shape := ⟨2, ![256, 64]⟩
abbrev S8448x64 : Shape := ⟨2, ![8448, 64]⟩
abbrev S64 : Shape := ⟨1, ![64]⟩
abbrev S1x64 : Shape := ⟨2, ![1, 64]⟩
abbrev S1x8448x1x64 : Shape := ⟨4, ![1, 8448, 1, 64]⟩
abbrev S1x8448x2x64 : Shape := ⟨4, ![1, 8448, 2, 64]⟩
abbrev S8448x128 : Shape := ⟨2, ![8448, 128]⟩
abbrev S8448x1024 : Shape := ⟨2, ![8448, 1024]⟩
abbrev S8x144x8448 : Shape := ⟨3, ![8, 144, 8448]⟩
abbrev S256x3072 : Shape := ⟨2, ![256, 3072]⟩
abbrev S256x128 : Shape := ⟨2, ![256, 128]⟩
abbrev S256x1024 : Shape := ⟨2, ![256, 1024]⟩
abbrev S8x144x256 : Shape := ⟨3, ![8, 144, 256]⟩
abbrev S1x128 : Shape := ⟨2, ![1, 128]⟩
abbrev S128x256 : Shape := ⟨2, ![128, 256]⟩
abbrev S1x128x256 : Shape := ⟨3, ![1, 128, 256]⟩
abbrev S16x256 : Shape := ⟨2, ![16, 256]⟩
abbrev S1x16x256 : Shape := ⟨3, ![1, 16, 256]⟩
abbrev S1x1 : Shape := ⟨2, ![1, 1]⟩
abbrev S128x1 : Shape := ⟨2, ![128, 1]⟩
abbrev S8192x1024 : Shape := ⟨2, ![8192, 1024]⟩
abbrev S2x144x8448 : Shape := ⟨3, ![2, 144, 8448]⟩
abbrev S256x256 : Shape := ⟨2, ![256, 256]⟩
abbrev S2x144x256 : Shape := ⟨3, ![2, 144, 256]⟩
abbrev S2x2x768x256 : Shape := ⟨4, ![2, 2, 768, 256]⟩
abbrev S1x256 : Shape := ⟨2, ![1, 256]⟩
abbrev S768x128 : Shape := ⟨2, ![768, 128]⟩
abbrev S768x256 : Shape := ⟨2, ![768, 256]⟩
abbrev S1x1x768x256 : Shape := ⟨4, ![1, 1, 768, 256]⟩
abbrev S1x144x768 : Shape := ⟨3, ![1, 144, 768]⟩
abbrev S144x768 : Shape := ⟨2, ![144, 768]⟩
abbrev S256 : Shape := ⟨1, ![256]⟩
abbrev S1x144x256 : Shape := ⟨3, ![1, 144, 256]⟩
abbrev S144x256 : Shape := ⟨2, ![144, 256]⟩
abbrev S1x1x256 : Shape := ⟨3, ![1, 1, 256]⟩

abbrev nBuf : Space → Nat
  | .hbm => 81
  | .vmem => 27
  | .smem => 1
  | _ => 0

abbrev bufTy : (tb : Table) → Fin (tcTables nBuf tb) → BufTy
  | .hbm, ⟨0, _⟩ => ⟨S8448x4096, .f32⟩
  | .hbm, ⟨1, _⟩ => ⟨S8192x64, .f32⟩
  | .hbm, ⟨2, _⟩ => ⟨S8192x64, .f32⟩
  | .hbm, ⟨3, _⟩ => ⟨S4x64, .f32⟩
  | .hbm, ⟨4, _⟩ => ⟨S128, .f32⟩
  | .hbm, ⟨5, _⟩ => ⟨S_, .f32⟩
  | .hbm, ⟨6, _⟩ => ⟨S_, .f32⟩
  | .hbm, ⟨7, _⟩ => ⟨S256x64, .f32⟩
  | .hbm, ⟨8, _⟩ => ⟨S8448x64, .f32⟩
  | .hbm, ⟨9, _⟩ => ⟨S_, .f32⟩
  | .hbm, ⟨10, _⟩ => ⟨S256x64, .f32⟩
  | .hbm, ⟨11, _⟩ => ⟨S8448x64, .f32⟩
  | .hbm, ⟨12, _⟩ => ⟨S64, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S64, .i32⟩
  | .hbm, ⟨20, _⟩ => ⟨S64, .i32⟩
  | .hbm, ⟨21, _⟩ => ⟨S_, .i32⟩
  | .hbm, ⟨22, _⟩ => ⟨S64, .i32⟩
  | .hbm, ⟨23, _⟩ => ⟨S64, .i1⟩
  | .hbm, ⟨24, _⟩ => ⟨S_, .i32⟩
  | .hbm, ⟨25, _⟩ => ⟨S64, .i32⟩
  | .hbm, ⟨26, _⟩ => ⟨S64, .i1⟩
  | .hbm, ⟨27, _⟩ => ⟨S_, .i32⟩
  | .hbm, ⟨28, _⟩ => ⟨S_, .i1⟩
  | .hbm, ⟨29, _⟩ => ⟨S64, .i1⟩
  | .hbm, ⟨30, _⟩ => ⟨S64, .i1⟩
  | .hbm, ⟨31, _⟩ => ⟨S64, .i1⟩
  | .hbm, ⟨32, _⟩ => ⟨S64, .i32⟩
  | .hbm, ⟨33, _⟩ => ⟨S64, .i32⟩
  | .hbm, ⟨34, _⟩ => ⟨S64, .i32⟩
  | .hbm, ⟨35, _⟩ => ⟨S_, .i32⟩
  | .hbm, ⟨36, _⟩ => ⟨S64, .i32⟩
  | .hbm, ⟨37, _⟩ => ⟨S64, .i1⟩
  | .hbm, ⟨38, _⟩ => ⟨S_, .f32⟩
  | .hbm, ⟨39, _⟩ => ⟨S_, .f32⟩
  | .hbm, ⟨40, _⟩ => ⟨S64, .f32⟩
  | .hbm, ⟨41, _⟩ => ⟨S64, .f32⟩
  | .hbm, ⟨42, _⟩ => ⟨S64, .f32⟩
  | .hbm, ⟨43, _⟩ => ⟨S64, .f32⟩
  | .hbm, ⟨44, _⟩ => ⟨S1x64, .f32⟩
  | .hbm, ⟨45, _⟩ => ⟨S8448x64, .f32⟩
  | .hbm, ⟨46, _⟩ => ⟨S8448x64, .f32⟩
  | .hbm, ⟨47, _⟩ => ⟨S1x8448x1x64, .f32⟩
  | .hbm, ⟨48, _⟩ => ⟨S1x8448x2x64, .f32⟩
  | .hbm, ⟨49, _⟩ => ⟨S8448x128, .f32⟩
  | .hbm, ⟨50, _⟩ => ⟨S1x8448x1x64, .f32⟩
  | .hbm, ⟨51, _⟩ => ⟨S1x8448x2x64, .f32⟩
  | .hbm, ⟨52, _⟩ => ⟨S8448x128, .f32⟩
  | .hbm, ⟨53, _⟩ => ⟨S8448x1024, .bf16⟩
  | .hbm, ⟨54, _⟩ => ⟨S8448x1024, .bf16⟩
  | .hbm, ⟨55, _⟩ => ⟨S8x144x8448, .bf16⟩
  | .hbm, ⟨56, _⟩ => ⟨S1x64, .f32⟩
  | .hbm, ⟨57, _⟩ => ⟨S64, .f32⟩
  | .hbm, ⟨58, _⟩ => ⟨S1x64, .f32⟩
  | .hbm, ⟨59, _⟩ => ⟨S64, .f32⟩
  | .hbm, ⟨60, _⟩ => ⟨S64, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S1x64, .f32⟩
  | .hbm, ⟨65, _⟩ => ⟨S64, .f32⟩
  | .hbm, ⟨66, _⟩ => ⟨S1x64, .f32⟩
  | .hbm, ⟨67, _⟩ => ⟨S64, .f32⟩
  | .hbm, ⟨68, _⟩ => ⟨S64, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S1x1, .f32⟩
  | .hbm, ⟨75, _⟩ => ⟨S_, .f32⟩
  | .hbm, ⟨76, _⟩ => ⟨S_, .f32⟩
  | .hbm, ⟨77, _⟩ => ⟨S128, .f32⟩
  | .hbm, ⟨78, _⟩ => ⟨S128, .f32⟩
  | .hbm, ⟨79, _⟩ => ⟨S128x1, .f32⟩
  | .hbm, ⟨80, _⟩ => ⟨S8192x1024, .bf16⟩
  | .local _ .vmem, ⟨0, _⟩ => ⟨S256x3072, .f32⟩
  | .local _ .vmem, ⟨1, _⟩ => ⟨S256x3072, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S8x144x256, .bf16⟩
  | .local _ .vmem, ⟨11, _⟩ => ⟨S8x144x256, .bf16⟩
  | .local _ .vmem, ⟨12, _⟩ => ⟨S256x128, .bf16⟩
  | .local _ .vmem, ⟨13, _⟩ => ⟨S256x128, .bf16⟩
  | .local _ .vmem, ⟨14, _⟩ => ⟨S256x128, .bf16⟩
  | .local _ .vmem, ⟨15, _⟩ => ⟨S256x128, .bf16⟩
  | .local _ .vmem, ⟨16, _⟩ => ⟨S8448x128, .bf16⟩
  | .local _ .vmem, ⟨17, _⟩ => ⟨S8448x128, .bf16⟩
  | .local _ .vmem, ⟨18, _⟩ => ⟨S8448x128, .bf16⟩
  | .local _ .vmem, ⟨19, _⟩ => ⟨S8448x128, .bf16⟩
  | .local _ .vmem, ⟨20, _⟩ => ⟨S2x144x8448, .bf16⟩
  | .local _ .vmem, ⟨21, _⟩ => ⟨S2x144x8448, .bf16⟩
  | .local _ .vmem, ⟨22, _⟩ => ⟨S128x1, .f32⟩
  | .local _ .vmem, ⟨23, _⟩ => ⟨S256x256, .bf16⟩
  | .local _ .vmem, ⟨24, _⟩ => ⟨S256x256, .bf16⟩
  | .local _ .vmem, ⟨25, _⟩ => ⟨S2x144x256, .f32⟩
  | .local _ .vmem, ⟨26, _⟩ => ⟨S2x2x768x256, .f32⟩
  | .local _ .smem, ⟨0, _⟩ => ⟨S1x1, .f32⟩
  | _, _ => ⟨S8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v5 : Ref sig .tc := ⟨.hbm, 34, rfl⟩
abbrev main_c_1 : Ref sig .tc := ⟨.hbm, 35, rfl⟩
abbrev main_v6 : Ref sig .tc := ⟨.hbm, 36, rfl⟩
abbrev main_v7 : Ref sig .tc := ⟨.hbm, 37, rfl⟩
abbrev main_cst_2 : Ref sig .tc := ⟨.hbm, 38, rfl⟩
abbrev main_cst_3 : Ref sig .tc := ⟨.hbm, 39, rfl⟩
abbrev main_call1_v0 : Ref sig .tc := ⟨.hbm, 40, rfl⟩
abbrev main_call1_v1 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19_0 : Ref sig .tc := ⟨.hbm, 53, rfl⟩
abbrev main_v19_1 : Ref sig .tc := ⟨.hbm, 54, rfl⟩
abbrev main_v19_2 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_cst_4 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst_5 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_6 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc1_scratch0 : Ref sig .tc := ⟨.vmem, 25, rfl⟩
abbrev cc1_scratch1 : Ref sig .tc := ⟨.vmem, 26, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22
abbrev cc1_sem6_0 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x144x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 32], ![false, false]⟩

@[reducible] def k1_t1_loop : Scf.Loop 32 :=
  let c0_i32_30 : BitVec 32 := 0#32
  let c5_i32 : BitVec 32 := 5#32
  let v59 : BitVec 32 := Scalar.addi c0_i32_30 c5_i32
  let c1_i32_31 : BitVec 32 := 1#32
  ⟨c0_i32_30, v59, c1_i32_31⟩
def k1_mult1 (k1_t1 : Fin k1_t1_loop.trips) : BitVec 32 :=
  let c2_i32 : BitVec 32 := 2#32
  let c0_i32_30 : BitVec 32 := 0#32
  let c1_i32_31 : BitVec 32 := 1#32
  let arg12 : BitVec 32 := Scf.iv c0_i32_30 c1_i32_31 k1_t1
  let v244 : BitVec 32 := Scalar.muli c2_i32 arg12
  let c1_i32_154 : BitVec 32 := 1#32
  let v245 : BitVec 32 := Scalar.addi v244 c1_i32_154
  let c768_i32 : BitVec 32 := 768#32
  let v246 : BitVec 32 := Scalar.muli v245 c768_i32
  v246
def k1_off1 (k1_t1 : Fin k1_t1_loop.trips) (c1_i32_154 : BitVec 32) : Fin 2 → Nat :=
  let c2_i32 : BitVec 32 := 2#32
  let c0_i32_30 : BitVec 32 := 0#32
  let c1_i32_31 : BitVec 32 := 1#32
  let arg12 : BitVec 32 := Scf.iv c0_i32_30 c1_i32_31 k1_t1
  let v244 : BitVec 32 := Scalar.muli c2_i32 arg12
  let v245 : BitVec 32 := Scalar.addi v244 c1_i32_154
  let c768_i32 : BitVec 32 := 768#32
  let v246 : BitVec 32 := Scalar.muli v245 c768_i32
  let v247 : BitVec 32 := v246
  let v248 : Index := Scalar.indexCast v247
  let c0_155 : Index := 0#32
  ![v248.toNat, 0]
def k1_mult2 (k1_t1 : Fin k1_t1_loop.trips) : BitVec 32 :=
  let c2_i32 : BitVec 32 := 2#32
  let c0_i32_30 : BitVec 32 := 0#32
  let c1_i32_31 : BitVec 32 := 1#32
  let arg12 : BitVec 32 := Scf.iv c0_i32_30 c1_i32_31 k1_t1
  let v244 : BitVec 32 := Scalar.muli c2_i32 arg12
  let c1_i32_154 : BitVec 32 := 1#32
  let v245 : BitVec 32 := Scalar.addi v244 c1_i32_154
  let c768_i32_161 : BitVec 32 := 768#32
  let v255 : BitVec 32 := Scalar.muli v245 c768_i32_161
  v255
def k1_mult3 (k1_t1 : Fin k1_t1_loop.trips) : BitVec 32 :=
  let c2_i32_168 : BitVec 32 := 2#32
  let c0_i32_30 : BitVec 32 := 0#32
  let c1_i32_31 : BitVec 32 := 1#32
  let arg12 : BitVec 32 := Scf.iv c0_i32_30 c1_i32_31 k1_t1
  let v264 : BitVec 32 := Scalar.muli c2_i32_168 arg12
  let c768_i32_169 : BitVec 32 := 768#32
  let v265 : BitVec 32 := Scalar.muli v264 c768_i32_169
  v265
def k1_off2 (k1_t1 : Fin k1_t1_loop.trips) : Fin 3 → Nat :=
  let c0_170 : Index := 0#32
  let c0_171 : Index := 0#32
  let c2_i32_168 : BitVec 32 := 2#32
  let c0_i32_30 : BitVec 32 := 0#32
  let c1_i32_31 : BitVec 32 := 1#32
  let arg12 : BitVec 32 := Scf.iv c0_i32_30 c1_i32_31 k1_t1
  let v264 : BitVec 32 := Scalar.muli c2_i32_168 arg12
  let c768_i32_169 : BitVec 32 := 768#32
  let v265 : BitVec 32 := Scalar.muli v264 c768_i32_169
  let v266 : BitVec 32 := v265
  let v267 : Index := Scalar.indexCast v266
  ![0, 0, v267.toNat]
def k1_mult4 (k1_t1 : Fin k1_t1_loop.trips) : BitVec 32 :=
  let c2_i32_196 : BitVec 32 := 2#32
  let c0_i32_30 : BitVec 32 := 0#32
  let c1_i32_31 : BitVec 32 := 1#32
  let arg12 : BitVec 32 := Scf.iv c0_i32_30 c1_i32_31 k1_t1
  let v310 : BitVec 32 := Scalar.muli c2_i32_196 arg12
  let c2_i32_197 : BitVec 32 := 2#32
  let v311 : BitVec 32 := Scalar.addi v310 c2_i32_197
  let c768_i32_198 : BitVec 32 := 768#32
  let v312 : BitVec 32 := Scalar.muli v311 c768_i32_198
  v312
def k1_mult5 (k1_t1 : Fin k1_t1_loop.trips) : BitVec 32 :=
  let c2_i32_196 : BitVec 32 := 2#32
  let c0_i32_30 : BitVec 32 := 0#32
  let c1_i32_31 : BitVec 32 := 1#32
  let arg12 : BitVec 32 := Scf.iv c0_i32_30 c1_i32_31 k1_t1
  let v310 : BitVec 32 := Scalar.muli c2_i32_196 arg12
  let c2_i32_197 : BitVec 32 := 2#32
  let v311 : BitVec 32 := Scalar.addi v310 c2_i32_197
  let c768_i32_205 : BitVec 32 := 768#32
  let v321 : BitVec 32 := Scalar.muli v311 c768_i32_205
  v321
def k1_mult6 (k1_t1 : Fin k1_t1_loop.trips) : BitVec 32 :=
  let c2_i32_212 : BitVec 32 := 2#32
  let c0_i32_30 : BitVec 32 := 0#32
  let c1_i32_31 : BitVec 32 := 1#32
  let arg12 : BitVec 32 := Scf.iv c0_i32_30 c1_i32_31 k1_t1
  let v330 : BitVec 32 := Scalar.muli c2_i32_212 arg12
  let c1_i32_213 : BitVec 32 := 1#32
  let v331 : BitVec 32 := Scalar.addi v330 c1_i32_213
  let c768_i32_214 : BitVec 32 := 768#32
  let v332 : BitVec 32 := Scalar.muli v331 c768_i32_214
  v332
def k1_off3 (k1_t1 : Fin k1_t1_loop.trips) : Fin 3 → Nat :=
  let c0_215 : Index := 0#32
  let c0_216 : Index := 0#32
  let c2_i32_212 : BitVec 32 := 2#32
  let c0_i32_30 : BitVec 32 := 0#32
  let c1_i32_31 : BitVec 32 := 1#32
  let arg12 : BitVec 32 := Scf.iv c0_i32_30 c1_i32_31 k1_t1
  let v330 : BitVec 32 := Scalar.muli c2_i32_212 arg12
  let c1_i32_213 : BitVec 32 := 1#32
  let v331 : BitVec 32 := Scalar.addi v330 c1_i32_213
  let c768_i32_214 : BitVec 32 := 768#32
  let v332 : BitVec 32 := Scalar.muli v331 c768_i32_214
  let v333 : BitVec 32 := v332
  let v334 : Index := Scalar.indexCast v333
  ![0, 0, v334.toNat]
@[reducible] def k1_t2_loop : Scf.Loop 32 :=
  let c0_i32_104 : BitVec 32 := 0#32
  let c5_i32_105 : BitVec 32 := 5#32
  let v168 : BitVec 32 := Scalar.addi c0_i32_104 c5_i32_105
  let c1_i32_106 : BitVec 32 := 1#32
  ⟨c0_i32_104, v168, c1_i32_106⟩
def k1_mult7 (k1_t2 : Fin k1_t2_loop.trips) : BitVec 32 :=
  let c2_i32 : BitVec 32 := 2#32
  let c0_i32_104 : BitVec 32 := 0#32
  let c1_i32_106 : BitVec 32 := 1#32
  let arg12 : BitVec 32 := Scf.iv c0_i32_104 c1_i32_106 k1_t2
  let v244 : BitVec 32 := Scalar.muli c2_i32 arg12
  let c1_i32_154 : BitVec 32 := 1#32
  let v245 : BitVec 32 := Scalar.addi v244 c1_i32_154
  let c768_i32 : BitVec 32 := 768#32
  let v246 : BitVec 32 := Scalar.muli v245 c768_i32
  v246
def k1_off4 (k1_t2 : Fin k1_t2_loop.trips) (c1_i32_154 : BitVec 32) : Fin 2 → Nat :=
  let c2_i32 : BitVec 32 := 2#32
  let c0_i32_104 : BitVec 32 := 0#32
  let c1_i32_106 : BitVec 32 := 1#32
  let arg12 : BitVec 32 := Scf.iv c0_i32_104 c1_i32_106 k1_t2
  let v244 : BitVec 32 := Scalar.muli c2_i32 arg12
  let v245 : BitVec 32 := Scalar.addi v244 c1_i32_154
  let c768_i32 : BitVec 32 := 768#32
  let v246 : BitVec 32 := Scalar.muli v245 c768_i32
  let v247 : BitVec 32 := v246
  let v248 : Index := Scalar.indexCast v247
  let c0_155 : Index := 0#32
  ![v248.toNat, 0]
def k1_mult8 (k1_t2 : Fin k1_t2_loop.trips) : BitVec 32 :=
  let c2_i32 : BitVec 32 := 2#32
  let c0_i32_104 : BitVec 32 := 0#32
  let c1_i32_106 : BitVec 32 := 1#32
  let arg12 : BitVec 32 := Scf.iv c0_i32_104 c1_i32_106 k1_t2
  let v244 : BitVec 32 := Scalar.muli c2_i32 arg12
  let c1_i32_154 : BitVec 32 := 1#32
  let v245 : BitVec 32 := Scalar.addi v244 c1_i32_154
  let c768_i32_161 : BitVec 32 := 768#32
  let v255 : BitVec 32 := Scalar.muli v245 c768_i32_161
  v255
def k1_mult9 (k1_t2 : Fin k1_t2_loop.trips) : BitVec 32 :=
  let c2_i32_168 : BitVec 32 := 2#32
  let c0_i32_104 : BitVec 32 := 0#32
  let c1_i32_106 : BitVec 32 := 1#32
  let arg12 : BitVec 32 := Scf.iv c0_i32_104 c1_i32_106 k1_t2
  let v264 : BitVec 32 := Scalar.muli c2_i32_168 arg12
  let c768_i32_169 : BitVec 32 := 768#32
  let v265 : BitVec 32 := Scalar.muli v264 c768_i32_169
  v265
def k1_off5 (k1_t2 : Fin k1_t2_loop.trips) : Fin 3 → Nat :=
  let c1_170 : Index := 1#32
  let c0_171 : Index := 0#32
  let c2_i32_168 : BitVec 32 := 2#32
  let c0_i32_104 : BitVec 32 := 0#32
  let c1_i32_106 : BitVec 32 := 1#32
  let arg12 : BitVec 32 := Scf.iv c0_i32_104 c1_i32_106 k1_t2
  let v264 : BitVec 32 := Scalar.muli c2_i32_168 arg12
  let c768_i32_169 : BitVec 32 := 768#32
  let v265 : BitVec 32 := Scalar.muli v264 c768_i32_169
  let v266 : BitVec 32 := v265
  let v267 : Index := Scalar.indexCast v266
  ![1, 0, v267.toNat]
def k1_mult10 (k1_t2 : Fin k1_t2_loop.trips) : BitVec 32 :=
  let c2_i32_196 : BitVec 32 := 2#32
  let c0_i32_104 : BitVec 32 := 0#32
  let c1_i32_106 : BitVec 32 := 1#32
  let arg12 : BitVec 32 := Scf.iv c0_i32_104 c1_i32_106 k1_t2
  let v310 : BitVec 32 := Scalar.muli c2_i32_196 arg12
  let c2_i32_197 : BitVec 32 := 2#32
  let v311 : BitVec 32 := Scalar.addi v310 c2_i32_197
  let c768_i32_198 : BitVec 32 := 768#32
  let v312 : BitVec 32 := Scalar.muli v311 c768_i32_198
  v312
def k1_mult11 (k1_t2 : Fin k1_t2_loop.trips) : BitVec 32 :=
  let c2_i32_196 : BitVec 32 := 2#32
  let c0_i32_104 : BitVec 32 := 0#32
  let c1_i32_106 : BitVec 32 := 1#32
  let arg12 : BitVec 32 := Scf.iv c0_i32_104 c1_i32_106 k1_t2
  let v310 : BitVec 32 := Scalar.muli c2_i32_196 arg12
  let c2_i32_197 : BitVec 32 := 2#32
  let v311 : BitVec 32 := Scalar.addi v310 c2_i32_197
  let c768_i32_205 : BitVec 32 := 768#32
  let v321 : BitVec 32 := Scalar.muli v311 c768_i32_205
  v321
def k1_mult12 (k1_t2 : Fin k1_t2_loop.trips) : BitVec 32 :=
  let c2_i32_212 : BitVec 32 := 2#32
  let c0_i32_104 : BitVec 32 := 0#32
  let c1_i32_106 : BitVec 32 := 1#32
  let arg12 : BitVec 32 := Scf.iv c0_i32_104 c1_i32_106 k1_t2
  let v330 : BitVec 32 := Scalar.muli c2_i32_212 arg12
  let c1_i32_213 : BitVec 32 := 1#32
  let v331 : BitVec 32 := Scalar.addi v330 c1_i32_213
  let c768_i32_214 : BitVec 32 := 768#32
  let v332 : BitVec 32 := Scalar.muli v331 c768_i32_214
  v332
def k1_off6 (k1_t2 : Fin k1_t2_loop.trips) : Fin 3 → Nat :=
  let c1_215 : Index := 1#32
  let c0_216 : Index := 0#32
  let c2_i32_212 : BitVec 32 := 2#32
  let c0_i32_104 : BitVec 32 := 0#32
  let c1_i32_106 : BitVec 32 := 1#32
  let arg12 : BitVec 32 := Scf.iv c0_i32_104 c1_i32_106 k1_t2
  let v330 : BitVec 32 := Scalar.muli c2_i32_212 arg12
  let c1_i32_213 : BitVec 32 := 1#32
  let v331 : BitVec 32 := Scalar.addi v330 c1_i32_213
  let c768_i32_214 : BitVec 32 := 768#32
  let v332 : BitVec 32 := Scalar.muli v331 c768_i32_214
  let v333 : BitVec 32 := v332
  let v334 : Index := Scalar.indexCast v333
  ![1, 0, v334.toNat]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  ![v0.toNat, arg0.toNat]

def cc1_transform_2 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c4_i32 : BitVec 32 := 4#32
  let v1 : BitVec 32 := Scalar.addi c4_i32 arg0
  let c0_i32 : BitVec 32 := 0#32
  ![v0.toNat, v1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S256x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S8448x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S8448x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S2x144x8448 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 1 → Memref sig .tc .vmem S128x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S256x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== KernelIdeal.lean ====
variable {F : FTy → Type} [FloatOps F] [Named F]
def κ : String → Option EReal := fun
  | "log2e_8" => some (((8 * (Real.log 2))⁻¹ : ℝ) : EReal)
  | _ => none
-- ==== ReferenceIdeal.lean ====
abbrev S8448x4096 : Shape := ⟨2, ![8448, 4096]⟩
abbrev S8192x64 : Shape := ⟨2, ![8192, 64]⟩
abbrev S4x64 : Shape := ⟨2, ![4, 64]⟩
abbrev S128 : Shape := ⟨1, ![128]⟩
abbrev S_ : Shape := ⟨0, ![]⟩
abbrev S8192x1024 : Shape := ⟨2, ![8192, 1024]⟩
abbrev S8192x2x8x64 : Shape := ⟨4, ![8192, 2, 8, 64]⟩
abbrev S8192x2x8x16 : Shape := ⟨4, ![8192, 2, 8, 16]⟩
abbrev S8192x1x1x64 : Shape := ⟨4, ![8192, 1, 1, 64]⟩
abbrev S8448x1024 : Shape := ⟨2, ![8448, 1024]⟩
abbrev S256x1024 : Shape := ⟨2, ![256, 1024]⟩
abbrev S256x2x8x64 : Shape := ⟨4, ![256, 2, 8, 64]⟩
abbrev S8448x2x8x64 : Shape := ⟨4, ![8448, 2, 8, 64]⟩
abbrev S8448x8x128 : Shape := ⟨3, ![8448, 8, 128]⟩
abbrev S1x64 : Shape := ⟨2, ![1, 64]⟩
abbrev S64 : Shape := ⟨1, ![64]⟩
abbrev S2x8x8192x8448 : Shape := ⟨4, ![2, 8, 8192, 8448]⟩
abbrev S2x8x8192 : Shape := ⟨3, ![2, 8, 8192]⟩
abbrev S2x8x8192x1 : Shape := ⟨4, ![2, 8, 8192, 1]⟩
abbrev S1x8x8192x8448 : Shape := ⟨4, ![1, 8, 8192, 8448]⟩
abbrev S8x8192x8448 : Shape := ⟨3, ![8, 8192, 8448]⟩
abbrev S8x128x8192 : Shape := ⟨3, ![8, 128, 8192]⟩
abbrev S8192x8x128 : Shape := ⟨3, ![8192, 8, 128]⟩
abbrev S8192x8 : Shape := ⟨2, ![8192, 8]⟩
abbrev S8192x8x1 : Shape := ⟨3, ![8192, 8, 1]⟩
abbrev S1x1x128 : Shape := ⟨3, ![1, 1, 128]⟩

abbrev nBuf : Space → Nat
  | .hbm => 111
  | .vmem => 0
  | .smem => 0
  | _ => 0

abbrev bufTy : (tb : Table) → Fin (tcTables nBuf tb) → BufTy
  | .hbm, ⟨0, _⟩ => ⟨S8448x4096, .f32⟩
  | .hbm, ⟨1, _⟩ => ⟨S8192x64, .f32⟩
  | .hbm, ⟨2, _⟩ => ⟨S8192x64, .f32⟩
  | .hbm, ⟨3, _⟩ => ⟨S4x64, .f32⟩
  | .hbm, ⟨4, _⟩ => ⟨S128, .f32⟩
  | .hbm, ⟨5, _⟩ => ⟨S_, .f32⟩
  | .hbm, ⟨6, _⟩ => ⟨S8192x1024, .f32⟩
  | .hbm, ⟨7, _⟩ => ⟨S8192x2x8x64, .f32⟩
  | .hbm, ⟨8, _⟩ => ⟨S8192x2x8x16, .f32⟩
  | .hbm, ⟨9, _⟩ => ⟨S8192x2x8x16, .f32⟩
  | .hbm, ⟨10, _⟩ => ⟨S8192x2x8x16, .f32⟩
  | .hbm, ⟨11, _⟩ => ⟨S8192x2x8x16, .f32⟩
  | .hbm, ⟨12, _⟩ => ⟨S8192x2x8x16, .f32⟩
  | .hbm, ⟨13, _⟩ => ⟨S8192x2x8x16, .f32⟩
  | .hbm, ⟨14, _⟩ => ⟨S8192x2x8x64, .f32⟩
  | .hbm, ⟨15, _⟩ => ⟨S8192x1x1x64, .f32⟩
  | .hbm, ⟨16, _⟩ => ⟨S8192x2x8x64, .f32⟩
  | .hbm, ⟨17, _⟩ => ⟨S8192x2x8x64, .f32⟩
  | .hbm, ⟨18, _⟩ => ⟨S8192x1x1x64, .f32⟩
  | .hbm, ⟨19, _⟩ => ⟨S8192x2x8x64, .f32⟩
  | .hbm, ⟨20, _⟩ => ⟨S8192x2x8x64, .f32⟩
  | .hbm, ⟨21, _⟩ => ⟨S8192x2x8x64, .f32⟩
  | .hbm, ⟨22, _⟩ => ⟨S8448x1024, .f32⟩
  | .hbm, ⟨23, _⟩ => ⟨S256x1024, .f32⟩
  | .hbm, ⟨24, _⟩ => ⟨S256x2x8x64, .f32⟩
  | .hbm, ⟨25, _⟩ => ⟨S8192x1024, .f32⟩
  | .hbm, ⟨26, _⟩ => ⟨S8192x2x8x64, .f32⟩
  | .hbm, ⟨27, _⟩ => ⟨S8192x2x8x16, .f32⟩
  | .hbm, ⟨28, _⟩ => ⟨S8192x2x8x16, .f32⟩
  | .hbm, ⟨29, _⟩ => ⟨S8192x2x8x16, .f32⟩
  | .hbm, ⟨30, _⟩ => ⟨S8192x2x8x16, .f32⟩
  | .hbm, ⟨31, _⟩ => ⟨S8192x2x8x16, .f32⟩
  | .hbm, ⟨32, _⟩ => ⟨S8192x2x8x16, .f32⟩
  | .hbm, ⟨33, _⟩ => ⟨S8192x2x8x64, .f32⟩
  | .hbm, ⟨34, _⟩ => ⟨S8192x1x1x64, .f32⟩
  | .hbm, ⟨35, _⟩ => ⟨S8192x2x8x64, .f32⟩
  | .hbm, ⟨36, _⟩ => ⟨S8192x2x8x64, .f32⟩
  | .hbm, ⟨37, _⟩ => ⟨S8192x1x1x64, .f32⟩
  | .hbm, ⟨38, _⟩ => ⟨S8192x2x8x64, .f32⟩
  | .hbm, ⟨39, _⟩ => ⟨S8192x2x8x64, .f32⟩
  | .hbm, ⟨40, _⟩ => ⟨S8192x2x8x64, .f32⟩
  | .hbm, ⟨41, _⟩ => ⟨S8448x2x8x64, .f32⟩
  | .hbm, ⟨42, _⟩ => ⟨S8448x1024, .f32⟩
  | .hbm, ⟨43, _⟩ => ⟨S8448x8x128, .f32⟩
  | .hbm, ⟨44, _⟩ => ⟨S1x64, .f32⟩
  | .hbm, ⟨45, _⟩ => ⟨S64, .f32⟩
  | .hbm, ⟨46, _⟩ => ⟨S1x64, .f32⟩
  | .hbm, ⟨47, _⟩ => ⟨S64, .f32⟩
  | .hbm, ⟨48, _⟩ => ⟨S64, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S1x64, .f32⟩
  | .hbm, ⟨53, _⟩ => ⟨S64, .f32⟩
  | .hbm, ⟨54, _⟩ => ⟨S1x64, .f32⟩
  | .hbm, ⟨55, _⟩ => ⟨S64, .f32⟩
  | .hbm, ⟨56, _⟩ => ⟨S64, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S2x8x8192x8448, .f32⟩
  | .hbm, ⟨63, _⟩ => ⟨S_, .f32⟩
  | .hbm, ⟨64, _⟩ => ⟨S2x8x8192x8448, .f32⟩
  | .hbm, ⟨65, _⟩ => ⟨S2x8x8192x8448, .f32⟩
  | .hbm, ⟨66, _⟩ => ⟨S_, .f32⟩
  | .hbm, ⟨67, _⟩ => ⟨S2x8x8192, .f32⟩
  | .hbm, ⟨68, _⟩ => ⟨S_, .f32⟩
  | .hbm, ⟨69, _⟩ => ⟨S2x8x8192, .f32⟩
  | .hbm, ⟨70, _⟩ => ⟨S2x8x8192, .f32⟩
  | .hbm, ⟨71, _⟩ => ⟨S2x8x8192x1, .f32⟩
  | .hbm, ⟨72, _⟩ => ⟨S2x8x8192x8448, .f32⟩
  | .hbm, ⟨73, _⟩ => ⟨S2x8x8192x8448, .f32⟩
  | .hbm, ⟨74, _⟩ => ⟨S2x8x8192x8448, .f32⟩
  | .hbm, ⟨75, _⟩ => ⟨S_, .f32⟩
  | .hbm, ⟨76, _⟩ => ⟨S2x8x8192, .f32⟩
  | .hbm, ⟨77, _⟩ => ⟨S2x8x8192x1, .f32⟩
  | .hbm, ⟨78, _⟩ => ⟨S2x8x8192x8448, .f32⟩
  | .hbm, ⟨79, _⟩ => ⟨S2x8x8192x8448, .f32⟩
  | .hbm, ⟨80, _⟩ => ⟨S1x8x8192x8448, .f32⟩
  | .hbm, ⟨81, _⟩ => ⟨S8x8192x8448, .f32⟩
  | .hbm, ⟨82, _⟩ => ⟨S1x8x8192x8448, .f32⟩
  | .hbm, ⟨83, _⟩ => ⟨S8x8192x8448, .f32⟩
  | .hbm, ⟨84, _⟩ => ⟨S8x8192x8448, .f32⟩
  | .hbm, ⟨85, _⟩ => ⟨S8x8192x8448, .f32⟩
  | .hbm, ⟨86, _⟩ => ⟨S8x8192x8448, .f32⟩
  | .hbm, ⟨87, _⟩ => ⟨S8x128x8192, .f32⟩
  | .hbm, ⟨88, _⟩ => ⟨S8192x8x128, .f32⟩
  | .hbm, ⟨89, _⟩ => ⟨S8192x8x128, .f32⟩
  | .hbm, ⟨90, _⟩ => ⟨S_, .f32⟩
  | .hbm, ⟨91, _⟩ => ⟨S8192x8, .f32⟩
  | .hbm, ⟨92, _⟩ => ⟨S8192x8x1, .f32⟩
  | .hbm, ⟨93, _⟩ => ⟨S_, .f32⟩
  | .hbm, ⟨94, _⟩ => ⟨S8192x8x1, .f32⟩
  | .hbm, ⟨95, _⟩ => ⟨S8192x8x1, .f32⟩
  | .hbm, ⟨96, _⟩ => ⟨S_, .f32⟩
  | .hbm, ⟨97, _⟩ => ⟨S8192x8x1, .f32⟩
  | .hbm, ⟨98, _⟩ => ⟨S8192x8x1, .f32⟩
  | .hbm, ⟨99, _⟩ => ⟨S8192x8x1, .f32⟩
  | .hbm, ⟨100, _⟩ => ⟨S8192x8x128, .f32⟩
  | .hbm, ⟨101, _⟩ => ⟨S8192x8x128, .f32⟩
  | .hbm, ⟨102, _⟩ => ⟨S1x1x128, .f32⟩
  | .hbm, ⟨103, _⟩ => ⟨S8192x8x128, .f32⟩
  | .hbm, ⟨104, _⟩ => ⟨S8192x8x128, .f32⟩
  | .hbm, ⟨105, _⟩ => ⟨S_, .f32⟩
  | .hbm, ⟨106, _⟩ => ⟨S_, .f32⟩
  | .hbm, ⟨107, _⟩ => ⟨S8192x8x128, .f32⟩
  | .hbm, ⟨108, _⟩ => ⟨S8192x8x128, .f32⟩
  | .hbm, ⟨109, _⟩ => ⟨S8192x1024, .f32⟩
  | .hbm, ⟨110, _⟩ => ⟨S8192x1024, .bf16⟩
  | _, _ => ⟨S8448x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_cst : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_cst_0 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_cst_1 : Ref sig .tc := ⟨.hbm, 63, rfl⟩
abbrev main_v55 : Ref sig .tc := ⟨.hbm, 64, rfl⟩
abbrev main_v56 : Ref sig .tc := ⟨.hbm, 65, rfl⟩
abbrev main_cst_2 : Ref sig .tc := ⟨.hbm, 66, rfl⟩
abbrev main_v57 : Ref sig .tc := ⟨.hbm, 67, rfl⟩
abbrev main_cst_3 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_cst_4 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_cst_5 : Ref sig .tc := ⟨.hbm, 90, rfl⟩
abbrev main_v78 : Ref sig .tc := ⟨.hbm, 91, rfl⟩
abbrev main_v79 : Ref sig .tc := ⟨.hbm, 92, rfl⟩
abbrev main_cst_6 : Ref sig .tc := ⟨.hbm, 93, rfl⟩
abbrev main_v80 : Ref sig .tc := ⟨.hbm, 94, rfl⟩
abbrev main_v81 : Ref sig .tc := ⟨.hbm, 95, rfl⟩
abbrev main_cst_7 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_cst_8 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩

abbrev nD : Nat := 1
abbrev τ : Topo := Topo.v7x

variable {F : FTy → Type} [FloatOps F]
-- ==== Mlp.lean ====
abbrev S8448x2048 : Shape := ⟨2, ![8448, 2048]⟩
abbrev S2048 : Shape := ⟨1, ![2048]⟩
abbrev S2x2048 : Shape := ⟨2, ![2, 2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S1x2048x512 : Shape := ⟨3, ![1, 2048, 512]⟩
abbrev S1x512x2048 : Shape := ⟨3, ![1, 512, 2048]⟩
abbrev S1056x2048 : Shape := ⟨2, ![1056, 2048]⟩
abbrev S48x1 : Shape := ⟨2, ![48, 1]⟩
abbrev S48x2048 : Shape := ⟨2, ![48, 2048]⟩
abbrev S48 : Shape := ⟨1, ![48]⟩
abbrev S2048x512 : Shape := ⟨2, ![2048, 512]⟩
abbrev S1056x512 : Shape := ⟨2, ![1056, 512]⟩
abbrev S1x512x512 : Shape := ⟨3, ![1, 512, 512]⟩
abbrev S512x512 : Shape := ⟨2, ![512, 512]⟩

abbrev nBuf : Space → Nat
  | .hbm => 11
  | .vmem => 12
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S4x2048x8192, .f32⟩
  | .hbm, ⟨5, _⟩ => ⟨S4x8192x2048, .f32⟩
  | .hbm, ⟨6, _⟩ => ⟨S2048, .f32⟩
  | .hbm, ⟨7, _⟩ => ⟨S2x2048, .f32⟩
  | .hbm, ⟨8, _⟩ => ⟨S1x2048, .f32⟩
  | .hbm, ⟨9, _⟩ => ⟨S1x2048, .f32⟩
  | .hbm, ⟨10, _⟩ => ⟨S8448x2048, .f32⟩
  | .local _ .vmem, ⟨0, _⟩ => ⟨S1x2048, .f32⟩
  | .local _ .vmem, ⟨1, _⟩ => ⟨S2x2048, .f32⟩
  | .local _ .vmem, ⟨2, _⟩ => ⟨S2x2048, .f32⟩
  | .local _ .vmem, ⟨3, _⟩ => ⟨S1x2048x512, .f32⟩
  | .local _ .vmem, ⟨4, _⟩ => ⟨S1x2048x512, .f32⟩
  | .local _ .vmem, ⟨5, _⟩ => ⟨S1x512x2048, .f32⟩
  | .local _ .vmem, ⟨6, _⟩ => ⟨S1x512x2048, .f32⟩
  | .local _ .vmem, ⟨7, _⟩ => ⟨S1x2048, .f32⟩
  | .local _ .vmem, ⟨8, _⟩ => ⟨S2x2048, .f32⟩
  | .local _ .vmem, ⟨9, _⟩ => ⟨S1056x2048, .f32⟩
  | .local _ .vmem, ⟨10, _⟩ => ⟨S1056x2048, .f32⟩
  | .local _ .vmem, ⟨11, _⟩ => ⟨S1056x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_38 : BitVec 32 := 0#32
  let c22_i32 : BitVec 32 := 22#32
  let v51 : BitVec 32 := Scalar.addi c0_i32_38 c22_i32
  let c1_i32 : BitVec 32 := 1#32
  ⟨c0_i32_38, v51, c1_i32⟩
def k0_mult1 (k0_t1 : Fin k0_t1_loop.trips) : BitVec 32 :=
  let c0_i32_38 : BitVec 32 := 0#32
  let c1_i32 : BitVec 32 := 1#32
  let arg12 : BitVec 32 := Scf.iv c0_i32_38 c1_i32 k0_t1
  let c48_i32 : BitVec 32 := 48#32
  let v52 : BitVec 32 := Scalar.muli arg12 c48_i32
  v52
def k0_off1 (k0_t1 : Fin k0_t1_loop.trips) : Fin 2 → Nat :=
  let c0_i32_38 : BitVec 32 := 0#32
  let c1_i32 : BitVec 32 := 1#32
  let arg12 : BitVec 32 := Scf.iv c0_i32_38 c1_i32 k0_t1
  let c48_i32 : BitVec 32 := 48#32
  let v52 : BitVec 32 := Scalar.muli arg12 c48_i32
  let v53 : BitVec 32 := v52
  let v60 : Index := Scalar.indexCast v53
  let c0_40 : Index := 0#32
  ![v60.toNat, 0]
def k0_cond3 (i : grid0.Coords) : BitVec 1 :=
  let arg1 : BitVec 32 := BitVec.ofNat 32 (i 1).val
  let c15_i32 : BitVec 32 := 15#32
  let v48 : BitVec 1 := Scalar.cmpi .eq arg1 c15_i32
  let v49 : BitVec 32 := Scalar.extui v48
  let c0_i32_37 : BitVec 32 := 0#32
  let v50 : BitVec 1 := Scalar.cmpi .ne v49 c0_i32_37
  v50

@[reducible] def k0_t2_loop : Scf.Loop 32 :=
  let c0_i32_38 : BitVec 32 := 0#32
  let c22_i32 : BitVec 32 := 22#32
  let v51 : BitVec 32 := Scalar.addi c0_i32_38 c22_i32
  let c1_i32 : BitVec 32 := 1#32
  ⟨c0_i32_38, v51, c1_i32⟩
def k0_mult2 (k0_t2 : Fin k0_t2_loop.trips) : BitVec 32 :=
  let c0_i32_38 : BitVec 32 := 0#32
  let c1_i32 : BitVec 32 := 1#32
  let arg12 : BitVec 32 := Scf.iv c0_i32_38 c1_i32 k0_t2
  let c48_i32 : BitVec 32 := 48#32
  let v52 : BitVec 32 := Scalar.muli arg12 c48_i32
  v52
def k0_off2 (k0_t2 : Fin k0_t2_loop.trips) : Fin 2 → Nat :=
  let c0_i32_38 : BitVec 32 := 0#32
  let c1_i32 : BitVec 32 := 1#32
  let arg12 : BitVec 32 := Scf.iv c0_i32_38 c1_i32 k0_t2
  let c48_i32 : BitVec 32 := 48#32
  let v52 : BitVec 32 := Scalar.muli arg12 c48_i32
  let v53 : BitVec 32 := v52
  let v60 : Index := Scalar.indexCast v53
  let c0_40 : Index := 0#32
  ![v60.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1056x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1056x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== MlpReferenceIdeal.lean ====
abbrev S8448x2048 : Shape := ⟨2, ![8448, 2048]⟩
abbrev S2048 : Shape := ⟨1, ![2048]⟩
abbrev S2x2048 : Shape := ⟨2, ![2, 2048]⟩
abbrev S4x2048x8192 : Shape := ⟨3, ![4, 2048, 8192]⟩
abbrev S4x8192x2048 : Shape := ⟨3, ![4, 8192, 2048]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S256x2048 : Shape := ⟨2, ![256, 2048]⟩
abbrev S8192x2048 : Shape := ⟨2, ![8192, 2048]⟩
abbrev S1x2048x8192 : Shape := ⟨3, ![1, 2048, 8192]⟩
abbrev S2048x8192 : Shape := ⟨2, ![2048, 8192]⟩
abbrev S8448x8192 : Shape := ⟨2, ![8448, 8192]⟩
abbrev S1x8192x2048 : Shape := ⟨3, ![1, 8192, 2048]⟩

abbrev nBuf : Space → Nat
  | .hbm => 78
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S4x2048x8192, .f32⟩
  | .hbm, ⟨5, _⟩ => ⟨S4x8192x2048, .f32⟩
  | .hbm, ⟨6, _⟩ => ⟨S2048, .f32⟩
  | .hbm, ⟨7, _⟩ => ⟨S2x2048, .f32⟩
  | .hbm, ⟨8, _⟩ => ⟨S8448x2048, .f32⟩
  | .hbm, ⟨9, _⟩ => ⟨S_, .f32⟩
  | .hbm, ⟨10, _⟩ => ⟨S8448, .f32⟩
  | .hbm, ⟨11, _⟩ => ⟨S8448x1, .f32⟩
  | .hbm, ⟨12, _⟩ => ⟨S_, .f32⟩
  | .hbm, ⟨13, _⟩ => ⟨S8448x1, .f32⟩
  | .hbm, ⟨14, _⟩ => ⟨S8448x1, .f32⟩
  | .hbm, ⟨15, _⟩ => ⟨S_, .f32⟩
  | .hbm, ⟨16, _⟩ => ⟨S8448x1, .f32⟩
  | .hbm, ⟨17, _⟩ => ⟨S8448x1, .f32⟩
  | .hbm, ⟨18, _⟩ => ⟨S8448x1, .f32⟩
  | .hbm, ⟨19, _⟩ => ⟨S8448x2048, .f32⟩
  | .hbm, ⟨20, _⟩ => ⟨S8448x2048, .f32⟩
  | .hbm, ⟨21, _⟩ => ⟨S1x2048, .f32⟩
  | .hbm, ⟨22, _⟩ => ⟨S8448x2048, .f32⟩
  | .hbm, ⟨23, _⟩ => ⟨S8448x2048, .f32⟩
  | .hbm, ⟨24, _⟩ => ⟨S1x2048, .f32⟩
  | .hbm, ⟨25, _⟩ => ⟨S2048, .f32⟩
  | .hbm, ⟨26, _⟩ => ⟨S256x2048, .f32⟩
  | .hbm, ⟨27, _⟩ => ⟨S1x2048, .f32⟩
  | .hbm, ⟨28, _⟩ => ⟨S2048, .f32⟩
  | .hbm, ⟨29, _⟩ => ⟨S8192x2048, .f32⟩
  | .hbm, ⟨30, _⟩ => ⟨S8448x2048, .f32⟩
  | .hbm, ⟨31, _⟩ => ⟨S_, .f32⟩
  | .hbm, ⟨32, _⟩ => ⟨S8448x2048, .f32⟩
  | .hbm, ⟨33, _⟩ => ⟨S8448x2048, .f32⟩
  | .hbm, ⟨34, _⟩ => ⟨S8448x2048, .f32⟩
  | .hbm, ⟨35, _⟩ => ⟨S1x2048, .f32⟩
  | .hbm, ⟨36, _⟩ => ⟨S2048, .f32⟩
  | .hbm, ⟨37, _⟩ => ⟨S256x2048, .f32⟩
  | .hbm, ⟨38, _⟩ => ⟨S1x2048, .f32⟩
  | .hbm, ⟨39, _⟩ => ⟨S2048, .f32⟩
  | .hbm, ⟨40, _⟩ => ⟨S8192x2048, .f32⟩
  | .hbm, ⟨41, _⟩ => ⟨S8448x2048, .f32⟩
  | .hbm, ⟨42, _⟩ => ⟨S8448x2048, .f32⟩
  | .hbm, ⟨43, _⟩ => ⟨S1x2048x8192, .f32⟩
  | .hbm, ⟨44, _⟩ => ⟨S2048x8192, .f32⟩
  | .hbm, ⟨45, _⟩ => ⟨S8448x8192, .f32⟩
  | .hbm, ⟨46, _⟩ => ⟨S_, .f32⟩
  | .hbm, ⟨47, _⟩ => ⟨S8448x8192, .f32⟩
  | .hbm, ⟨48, _⟩ => ⟨S8448x8192, .f32⟩
  | .hbm, ⟨49, _⟩ => ⟨S8448x8192, .f32⟩
  | .hbm, ⟨50, _⟩ => ⟨S1x8192x2048, .f32⟩
  | .hbm, ⟨51, _⟩ => ⟨S8192x2048, .f32⟩
  | .hbm, ⟨52, _⟩ => ⟨S8448x2048, .f32⟩
  | .hbm, ⟨53, _⟩ => ⟨S1x2048, .f32⟩
  | .hbm, ⟨54, _⟩ => ⟨S2048, .f32⟩
  | .hbm, ⟨55, _⟩ => ⟨S256x2048, .f32⟩
  | .hbm, ⟨56, _⟩ => ⟨S1x2048, .f32⟩
  | .hbm, ⟨57, _⟩ => ⟨S2048, .f32⟩
  | .hbm, ⟨58, _⟩ => ⟨S8192x2048, .f32⟩
  | .hbm, ⟨59, _⟩ => ⟨S8448x2048, .f32⟩
  | .hbm, ⟨60, _⟩ => ⟨S8448x2048, .f32⟩
  | .hbm, ⟨61, _⟩ => ⟨S_, .f32⟩
  | .hbm, ⟨62, _⟩ => ⟨S8448, .f32⟩
  | .hbm, ⟨63, _⟩ => ⟨S8448x1, .f32⟩
  | .hbm, ⟨64, _⟩ => ⟨S_, .f32⟩
  | .hbm, ⟨65, _⟩ => ⟨S8448x1, .f32⟩
  | .hbm, ⟨66, _⟩ => ⟨S8448x1, .f32⟩
  | .hbm, ⟨67, _⟩ => ⟨S_, .f32⟩
  | .hbm, ⟨68, _⟩ => ⟨S8448x1, .f32⟩
  | .hbm, ⟨69, _⟩ => ⟨S8448x1, .f32⟩
  | .hbm, ⟨70, _⟩ => ⟨S8448x1, .f32⟩
  | .hbm, ⟨71, _⟩ => ⟨S8448x2048, .f32⟩
  | .hbm, ⟨72, _⟩ => ⟨S8448x2048, .f32⟩
  | .hbm, ⟨73, _⟩ => ⟨S1x2048, .f32⟩
  | .hbm, ⟨74, _⟩ => ⟨S8448x2048, .f32⟩
  | .hbm, ⟨75, _⟩ => ⟨S8448x2048, .f32⟩
  | .hbm, ⟨76, _⟩ => ⟨S8448x2048, .f32⟩
  | .hbm, ⟨77, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_call0_cst : Ref sig .tc := ⟨.hbm, 46, rfl⟩
abbrev main_call0_v0 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_3 : Ref sig .tc := ⟨.hbm, 61, rfl⟩
abbrev main_v47 : Ref sig .tc := ⟨.hbm, 62, rfl⟩
abbrev main_v48 : Ref sig .tc := ⟨.hbm, 63, rfl⟩
abbrev main_cst_4 : Ref sig .tc := ⟨.hbm, 64, rfl⟩
abbrev main_v49 : Ref sig .tc := ⟨.hbm, 65, rfl⟩
abbrev main_v50 : Ref sig .tc := ⟨.hbm, 66, rfl⟩
abbrev main_cst_5 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩

abbrev nD : Nat := 1
abbrev τ : Topo := Topo.v7x

variable {F : FTy → Type} [FloatOps F]
-- ==== InEven.lean ====
abbrev S8448x2048 : Shape := ⟨2, ![8448, 2048]⟩
abbrev S2048 : Shape := ⟨1, ![2048]⟩
abbrev S2x2048 : Shape := ⟨2, ![2, 2048]⟩
abbrev S2x2048x4096 : Shape := ⟨3, ![2, 2048, 4096]⟩
abbrev S1x2048 : Shape := ⟨2, ![1, 2048]⟩
abbrev S8448x4096 : Shape := ⟨2, ![8448, 4096]⟩
abbrev S2112x2048 : Shape := ⟨2, ![2112, 2048]⟩
abbrev S1x2048x512 : Shape := ⟨3, ![1, 2048, 512]⟩
abbrev S2112x512 : Shape := ⟨2, ![2112, 512]⟩
abbrev S64x1 : Shape := ⟨2, ![64, 1]⟩
abbrev S64x2048 : Shape := ⟨2, ![64, 2048]⟩
abbrev S64 : Shape := ⟨1, ![64]⟩
abbrev S2048x512 : Shape := ⟨2, ![2048, 512]⟩

abbrev nBuf : Space → Nat
  | .hbm => 7
  | .vmem => 9
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S2x2048x4096, .f32⟩
  | .hbm, ⟨5, _⟩ => ⟨S1x2048, .f32⟩
  | .hbm, ⟨6, _⟩ => ⟨S8448x4096, .f32⟩
  | .local _ .vmem, ⟨0, _⟩ => ⟨S1x2048, .f32⟩
  | .local _ .vmem, ⟨1, _⟩ => ⟨S2112x2048, .f32⟩
  | .local _ .vmem, ⟨2, _⟩ => ⟨S2x2048, .f32⟩
  | .local _ .vmem, ⟨3, _⟩ => ⟨S2x2048, .f32⟩
  | .local _ .vmem, ⟨4, _⟩ => ⟨S1x2048x512, .f32⟩
  | .local _ .vmem, ⟨5, _⟩ => ⟨S1x2048x512, .f32⟩
  | .local _ .vmem, ⟨6, _⟩ => ⟨S2112x512, .f32⟩
  | .local _ .vmem, ⟨7, _⟩ => ⟨S2112x512, .f32⟩
  | .local _ .vmem, ⟨8, _⟩ => ⟨S2112x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_7 : BitVec 32 := 0#32
  let c33_i32 : BitVec 32 := 33#32
  let v10 : BitVec 32 := Scalar.addi c0_i32_7 c33_i32
  let c1_i32 : BitVec 32 := 1#32
  ⟨c0_i32_7, v10, c1_i32⟩
def k0_mult1 (k0_t1 : Fin k0_t1_loop.trips) : BitVec 32 :=
  let c0_i32_7 : BitVec 32 := 0#32
  let c1_i32 : BitVec 32 := 1#32
  let arg9 : BitVec 32 := Scf.iv c0_i32_7 c1_i32 k0_t1
  let c64_i32 : BitVec 32 := 64#32
  let v11 : BitVec 32 := Scalar.muli arg9 c64_i32
  v11
def k0_off1 (k0_t1 : Fin k0_t1_loop.trips) : Fin 2 → Nat :=
  let c0_i32_7 : BitVec 32 := 0#32
  let c1_i32 : BitVec 32 := 1#32
  let arg9 : BitVec 32 := Scf.iv c0_i32_7 c1_i32 k0_t1
  let c64_i32 : BitVec 32 := 64#32
  let v11 : BitVec 32 := Scalar.muli arg9 c64_i32
  let v12 : BitVec 32 := v11
  let v19 : Index := Scalar.indexCast v12
  let c0_9 : Index := 0#32
  ![v19.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2112x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2112x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InEvenReferenceIdeal.lean ====
abbrev S8448x2048 : Shape := ⟨2, ![8448, 2048]⟩
abbrev S2048 : Shape := ⟨1, ![2048]⟩
abbrev S2x2048 : Shape := ⟨2, ![2, 2048]⟩
abbrev S2x2048x4096 : Shape := ⟨3, ![2, 2048, 4096]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S256x2048 : Shape := ⟨2, ![256, 2048]⟩
abbrev S8192x2048 : Shape := ⟨2, ![8192, 2048]⟩
abbrev S1x2048x4096 : Shape := ⟨3, ![1, 2048, 4096]⟩
abbrev S2048x4096 : Shape := ⟨2, ![2048, 4096]⟩
abbrev S8448x4096 : Shape := ⟨2, ![8448, 4096]⟩

abbrev nBuf : Space → Nat
  | .hbm => 43
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S2x2048x4096, .f32⟩
  | .hbm, ⟨5, _⟩ => ⟨S8448x2048, .f32⟩
  | .hbm, ⟨6, _⟩ => ⟨S_, .f32⟩
  | .hbm, ⟨7, _⟩ => ⟨S8448, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S_, .f32⟩
  | .hbm, ⟨13, _⟩ => ⟨S8448x1, .f32⟩
  | .hbm, ⟨14, _⟩ => ⟨S8448x1, .f32⟩
  | .hbm, ⟨15, _⟩ => ⟨S8448x1, .f32⟩
  | .hbm, ⟨16, _⟩ => ⟨S8448x2048, .f32⟩
  | .hbm, ⟨17, _⟩ => ⟨S8448x2048, .f32⟩
  | .hbm, ⟨18, _⟩ => ⟨S1x2048, .f32⟩
  | .hbm, ⟨19, _⟩ => ⟨S8448x2048, .f32⟩
  | .hbm, ⟨20, _⟩ => ⟨S8448x2048, .f32⟩
  | .hbm, ⟨21, _⟩ => ⟨S1x2048, .f32⟩
  | .hbm, ⟨22, _⟩ => ⟨S2048, .f32⟩
  | .hbm, ⟨23, _⟩ => ⟨S256x2048, .f32⟩
  | .hbm, ⟨24, _⟩ => ⟨S1x2048, .f32⟩
  | .hbm, ⟨25, _⟩ => ⟨S2048, .f32⟩
  | .hbm, ⟨26, _⟩ => ⟨S8192x2048, .f32⟩
  | .hbm, ⟨27, _⟩ => ⟨S8448x2048, .f32⟩
  | .hbm, ⟨28, _⟩ => ⟨S_, .f32⟩
  | .hbm, ⟨29, _⟩ => ⟨S8448x2048, .f32⟩
  | .hbm, ⟨30, _⟩ => ⟨S8448x2048, .f32⟩
  | .hbm, ⟨31, _⟩ => ⟨S8448x2048, .f32⟩
  | .hbm, ⟨32, _⟩ => ⟨S1x2048, .f32⟩
  | .hbm, ⟨33, _⟩ => ⟨S2048, .f32⟩
  | .hbm, ⟨34, _⟩ => ⟨S256x2048, .f32⟩
  | .hbm, ⟨35, _⟩ => ⟨S1x2048, .f32⟩
  | .hbm, ⟨36, _⟩ => ⟨S2048, .f32⟩
  | .hbm, ⟨37, _⟩ => ⟨S8192x2048, .f32⟩
  | .hbm, ⟨38, _⟩ => ⟨S8448x2048, .f32⟩
  | .hbm, ⟨39, _⟩ => ⟨S8448x2048, .f32⟩
  | .hbm, ⟨40, _⟩ => ⟨S1x2048x4096, .f32⟩
  | .hbm, ⟨41, _⟩ => ⟨S2048x4096, .f32⟩
  | .hbm, ⟨42, _⟩ => ⟨S8448x4096, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== OutOdd.lean ====
abbrev S8448x4096 : Shape := ⟨2, ![8448, 4096]⟩
abbrev S2x4096x2048 : Shape := ⟨3, ![2, 4096, 2048]⟩
abbrev S8448x2048 : Shape := ⟨2, ![8448, 2048]⟩
abbrev S2048 : Shape := ⟨1, ![2048]⟩
abbrev S2x2048 : Shape := ⟨2, ![2, 2048]⟩
abbrev S1x2048 : Shape := ⟨2, ![1, 2048]⟩
abbrev S1056x512 : Shape := ⟨2, ![1056, 512]⟩
abbrev S1x512x2048 : Shape := ⟨3, ![1, 512, 2048]⟩
abbrev S1056x2048 : Shape := ⟨2, ![1056, 2048]⟩
abbrev S1x512x512 : Shape := ⟨3, ![1, 512, 512]⟩
abbrev S512x512 : Shape := ⟨2, ![512, 512]⟩
abbrev S48x1 : Shape := ⟨2, ![48, 1]⟩
abbrev S48x2048 : Shape := ⟨2, ![48, 2048]⟩
abbrev S48 : Shape := ⟨1, ![48]⟩

abbrev nBuf : Space → Nat
  | .hbm => 7
  | .vmem => 10
  | .smem => 0
  | _ => 0

abbrev bufTy : (tb : Table) → Fin (tcTables nBuf tb) → BufTy
  | .hbm, ⟨0, _⟩ => ⟨S8448x4096, .bf16⟩
  | .hbm, ⟨1, _⟩ => ⟨S2x4096x2048, .f32⟩
  | .hbm, ⟨2, _⟩ => ⟨S8448x2048, .f32⟩
  | .hbm, ⟨3, _⟩ => ⟨S2048, .f32⟩
  | .hbm, ⟨4, _⟩ => ⟨S2x2048, .f32⟩
  | .hbm, ⟨5, _⟩ => ⟨S1x2048, .f32⟩
  | .hbm, ⟨6, _⟩ => ⟨S8448x2048, .f32⟩
  | .local _ .vmem, ⟨0, _⟩ => ⟨S1056x512, .bf16⟩
  | .local _ .vmem, ⟨1, _⟩ => ⟨S1056x512, .bf16⟩
  | .local _ .vmem, ⟨2, _⟩ => ⟨S1x512x2048, .f32⟩
  | .local _ .vmem, ⟨3, _⟩ => ⟨S1x512x2048, .f32⟩
  | .local _ .vmem, ⟨4, _⟩ => ⟨S1056x2048, .f32⟩
  | .local _ .vmem, ⟨5, _⟩ => ⟨S1056x2048, .f32⟩
  | .local _ .vmem, ⟨6, _⟩ => ⟨S1x2048, .f32⟩
  | .local _ .vmem, ⟨7, _⟩ => ⟨S2x2048, .f32⟩
  | .local _ .vmem, ⟨8, _⟩ => ⟨S1056x2048, .f32⟩
  | .local _ .vmem, ⟨9, _⟩ => ⟨S1056x2048, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v36 : BitVec 1 := Scalar.cmpi .eq arg1 c7_i32
  let v37 : BitVec 32 := Scalar.extui v36
  let c0_i32_30 : BitVec 32 := 0#32
  let v38 : BitVec 1 := Scalar.cmpi .ne v37 c0_i32_30
  v38

@[reducible] def k0_t1_loop : Scf.Loop 32 :=
  let c0_i32_31 : BitVec 32 := 0#32
  let c22_i32 : BitVec 32 := 22#32
  let v40 : BitVec 32 := Scalar.addi c0_i32_31 c22_i32
  let c1_i32 : BitVec 32 := 1#32
  ⟨c0_i32_31, v40, c1_i32⟩
def k0_mult1 (k0_t1 : Fin k0_t1_loop.trips) : BitVec 32 :=
  let c0_i32_31 : BitVec 32 := 0#32
  let c1_i32 : BitVec 32 := 1#32
  let arg8 : BitVec 32 := Scf.iv c0_i32_31 c1_i32 k0_t1
  let c48_i32 : BitVec 32 := 48#32
  let v41 : BitVec 32 := Scalar.muli arg8 c48_i32
  v41
def k0_off1 (k0_t1 : Fin k0_t1_loop.trips) : Fin 2 → Nat :=
  let c0_i32_31 : BitVec 32 := 0#32
  let c1_i32 : BitVec 32 := 1#32
  let arg8 : BitVec 32 := Scf.iv c0_i32_31 c1_i32 k0_t1
  let c48_i32 : BitVec 32 := 48#32
  let v41 : BitVec 32 := Scalar.muli arg8 c48_i32
  let v42 : BitVec 32 := v41
  let v49 : Index := Scalar.indexCast v42
  let c0_33 : Index := 0#32
  ![v49.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1056x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1056x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1056x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== OutOddReferenceIdeal.lean ====
abbrev S8448x4096 : Shape := ⟨2, ![8448, 4096]⟩
abbrev S2x4096x2048 : Shape := ⟨3, ![2, 4096, 2048]⟩
abbrev S8448x2048 : Shape := ⟨2, ![8448, 2048]⟩
abbrev S2048 : Shape := ⟨1, ![2048]⟩
abbrev S2x2048 : Shape := ⟨2, ![2, 2048]⟩
abbrev S1x2048 : Shape := ⟨2, ![1, 2048]⟩
abbrev S256x2048 : Shape := ⟨2, ![256, 2048]⟩
abbrev S8192x2048 : Shape := ⟨2, ![8192, 2048]⟩
abbrev S1x4096x2048 : Shape := ⟨3, ![1, 4096, 2048]⟩
abbrev S4096x2048 : Shape := ⟨2, ![4096, 2048]⟩
abbrev S_ : Shape := ⟨0, ![]⟩
abbrev S8448 : Shape := ⟨1, ![8448]⟩
abbrev S8448x1 : Shape := ⟨2, ![8448, 1]⟩

abbrev nBuf : Space → Nat
  | .hbm => 34
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S2x4096x2048, .f32⟩
  | .hbm, ⟨2, _⟩ => ⟨S8448x2048, .f32⟩
  | .hbm, ⟨3, _⟩ => ⟨S2048, .f32⟩
  | .hbm, ⟨4, _⟩ => ⟨S2x2048, .f32⟩
  | .hbm, ⟨5, _⟩ => ⟨S1x2048, .f32⟩
  | .hbm, ⟨6, _⟩ => ⟨S2048, .f32⟩
  | .hbm, ⟨7, _⟩ => ⟨S256x2048, .f32⟩
  | .hbm, ⟨8, _⟩ => ⟨S1x2048, .f32⟩
  | .hbm, ⟨9, _⟩ => ⟨S2048, .f32⟩
  | .hbm, ⟨10, _⟩ => ⟨S8192x2048, .f32⟩
  | .hbm, ⟨11, _⟩ => ⟨S8448x2048, .f32⟩
  | .hbm, ⟨12, _⟩ => ⟨S8448x4096, .f32⟩
  | .hbm, ⟨13, _⟩ => ⟨S1x4096x2048, .f32⟩
  | .hbm, ⟨14, _⟩ => ⟨S4096x2048, .f32⟩
  | .hbm, ⟨15, _⟩ => ⟨S8448x2048, .f32⟩
  | .hbm, ⟨16, _⟩ => ⟨S8448x2048, .f32⟩
  | .hbm, ⟨17, _⟩ => ⟨S_, .f32⟩
  | .hbm, ⟨18, _⟩ => ⟨S8448, .f32⟩
  | .hbm, ⟨19, _⟩ => ⟨S8448x1, .f32⟩
  | .hbm, ⟨20, _⟩ => ⟨S_, .f32⟩
  | .hbm, ⟨21, _⟩ => ⟨S8448x1, .f32⟩
  | .hbm, ⟨22, _⟩ => ⟨S8448x1, .f32⟩
  | .hbm, ⟨23, _⟩ => ⟨S_, .f32⟩
  | .hbm, ⟨24, _⟩ => ⟨S8448x1, .f32⟩
  | .hbm, ⟨25, _⟩ => ⟨S8448x1, .f32⟩
  | .hbm, ⟨26, _⟩ => ⟨S8448x1, .f32⟩
  | .hbm, ⟨27, _⟩ => ⟨S8448x2048, .f32⟩
  | .hbm, ⟨28, _⟩ => ⟨S8448x2048, .f32⟩
  | .hbm, ⟨29, _⟩ => ⟨S1x2048, .f32⟩
  | .hbm, ⟨30, _⟩ => ⟨S8448x2048, .f32⟩
  | .hbm, ⟨31, _⟩ => ⟨S8448x2048, .f32⟩
  | .hbm, ⟨32, _⟩ => ⟨S8448x2048, .f32⟩
  | .hbm, ⟨33, _⟩ => ⟨S8448x2048, .f32⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== OutEven.lean ====
abbrev S8448x1024 : Shape := ⟨2, ![8448, 1024]⟩
abbrev S2x2048x2048 : Shape := ⟨3, ![2, 2048, 2048]⟩
abbrev S8448x2048 : Shape := ⟨2, ![8448, 2048]⟩
abbrev S2048 : Shape := ⟨1, ![2048]⟩
abbrev S2x2048 : Shape := ⟨2, ![2, 2048]⟩
abbrev S1x2048 : Shape := ⟨2, ![1, 2048]⟩
abbrev S1056x512 : Shape := ⟨2, ![1056, 512]⟩
abbrev S1x512x2048 : Shape := ⟨3, ![1, 512, 2048]⟩
abbrev S1056x2048 : Shape := ⟨2, ![1056, 2048]⟩
abbrev S1x512x512 : Shape := ⟨3, ![1, 512, 512]⟩
abbrev S512x512 : Shape := ⟨2, ![512, 512]⟩
abbrev S48x1 : Shape := ⟨2, ![48, 1]⟩
abbrev S48x2048 : Shape := ⟨2, ![48, 2048]⟩
abbrev S48 : Shape := ⟨1, ![48]⟩

abbrev nBuf : Space → Nat
  | .hbm => 8
  | .vmem => 12
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S2x2048x2048, .f32⟩
  | .hbm, ⟨3, _⟩ => ⟨S8448x2048, .f32⟩
  | .hbm, ⟨4, _⟩ => ⟨S2048, .f32⟩
  | .hbm, ⟨5, _⟩ => ⟨S2x2048, .f32⟩
  | .hbm, ⟨6, _⟩ => ⟨S1x2048, .f32⟩
  | .hbm, ⟨7, _⟩ => ⟨S8448x2048, .f32⟩
  | .local _ .vmem, ⟨0, _⟩ => ⟨S1056x512, .bf16⟩
  | .local _ .vmem, ⟨1, _⟩ => ⟨S1056x512, .bf16⟩
  | .local _ .vmem, ⟨2, _⟩ => ⟨S1056x512, .bf16⟩
  | .local _ .vmem, ⟨3, _⟩ => ⟨S1056x512, .bf16⟩
  | .local _ .vmem, ⟨4, _⟩ => ⟨S1x512x2048, .f32⟩
  | .local _ .vmem, ⟨5, _⟩ => ⟨S1x512x2048, .f32⟩
  | .local _ .vmem, ⟨6, _⟩ => ⟨S1056x2048, .f32⟩
  | .local _ .vmem, ⟨7, _⟩ => ⟨S1056x2048, .f32⟩
  | .local _ .vmem, ⟨8, _⟩ => ⟨S1x2048, .f32⟩
  | .local _ .vmem, ⟨9, _⟩ => ⟨S2x2048, .f32⟩
  | .local _ .vmem, ⟨10, _⟩ => ⟨S1056x2048, .f32⟩
  | .local _ .vmem, ⟨11, _⟩ => ⟨S1056x2048, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v39 : BitVec 1 := Scalar.cmpi .eq arg1 c3_i32
  let v40 : BitVec 32 := Scalar.extui v39
  let c0_i32_32 : BitVec 32 := 0#32
  let v41 : BitVec 1 := Scalar.cmpi .ne v40 c0_i32_32
  v41

@[reducible] def k0_t1_loop : Scf.Loop 32 :=
  let c0_i32_33 : BitVec 32 := 0#32
  let c22_i32 : BitVec 32 := 22#32
  let v43 : BitVec 32 := Scalar.addi c0_i32_33 c22_i32
  let c1_i32 : BitVec 32 := 1#32
  ⟨c0_i32_33, v43, c1_i32⟩
def k0_mult1 (k0_t1 : Fin k0_t1_loop.trips) : BitVec 32 :=
  let c0_i32_33 : BitVec 32 := 0#32
  let c1_i32 : BitVec 32 := 1#32
  let arg9 : BitVec 32 := Scf.iv c0_i32_33 c1_i32 k0_t1
  let c48_i32 : BitVec 32 := 48#32
  let v44 : BitVec 32 := Scalar.muli arg9 c48_i32
  v44
def k0_off1 (k0_t1 : Fin k0_t1_loop.trips) : Fin 2 → Nat :=
  let c0_i32_33 : BitVec 32 := 0#32
  let c1_i32 : BitVec 32 := 1#32
  let arg9 : BitVec 32 := Scf.iv c0_i32_33 c1_i32 k0_t1
  let c48_i32 : BitVec 32 := 48#32
  let v44 : BitVec 32 := Scalar.muli arg9 c48_i32
  let v45 : BitVec 32 := v44
  let v52 : Index := Scalar.indexCast v45
  let c0_35 : Index := 0#32
  ![v52.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1056x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1056x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1056x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1056x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== OutEvenReferenceIdeal.lean ====
abbrev S8448x1024 : Shape := ⟨2, ![8448, 1024]⟩
abbrev S2x2048x2048 : Shape := ⟨3, ![2, 2048, 2048]⟩
abbrev S8448x2048 : Shape := ⟨2, ![8448, 2048]⟩
abbrev S2048 : Shape := ⟨1, ![2048]⟩
abbrev S2x2048 : Shape := ⟨2, ![2, 2048]⟩
abbrev S1x2048 : Shape := ⟨2, ![1, 2048]⟩
abbrev S256x2048 : Shape := ⟨2, ![256, 2048]⟩
abbrev S8192x2048 : Shape := ⟨2, ![8192, 2048]⟩
abbrev S1x2048x2048 : Shape := ⟨3, ![1, 2048, 2048]⟩
abbrev S2048x2048 : Shape := ⟨2, ![2048, 2048]⟩
abbrev S_ : Shape := ⟨0, ![]⟩
abbrev S8448 : Shape := ⟨1, ![8448]⟩
abbrev S8448x1 : Shape := ⟨2, ![8448, 1]⟩

abbrev nBuf : Space → Nat
  | .hbm => 36
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S2x2048x2048, .f32⟩
  | .hbm, ⟨3, _⟩ => ⟨S8448x2048, .f32⟩
  | .hbm, ⟨4, _⟩ => ⟨S2048, .f32⟩
  | .hbm, ⟨5, _⟩ => ⟨S2x2048, .f32⟩
  | .hbm, ⟨6, _⟩ => ⟨S1x2048, .f32⟩
  | .hbm, ⟨7, _⟩ => ⟨S2048, .f32⟩
  | .hbm, ⟨8, _⟩ => ⟨S256x2048, .f32⟩
  | .hbm, ⟨9, _⟩ => ⟨S1x2048, .f32⟩
  | .hbm, ⟨10, _⟩ => ⟨S2048, .f32⟩
  | .hbm, ⟨11, _⟩ => ⟨S8192x2048, .f32⟩
  | .hbm, ⟨12, _⟩ => ⟨S8448x2048, .f32⟩
  | .hbm, ⟨13, _⟩ => ⟨S8448x2048, .bf16⟩
  | .hbm, ⟨14, _⟩ => ⟨S8448x2048, .f32⟩
  | .hbm, ⟨15, _⟩ => ⟨S1x2048x2048, .f32⟩
  | .hbm, ⟨16, _⟩ => ⟨S2048x2048, .f32⟩
  | .hbm, ⟨17, _⟩ => ⟨S8448x2048, .f32⟩
  | .hbm, ⟨18, _⟩ => ⟨S8448x2048, .f32⟩
  | .hbm, ⟨19, _⟩ => ⟨S_, .f32⟩
  | .hbm, ⟨20, _⟩ => ⟨S8448, .f32⟩
  | .hbm, ⟨21, _⟩ => ⟨S8448x1, .f32⟩
  | .hbm, ⟨22, _⟩ => ⟨S_, .f32⟩
  | .hbm, ⟨23, _⟩ => ⟨S8448x1, .f32⟩
  | .hbm, ⟨24, _⟩ => ⟨S8448x1, .f32⟩
  | .hbm, ⟨25, _⟩ => ⟨S_, .f32⟩
  | .hbm, ⟨26, _⟩ => ⟨S8448x1, .f32⟩
  | .hbm, ⟨27, _⟩ => ⟨S8448x1, .f32⟩
  | .hbm, ⟨28, _⟩ => ⟨S8448x1, .f32⟩
  | .hbm, ⟨29, _⟩ => ⟨S8448x2048, .f32⟩
  | .hbm, ⟨30, _⟩ => ⟨S8448x2048, .f32⟩
  | .hbm, ⟨31, _⟩ => ⟨S1x2048, .f32⟩
  | .hbm, ⟨32, _⟩ => ⟨S8448x2048, .f32⟩
  | .hbm, ⟨33, _⟩ => ⟨S8448x2048, .f32⟩
  | .hbm, ⟨34, _⟩ => ⟨S8448x2048, .f32⟩
  | .hbm, ⟨35, _⟩ => ⟨S8448x2048, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Glu.lean ====
abbrev S8448x1024 : Shape := ⟨2, ![8448, 1024]⟩
abbrev S1024x1024 : Shape := ⟨2, ![1024, 1024]⟩
abbrev S1024 : Shape := ⟨1, ![1024]⟩
abbrev S1x1024 : Shape := ⟨2, ![1, 1024]⟩
abbrev S1056x1024 : Shape := ⟨2, ![1056, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S1024x1024, .f32⟩
  | .hbm, ⟨2, _⟩ => ⟨S1024, .f32⟩
  | .hbm, ⟨3, _⟩ => ⟨S1024x1024, .bf16⟩
  | .hbm, ⟨4, _⟩ => ⟨S1x1024, .f32⟩
  | .hbm, ⟨5, _⟩ => ⟨S8448x1024, .bf16⟩
  | .local _ .vmem, ⟨0, _⟩ => ⟨S1056x1024, .f32⟩
  | .local _ .vmem, ⟨1, _⟩ => ⟨S1056x1024, .f32⟩
  | .local _ .vmem, ⟨2, _⟩ => ⟨S1024x1024, .bf16⟩
  | .local _ .vmem, ⟨3, _⟩ => ⟨S1x1024, .f32⟩
  | .local _ .vmem, ⟨4, _⟩ => ⟨S1056x1024, .bf16⟩
  | .local _ .vmem, ⟨5, _⟩ => ⟨S1056x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1056x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1056x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GluReferenceIdeal.lean ====
abbrev S8448x1024 : Shape := ⟨2, ![8448, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x1024, .f32⟩
  | .hbm, ⟨2, _⟩ => ⟨S1024, .f32⟩
  | .hbm, ⟨3, _⟩ => ⟨S8448x1024, .f32⟩
  | .hbm, ⟨4, _⟩ => ⟨S8448x1024, .f32⟩
  | .hbm, ⟨5, _⟩ => ⟨S_, .f32⟩
  | .hbm, ⟨6, _⟩ => ⟨S8448x1024, .f32⟩
  | .hbm, ⟨7, _⟩ => ⟨S8448x1024, .f32⟩
  | .hbm, ⟨8, _⟩ => ⟨S8448x1024, .f32⟩
  | .hbm, ⟨9, _⟩ => ⟨S_, .f32⟩
  | .hbm, ⟨10, _⟩ => ⟨S8448x1024, .f32⟩
  | .hbm, ⟨11, _⟩ => ⟨S8448x1024, .f32⟩
  | .hbm, ⟨12, _⟩ => ⟨S8448x1024, .f32⟩
  | .hbm, ⟨13, _⟩ => ⟨S_, .f32⟩
  | .hbm, ⟨14, _⟩ => ⟨S8448x1024, .f32⟩
  | .hbm, ⟨15, _⟩ => ⟨S8448x1024, .f32⟩
  | .hbm, ⟨16, _⟩ => ⟨S_, .f32⟩
  | .hbm, ⟨17, _⟩ => ⟨S8448x1024, .f32⟩
  | .hbm, ⟨18, _⟩ => ⟨S8448x1024, .f32⟩
  | .hbm, ⟨19, _⟩ => ⟨S8448x1024, .f32⟩
  | .hbm, ⟨20, _⟩ => ⟨S8448x1024, .f32⟩
  | .hbm, ⟨21, _⟩ => ⟨S1x1024, .f32⟩
  | .hbm, ⟨22, _⟩ => ⟨S8448x1024, .f32⟩
  | .hbm, ⟨23, _⟩ => ⟨S8448x1024, .f32⟩
  | .hbm, ⟨24, _⟩ => ⟨S8448x1024, .f32⟩
  | .hbm, ⟨25, _⟩ => ⟨S8448x1024, .f32⟩
  | .hbm, ⟨26, _⟩ => ⟨S_, .f32⟩
  | .hbm, ⟨27, _⟩ => ⟨S8448x1024, .f32⟩
  | .hbm, ⟨28, _⟩ => ⟨S8448x1024, .f32⟩
  | .hbm, ⟨29, _⟩ => ⟨S_, .f32⟩
  | .hbm, ⟨30, _⟩ => ⟨S8448x1024, .f32⟩
  | .hbm, ⟨31, _⟩ => ⟨S8448x1024, .f32⟩
  | .hbm, ⟨32, _⟩ => ⟨S8448x1024, .f32⟩
  | .hbm, ⟨33, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Finish.lean ====
abbrev S2x8448x4096 : Shape := ⟨3, ![2, 8448, 4096]⟩
abbrev S8448x6144 : Shape := ⟨2, ![8448, 6144]⟩
abbrev S8448x10240 : Shape := ⟨2, ![8448, 10240]⟩
abbrev S64 : Shape := ⟨1, ![64]⟩
abbrev S4096 : Shape := ⟨1, ![4096]⟩
abbrev S64x64 : Shape := ⟨2, ![64, 64]⟩
abbrev S1x4096 : Shape := ⟨2, ![1, 4096]⟩
abbrev S8448x4096 : Shape := ⟨2, ![8448, 4096]⟩
abbrev S2x176x4096 : Shape := ⟨3, ![2, 176, 4096]⟩
abbrev S176x4096 : Shape := ⟨2, ![176, 4096]⟩
abbrev S1x176x4096 : Shape := ⟨3, ![1, 176, 4096]⟩
abbrev S176 : Shape := ⟨1, ![176]⟩
abbrev S176x1 : Shape := ⟨2, ![176, 1]⟩

abbrev nBuf : Space → Nat
  | .hbm => 10
  | .vmem => 10
  | .smem => 0
  | _ => 0

abbrev bufTy : (tb : Table) → Fin (tcTables nBuf tb) → BufTy
  | .hbm, ⟨0, _⟩ => ⟨S2x8448x4096, .f32⟩
  | .hbm, ⟨1, _⟩ => ⟨S8448x6144, .f32⟩
  | .hbm, ⟨2, _⟩ => ⟨S8448x10240, .f32⟩
  | .hbm, ⟨3, _⟩ => ⟨S64, .f32⟩
  | .hbm, ⟨4, _⟩ => ⟨S4096, .f32⟩
  | .hbm, ⟨5, _⟩ => ⟨S64x64, .f32⟩
  | .hbm, ⟨6, _⟩ => ⟨S4096, .f32⟩
  | .hbm, ⟨7, _⟩ => ⟨S1x4096, .f32⟩
  | .hbm, ⟨8, _⟩ => ⟨S1x4096, .f32⟩
  | .hbm, ⟨9, _⟩ => ⟨S8448x4096, .bf16⟩
  | .local _ .vmem, ⟨0, _⟩ => ⟨S2x176x4096, .f32⟩
  | .local _ .vmem, ⟨1, _⟩ => ⟨S2x176x4096, .f32⟩
  | .local _ .vmem, ⟨2, _⟩ => ⟨S176x4096, .f32⟩
  | .local _ .vmem, ⟨3, _⟩ => ⟨S176x4096, .f32⟩
  | .local _ .vmem, ⟨4, _⟩ => ⟨S176x4096, .f32⟩
  | .local _ .vmem, ⟨5, _⟩ => ⟨S176x4096, .f32⟩
  | .local _ .vmem, ⟨6, _⟩ => ⟨S1x4096, .f32⟩
  | .local _ .vmem, ⟨7, _⟩ => ⟨S1x4096, .f32⟩
  | .local _ .vmem, ⟨8, _⟩ => ⟨S176x4096, .bf16⟩
  | .local _ .vmem, ⟨9, _⟩ => ⟨S176x4096, .bf16⟩
  | _, _ => ⟨S2x8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![48], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x176x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S176x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FinishReferenceIdeal.lean ====
abbrev S2x8448x4096 : Shape := ⟨3, ![2, 8448, 4096]⟩
abbrev S8448x6144 : Shape := ⟨2, ![8448, 6144]⟩
abbrev S8448x10240 : Shape := ⟨2, ![8448, 10240]⟩
abbrev S64 : Shape := ⟨1, ![64]⟩
abbrev S4096 : Shape := ⟨1, ![4096]⟩
abbrev S8448x4096 : Shape := ⟨2, ![8448, 4096]⟩
abbrev S8448x64x64 : Shape := ⟨3, ![8448, 64, 64]⟩
abbrev S64x1 : Shape := ⟨2, ![64, 1]⟩
abbrev S1x64x1 : Shape := ⟨3, ![1, 64, 1]⟩
abbrev S1x8448x4096 : Shape := ⟨3, ![1, 8448, 4096]⟩
abbrev S_ : Shape := ⟨0, ![]⟩
abbrev S8448 : Shape := ⟨1, ![8448]⟩
abbrev S8448x1 : Shape := ⟨2, ![8448, 1]⟩
abbrev S1x4096 : Shape := ⟨2, ![1, 4096]⟩

abbrev nBuf : Space → Nat
  | .hbm => 46
  | .vmem => 0
  | .smem => 0
  | _ => 0

abbrev bufTy : (tb : Table) → Fin (tcTables nBuf tb) → BufTy
  | .hbm, ⟨0, _⟩ => ⟨S2x8448x4096, .f32⟩
  | .hbm, ⟨1, _⟩ => ⟨S8448x6144, .f32⟩
  | .hbm, ⟨2, _⟩ => ⟨S8448x10240, .f32⟩
  | .hbm, ⟨3, _⟩ => ⟨S64, .f32⟩
  | .hbm, ⟨4, _⟩ => ⟨S4096, .f32⟩
  | .hbm, ⟨5, _⟩ => ⟨S8448x4096, .f32⟩
  | .hbm, ⟨6, _⟩ => ⟨S8448x64x64, .f32⟩
  | .hbm, ⟨7, _⟩ => ⟨S64x1, .f32⟩
  | .hbm, ⟨8, _⟩ => ⟨S1x64x1, .f32⟩
  | .hbm, ⟨9, _⟩ => ⟨S8448x64x64, .f32⟩
  | .hbm, ⟨10, _⟩ => ⟨S8448x64x64, .f32⟩
  | .hbm, ⟨11, _⟩ => ⟨S8448x4096, .f32⟩
  | .hbm, ⟨12, _⟩ => ⟨S1x8448x4096, .f32⟩
  | .hbm, ⟨13, _⟩ => ⟨S8448x4096, .f32⟩
  | .hbm, ⟨14, _⟩ => ⟨S8448x4096, .f32⟩
  | .hbm, ⟨15, _⟩ => ⟨S1x8448x4096, .f32⟩
  | .hbm, ⟨16, _⟩ => ⟨S8448x4096, .f32⟩
  | .hbm, ⟨17, _⟩ => ⟨S8448x4096, .f32⟩
  | .hbm, ⟨18, _⟩ => ⟨S8448x4096, .f32⟩
  | .hbm, ⟨19, _⟩ => ⟨S8448x4096, .f32⟩
  | .hbm, ⟨20, _⟩ => ⟨S8448x4096, .f32⟩
  | .hbm, ⟨21, _⟩ => ⟨S_, .f32⟩
  | .hbm, ⟨22, _⟩ => ⟨S8448x4096, .f32⟩
  | .hbm, ⟨23, _⟩ => ⟨S8448x4096, .f32⟩
  | .hbm, ⟨24, _⟩ => ⟨S_, .f32⟩
  | .hbm, ⟨25, _⟩ => ⟨S8448x4096, .f32⟩
  | .hbm, ⟨26, _⟩ => ⟨S8448x4096, .f32⟩
  | .hbm, ⟨27, _⟩ => ⟨S8448x4096, .f32⟩
  | .hbm, ⟨28, _⟩ => ⟨S8448x4096, .f32⟩
  | .hbm, ⟨29, _⟩ => ⟨S8448x4096, .f32⟩
  | .hbm, ⟨30, _⟩ => ⟨S_, .f32⟩
  | .hbm, ⟨31, _⟩ => ⟨S8448, .f32⟩
  | .hbm, ⟨32, _⟩ => ⟨S8448x1, .f32⟩
  | .hbm, ⟨33, _⟩ => ⟨S_, .f32⟩
  | .hbm, ⟨34, _⟩ => ⟨S8448x1, .f32⟩
  | .hbm, ⟨35, _⟩ => ⟨S8448x1, .f32⟩
  | .hbm, ⟨36, _⟩ => ⟨S_, .f32⟩
  | .hbm, ⟨37, _⟩ => ⟨S8448x1, .f32⟩
  | .hbm, ⟨38, _⟩ => ⟨S8448x1, .f32⟩
  | .hbm, ⟨39, _⟩ => ⟨S8448x1, .f32⟩
  | .hbm, ⟨40, _⟩ => ⟨S8448x4096, .f32⟩
  | .hbm, ⟨41, _⟩ => ⟨S8448x4096, .f32⟩
  | .hbm, ⟨42, _⟩ => ⟨S1x4096, .f32⟩
  | .hbm, ⟨43, _⟩ => ⟨S8448x4096, .f32⟩
  | .hbm, ⟨44, _⟩ => ⟨S8448x4096, .f32⟩
  | .hbm, ⟨45, _⟩ => ⟨S8448x4096, .bf16⟩
  | _, _ => ⟨S2x8448x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_cst_0 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Proof.KernelIdeal.Rope.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Rope

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # What the rotation's body computes, tile by tile -/

/-- A tile of queries rotated and scaled. -/
def qTile (cs sn t : Vec F S256x128 .f32) : FVec F S256x128 .bf16 := k0_pay8 cs sn t
/-- A tile of keys rotated. -/
def kTile (cs sn t : Vec F S256x128 .f32) : FVec F S256x128 .bf16 := k0_pay9 (k0_pay5 cs) (k0_pay6 sn) k0_pay7 t 112#32

/-- The pieces of the queries' block, the last written first. -/
def qPieces (x : Vec F S256x3072 .f32) (cs sn : Vec F S256x128 .f32) : List (View.Piece (Elt F) S256x1024 .bf16) :=
  [ ⟨Rect.unit (s := S256x1024) ![0, 896] S256x128.size inb_S256x1024_S256x128_0_896, qTile cs sn (VecWindow.window x ![0, 896] S256x128.size inb_S256x3072_S256x128_0_896)⟩,
    ⟨Rect.unit (s := S256x1024) ![0, 768] S256x128.size inb_S256x1024_S256x128_0_768, qTile cs sn (VecWindow.window x ![0, 768] S256x128.size inb_S256x3072_S256x128_0_768)⟩,
    ⟨Rect.unit (s := S256x1024) ![0, 640] S256x128.size inb_S256x1024_S256x128_0_640, qTile cs sn (VecWindow.window x ![0, 640] S256x128.size inb_S256x3072_S256x128_0_640)⟩,
    ⟨Rect.unit (s := S256x1024) ![0, 512] S256x128.size inb_S256x1024_S256x128_0_512, qTile cs sn (VecWindow.window x ![0, 512] S256x128.size inb_S256x3072_S256x128_0_512)⟩,
    ⟨Rect.unit (s := S256x1024) ![0, 384] S256x128.size inb_S256x1024_S256x128_0_384, qTile cs sn (VecWindow.window x ![0, 384] S256x128.size inb_S256x3072_S256x128_0_384)⟩,
    ⟨Rect.unit (s := S256x1024) ![0, 256] S256x128.size inb_S256x1024_S256x128_0_256, qTile cs sn (VecWindow.window x ![0, 256] S256x128.size inb_S256x3072_S256x128_0_256)⟩,
    ⟨Rect.unit (s := S256x1024) ![0, 128] S256x128.size inb_S256x1024_S256x128_0_128, qTile cs sn (VecWindow.window x ![0, 128] S256x128.size inb_S256x3072_S256x128_0_128)⟩,
    ⟨Rect.unit (s := S256x1024) ![0, 0] S256x128.size inb_S256x1024_S256x128_0_0, qTile cs sn (VecWindow.window x ![0, 0] S256x128.size inb_S256x3072_S256x128_0_0)⟩ ]
/-- The pieces of the keys' block. -/
def kPieces (x : Vec F S256x3072 .f32) (cs sn : Vec F S256x128 .f32) : List (View.Piece (Elt F) S256x1024 .bf16) :=
  [ ⟨Rect.unit (s := S256x1024) ![0, 896] S256x128.size inb_S256x1024_S256x128_0_896, kTile cs sn (VecWindow.window x ![0, 1920] S256x128.size inb_S256x3072_S256x128_0_1920)⟩,
    ⟨Rect.unit (s := S256x1024) ![0, 768] S256x128.size inb_S256x1024_S256x128_0_768, kTile cs sn (VecWindow.window x ![0, 1792] S256x128.size inb_S256x3072_S256x128_0_1792)⟩,
    ⟨Rect.unit (s := S256x1024) ![0, 640] S256x128.size inb_S256x1024_S256x128_0_640, kTile cs sn (VecWindow.window x ![0, 1664] S256x128.size inb_S256x3072_S256x128_0_1664)⟩,
    ⟨Rect.unit (s := S256x1024) ![0, 512] S256x128.size inb_S256x1024_S256x128_0_512, kTile cs sn (VecWindow.window x ![0, 1536] S256x128.size inb_S256x3072_S256x128_0_1536)⟩,
    ⟨Rect.unit (s := S256x1024) ![0, 384] S256x128.size inb_S256x1024_S256x128_0_384, kTile cs sn (VecWindow.window x ![0, 1408] S256x128.size inb_S256x3072_S256x128_0_1408)⟩,
    ⟨Rect.unit (s := S256x1024) ![0, 256] S256x128.size inb_S256x1024_S256x128_0_256, kTile cs sn (VecWindow.window x ![0, 1280] S256x128.size inb_S256x3072_S256x128_0_1280)⟩,
    ⟨Rect.unit (s := S256x1024) ![0, 128] S256x128.size inb_S256x1024_S256x128_0_128, kTile cs sn (VecWindow.window x ![0, 1152] S256x128.size inb_S256x3072_S256x128_0_1152)⟩,
    ⟨Rect.unit (s := S256x1024) ![0, 0] S256x128.size inb_S256x1024_S256x128_0_0, kTile cs sn (VecWindow.window x ![0, 1024] S256x128.size inb_S256x3072_S256x128_0_1024)⟩ ]
/-- The pieces of the transposed values' block: each head's values, and sixteen rows of ones below them. -/
def vPieces (x : Vec F S256x3072 .f32) : List (View.Piece (Elt F) S8x144x256 .bf16) :=
  [ ⟨Rect.unit (s := S8x144x256) ![7, 128, 0] S1x16x256.size inb_S8x144x256_S1x16x256_7_128_0, k0_pay4⟩,
    ⟨Rect.unit (s := S8x144x256) ![7, 0, 0] S1x128x256.size inb_S8x144x256_S1x128x256_7_0_0, k0_pay3 (VecWindow.window x ![0, 2944] S256x128.size inb_S256x3072_S256x128_0_2944)⟩,
    ⟨Rect.unit (s := S8x144x256) ![6, 128, 0] S1x16x256.size inb_S8x144x256_S1x16x256_6_128_0, k0_pay4⟩,
    ⟨Rect.unit (s := S8x144x256) ![6, 0, 0] S1x128x256.size inb_S8x144x256_S1x128x256_6_0_0, k0_pay3 (VecWindow.window x ![0, 2816] S256x128.size inb_S256x3072_S256x128_0_2816)⟩,
    ⟨Rect.unit (s := S8x144x256) ![5, 128, 0] S1x16x256.size inb_S8x144x256_S1x16x256_5_128_0, k0_pay4⟩,
    ⟨Rect.unit (s := S8x144x256) ![5, 0, 0] S1x128x256.size inb_S8x144x256_S1x128x256_5_0_0, k0_pay3 (VecWindow.window x ![0, 2688] S256x128.size inb_S256x3072_S256x128_0_2688)⟩,
    ⟨Rect.unit (s := S8x144x256) ![4, 128, 0] S1x16x256.size inb_S8x144x256_S1x16x256_4_128_0, k0_pay4⟩,
    ⟨Rect.unit (s := S8x144x256) ![4, 0, 0] S1x128x256.size inb_S8x144x256_S1x128x256_4_0_0, k0_pay3 (VecWindow.window x ![0, 2560] S256x128.size inb_S256x3072_S256x128_0_2560)⟩,
    ⟨Rect.unit (s := S8x144x256) ![3, 128, 0] S1x16x256.size inb_S8x144x256_S1x16x256_3_128_0, k0_pay4⟩,
    ⟨Rect.unit (s := S8x144x256) ![3, 0, 0] S1x128x256.size inb_S8x144x256_S1x128x256_3_0_0, k0_pay3 (VecWindow.window x ![0, 2432] S256x128.size inb_S256x3072_S256x128_0_2432)⟩,
    ⟨Rect.unit (s := S8x144x256) ![2, 128, 0] S1x16x256.size inb_S8x144x256_S1x16x256_2_128_0, k0_pay4⟩,
    ⟨Rect.unit (s := S8x144x256) ![2, 0, 0] S1x128x256.size inb_S8x144x256_S1x128x256_2_0_0, k0_pay3 (VecWindow.window x ![0, 2304] S256x128.size inb_S256x3072_S256x128_0_2304)⟩,
    ⟨Rect.unit (s := S8x144x256) ![1, 128, 0] S1x16x256.size inb_S8x144x256_S1x16x256_1_128_0, k0_pay4⟩,
    ⟨Rect.unit (s := S8x144x256) ![1, 0, 0] S1x128x256.size inb_S8x144x256_S1x128x256_1_0_0, k0_pay3 (VecWindow.window x ![0, 2176] S256x128.size inb_S256x3072_S256x128_0_2176)⟩,
    ⟨Rect.unit (s := S8x144x256) ![0, 128, 0] S1x16x256.size inb_S8x144x256_S1x16x256_0_128_0, k0_pay4⟩,
    ⟨Rect.unit (s := S8x144x256) ![0, 0, 0] S1x128x256.size inb_S8x144x256_S1x128x256_0_0_0, k0_pay3 (VecWindow.window x ![0, 2048] S256x128.size inb_S256x3072_S256x128_0_2048)⟩ ]

/-- The queries' block. -/
def qBlk (x : Vec F S256x3072 .f32) (cs sn : Vec F S256x128 .f32) : Vec F S256x1024 .bf16 := View.canon (Val := Elt F) (qPieces x cs sn)
/-- The keys' block. -/
def kBlk (x : Vec F S256x3072 .f32) (cs sn : Vec F S256x128 .f32) : Vec F S256x1024 .bf16 := View.canon (Val := Elt F) (kPieces x cs sn)
/-- The transposed values' block. -/
def vBlk (x : Vec F S256x3072 .f32) : Vec F S8x144x256 .bf16 := View.canon (Val := Elt F) (vPieces x)

set_option maxHeartbeats 4000000 in
/-- The body on whole buffers: the inputs as they were, and the three output blocks. -/
theorem body (c : Dev nD) (i : grid0.Coords)
  (arg1 : Memref sig .tc .vmem S256x3072 .f32) (harg1 : arg1.IsWhole)
  (arg2 : Memref sig .tc .vmem S256x128 .f32) (harg2 : arg2.IsWhole)
  (arg3 : Memref sig .tc .vmem S256x128 .f32) (harg3 : arg3.IsWhole)
  (arg4 : Memref sig .tc .vmem S256x1024 .bf16) (harg4 : arg4.IsWhole)
  (arg5 : Memref sig .tc .vmem S256x1024 .bf16) (harg5 : arg5.IsWhole)
  (arg6 : Memref sig .tc .vmem S8x144x256 .bf16) (harg6 : arg6.IsWhole)
    (x : Vec F S256x3072 .f32) (cs sn : Vec F S256x128 .f32) (E : Set ℕ) (K : PUnit → sProp 𝕄) :
    iprop(owns (c : Thread nD τ) arg1 fullShare x ∗ owns (c : Thread nD τ) arg2 fullShare cs ∗ owns (c : Thread nD τ) arg3 fullShare sn
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x ∗ owns (c : Thread nD τ) arg2 fullShare cs ∗ owns (c : Thread nD τ) arg3 fullShare sn
            ∗ owns (c : Thread nD τ) arg4 fullShare (qBlk x cs sn) ∗ owns (c : Thread nD τ) arg5 fullShare (kBlk x cs sn) ∗ owns (c : Thread nD τ) arg6 fullShare (vBlk x)) -∗ K ⟨⟩))
      ⊢ wp frame (wpE (defs₀ (F := F)) Variants.none c none) E (cc0_rope_split i arg1 harg1 arg2 harg2 arg3 harg3 arg4 harg4 arg5 harg5 arg6 harg6) K := by
  simp only [cc0_rope_split_eq_skeleton]; unfold cc0_rope_split_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%X1, %hX1, H1⟩, ⟨%X2, %hX2, H2⟩, ⟨%X3, %hX3, H3⟩, ⟨%d4, %X4, -, H4⟩, ⟨%d5, %X5, -, H5⟩, ⟨%d6, %X6, -, H6⟩, Hk⟩
  sl_exec
  sl_step
  iapply Hk
  isplitl [H1]
  · iexists _; isplitr; · ipureintro; exact hX1
    iexact H1
  isplitl [H2]
  · iexists _; isplitr; · ipureintro; exact hX2
    iexact H2
  isplitl [H3]
  · iexists _; isplitr; · ipureintro; exact hX3
    iexact H3
  isplitl [H4]
  · iexists _; isplitr; swap; · iexact H4
    ipureintro
    refine (View.read_writes_eq_canon _ _ _ ?_).trans ?_
    · exact View.cover_of_tiledL _ S256x128.size (by sl_kernel_rfl)
    have e2 : arg2.view.readAt (Elt F) (Rect.unit (s := S256x128) ![0, 0] S256x128.size inb_S256x128_S256x128_0_0).toLoadRect X2 = cs := by rw [View.readAt_full, hX2]
    have e3 : arg3.view.readAt (Elt F) (Rect.unit (s := S256x128) ![0, 0] S256x128.size inb_S256x128_S256x128_0_0).toLoadRect X3 = sn := by rw [View.readAt_full, hX3]
    sl_unfold_run_names
    try rw [e2, e3]
    subst hX1
    rfl
  isplitl [H5]
  · iexists _; isplitr; swap; · iexact H5
    ipureintro
    refine (View.read_writes_eq_canon _ _ _ ?_).trans ?_
    · exact View.cover_of_tiledL _ S256x128.size (by sl_kernel_rfl)
    have e2 : arg2.view.readAt (Elt F) (Rect.unit (s := S256x128) ![0, 0] S256x128.size inb_S256x128_S256x128_0_0).toLoadRect X2 = cs := by rw [View.readAt_full, hX2]
    have e3 : arg3.view.readAt (Elt F) (Rect.unit (s := S256x128) ![0, 0] S256x128.size inb_S256x128_S256x128_0_0).toLoadRect X3 = sn := by rw [View.readAt_full, hX3]
    sl_unfold_run_names
    try rw [e2, e3]
    subst hX1
    rfl
  · iexists _; isplitr; swap; · iexact H6
    ipureintro
    refine (View.read_writes_eq_canon _ _ _ ?_).trans ?_
    · exact View.cover_of_tiledBy _ ![1, 16, 256] (by sl_kernel_rfl)
    have e2 : arg2.view.readAt (Elt F) (Rect.unit (s := S256x128) ![0, 0] S256x128.size inb_S256x128_S256x128_0_0).toLoadRect X2 = cs := by rw [View.readAt_full, hX2]
    have e3 : arg3.view.readAt (Elt F) (Rect.unit (s := S256x128) ![0, 0] S256x128.size inb_S256x128_S256x128_0_0).toLoadRect X3 = sn := by rw [View.readAt_full, hX3]
    sl_unfold_run_names
    try rw [e2, e3]
    subst hX1
    rfl

end Cert.KernelIdeal.Rope
-- ==== Proof.KernelIdeal.Region0.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KernelIdeal.Rope
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The rotation over its grid -/

section Region

-- the buffers' contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- A filling for a part of window 0's buffer that no fetch leaves unfilled. -/
def dflt : (cfg0.win 0).block.Idx → Elt F (cfg0.win 0).elt := fun _ => Classical.choice inferInstance
/-- What window 0's buffer holds at point `t`: its block, whole. -/
def xblk (c : Dev nD) (t : Fin cfg0.N) : (cfg0.win 0).block.Idx → Elt F (cfg0.win 0).elt :=
  (cfg0.win 0).fill (cfg0.grid.coords t) dflt (iblk V c 0 t)
/-- No transfer of window 0 is cut. -/
theorem xsize_eq : ∀ t : Fin cfg0.N, ∀ a, (cfg0.win 0).xsize (cfg0.grid.coords t) a = (cfg0.win 0).size a := by decide +kernel
/-- Every index of window 0's block is moved at every point. -/
theorem moved_all (t : Fin cfg0.N) (j : (cfg0.win 0).block.Idx) : (cfg0.win 0).moved (cfg0.grid.coords t) j = true :=
  ((cfg0.win 0).moved_iff _ j).mpr fun a => by rw [xsize_eq t a]; exact (j a).isLt
/-- A fill covers the whole buffer, whatever it held. -/
theorem fill_all (t : Fin cfg0.N) (d d' : (cfg0.win 0).block.Idx → Elt F (cfg0.win 0).elt) (g) :
    (cfg0.win 0).fill (cfg0.grid.coords t) d g = (cfg0.win 0).fill (cfg0.grid.coords t) d' g := by
  funext j; unfold Pipeline.Window.fill; rw [dif_pos (moved_all t j), dif_pos (moved_all t j)]

/-- The pipeline's data: the arrays as the region finds them; after the body each input's buffer at its block and each
    output's at what the body computes of the input blocks. -/
def dat (c : Dev nD) : Dat τ (Elt F) Unit ℕ (UR sig nD τ) ℕ cfg0 c where
  A w := V c (Pipeline.arrRef spec0 w)
  after w t := match w with
    | ⟨0, _⟩ => xblk V c t
    | ⟨1, _⟩ => iblk V c 1 t
    | ⟨2, _⟩ => iblk V c 2 t
    | ⟨3, _⟩ => Rope.qBlk (xblk V c t) (iblk V c 1 t) (iblk V c 2 t)
    | ⟨4, _⟩ => Rope.kBlk (xblk V c t) (iblk V c 1 t) (iblk V c 2 t)
    | ⟨5, _⟩ => Rope.vBlk (xblk V c t)
  Φ _ := Pipeline.ΦA spec0 c
  q w := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = xblk V c t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = Rope.qBlk (xblk V c t) (iblk V c 1 t) (iblk V c 2 t) := by dsimp only [dat]
theorem after_4 (c : Dev nD) (t : Fin cfg0.N) : (dat V c).after 4 t = Rope.kBlk (xblk V c t) (iblk V c 1 t) (iblk V c 2 t) := by dsimp only [dat]
theorem after_5 (c : Dev nD) (t : Fin cfg0.N) : (dat V c).after 5 t = Rope.vBlk (xblk V c t) := by dsimp only [dat]

/-! Each input's buffer holds its block at every point, fetched there or not. -/

theorem before_0 (c : Dev nD) (t : Fin cfg0.N) (d) : (dat V c).before 0 t d = xblk V c t :=
  ((dat V c).before_in_eq_fetched 0 rfl (fun _ => rfl)
      (fun t t' h => funext fun a => congrArg (fun n => Pipeline.Clip.of n ((cfg0.win 0).size a) (S8448x4096.size a)) (congrFun h a))
      (fun t => by rw [after_0]; unfold xblk; rw [Pipeline.Window.cut_fill]; unfold Dat.blockOf iblk; rw [A_eq]; try rfl) t d).trans
    (by unfold Dat.fetched xblk; rw [fill_all t d dflt]; unfold Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)

/-! Each window's staging memref at a point. -/

abbrev ms0 (t : Fin cfg0.N) : Memref sig .tc .vmem S256x3072 .f32 := win0_0.stage (cfg0.slots t 0)
abbrev ms1 (t : Fin cfg0.N) : Memref sig .tc .vmem S256x128 .f32 := win0_1.stage (cfg0.slots t 1)
abbrev ms2 (t : Fin cfg0.N) : Memref sig .tc .vmem S256x128 .f32 := win0_2.stage (cfg0.slots t 2)
abbrev ms3 (t : Fin cfg0.N) : Memref sig .tc .vmem S256x1024 .bf16 := win0_3.stage (cfg0.slots t 3)
abbrev ms4 (t : Fin cfg0.N) : Memref sig .tc .vmem S256x1024 .bf16 := win0_4.stage (cfg0.slots t 4)
abbrev ms5 (t : Fin cfg0.N) : Memref sig .tc .vmem S8x144x256 .bf16 := win0_5.stage (cfg0.slots t 5)

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))
/-- and what it returns. -/
def bodyPost (c : Dev nD) (t : Fin cfg0.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t))

/-- The body at any point. -/
theorem sound (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (Rope.body c (grid0.coords t) _ _ _ _ _ _ _ _ _ _ _ _ (xblk V c t) (iblk V c 1 t) (iblk V c 2 t) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs_row (t : Fin cfg0.N) :
    defs₀ (F := F) .tc cfg0.body (cfg0.bodyArgs t (cfg0.slots t)) = bodyAt0 t := by
  unfold defs₀; rw [Defs.onTc_tc]

/-- The body's obligation, at every point. -/
theorem obligation (c : Dev nD) : BodyObligation (dat (F := F) V c) (defs₀ (F := F)) Variants.none () Set.univ := fun t => by
  rw [bigSep_W0, bigSep_W0, defs_row]
  exact triple_restated (sound V c t) rfl .rfl fun _ => .rfl

end Region

end Cert.KernelIdeal.Reg0
-- ==== Proof.KernelIdeal.Flash.lean ====
module

public import proofs.«01_k».proof.Proof.Gen.KernelIdeal.Skeleton
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.VecWindow
public import Idealize.ShloMosaic.Lib.Pipeline.ReadBack
public import Idealize.ShloMosaic.Lib.Tactic
public import Idealize.ShloMosaic.Lib.WordCmp

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! # What the attention's body computes, block of keys by block of keys -/

/-- Block `j` of 768 keys (of eleven). -/
def kc (k : Vec F S8448x128 .bf16) (j : ℕ) : Vec F S768x128 .bf16 :=
  VecWindow.window k ![768 * (j % 11), 0] S768x128.size (fun a => by
    have := Nat.mod_lt j (show 0 < 11 by decide)
    fin_cases a <;> simp [S768x128, S8448x128, Shape.size] <;> omega)

/-- Block `j` of 768 columns of head `h`'s transposed values. -/
def vc (v : Vec F S2x144x8448 .bf16) (h : Fin 2) (j : ℕ) : Vec F S1x144x768 .bf16 :=
  VecWindow.window v ![h.val, 0, 768 * (j % 11)] S1x144x768.size (fun a => by
    have := Nat.mod_lt j (show 0 < 11 by decide)
    have := h.isLt
    fin_cases a <;> simp [S1x144x768, S2x144x8448, Shape.size] <;> omega)

/-- The queries of head `h` of the pair: the other head's lanes set to zero. -/
def qm (q : Vec F S256x128 .bf16) : Fin 2 → FVec F S256x128 .bf16
  | 0 => k1_pay36 q
  | 1 => k1_pay58 (k1_pay55 q) (k1_pay56 k1_pay35) k1_pay57

/-- The scores of block `j`. -/
def sc (q : FVec F S256x128 .bf16) (k : Vec F S8448x128 .bf16) (j : ℕ) : FVec F S1x1x768x256 .f32 := k1_pay1 q (kc k j)

/-- The running maximum after a block of scores. -/
def mNew (m : FVec F S1x256 .f32) (s : FVec F S1x1x768x256 .f32) : FVec F S1x256 .f32 := k1_pay9 m s

/-- The accumulator after a block of scores and values. -/
def aNew (m : FVec F S1x256 .f32) (v : Vec F S1x144x768 .bf16) (s : FVec F S1x1x768x256 .f32) (a : FVec F S1x144x256 .f32) :
    FVec F S1x144x256 .f32 := k1_pay10 m (k1_pay3 v) s a

/-- The running maximum and the accumulator after the first `j` blocks. -/
def st (q : FVec F S256x128 .bf16) (k : Vec F S8448x128 .bf16) (v : Vec F S2x144x8448 .bf16) (h : Fin 2) :
    ℕ → FVec F S1x256 .f32 × FVec F S1x144x256 .f32
  | 0 => (k1_pay42, fun _ => Scalar.ofBits .f32 0x00000000#32)
  | j + 1 => (mNew (st q k v h j).1 (sc q k j), aNew (st q k v h j).1 (vc v h j) (sc q k j) (st q k v h j).2)

/-- The weighted sums held in an accumulator. -/
def num (a : FVec F S1x144x256 .f32) : FVec F S1x128x256 .f32 :=
  VecWindow.window a ![0, 0, 0] S1x128x256.size (by decide)
/-- The sum of the weights held in an accumulator. -/
def den (a : FVec F S1x144x256 .f32) : FVec F S1x1x256 .f32 :=
  VecWindow.window a ![0, 128, 0] S1x1x256.size (by decide)

/-- One head's output from its two maps' accumulators. -/
def headOut (lam : Elt F .f32) (a0 a1 : FVec F S1x144x256 .f32) (sub : Vec F S128x1 .f32) : FVec F S256x128 .bf16 :=
  k1_pay54 lam (num a0) (den a0) (num a1) (den a1) sub

/-- Head `h`'s output block from the body's inputs. -/
def headBlk (lam : Elt F .f32) (q0 q1 : Vec F S256x128 .bf16) (k0 k1 : Vec F S8448x128 .bf16) (v : Vec F S2x144x8448 .bf16)
    (sub : Vec F S128x1 .f32) (h : Fin 2) : FVec F S256x128 .bf16 :=
  headOut lam (st (qm q0 h) k0 v h 11).2 (st (qm q1 h) k1 v h 11).2 sub

/-- The body's output block: the two heads side by side. -/
def blkOut (lam : Elt F .f32) (q0 q1 : Vec F S256x128 .bf16) (k0 k1 : Vec F S8448x128 .bf16) (v : Vec F S2x144x8448 .bf16)
    (sub : Vec F S128x1 .f32) : Vec F S256x256 .bf16 :=
  View.canon (Val := Elt F) [⟨Rect.unit (s := S256x256) ![0, 128] S256x128.size inb_S256x256_S256x128_0_128, headBlk lam q0 q1 k0 k1 v sub 1⟩,
    ⟨Rect.unit (s := S256x256) ![0, 0] S256x128.size inb_S256x256_S256x128_0_0, headBlk lam q0 q1 k0 k1 v sub 0⟩]

end Cert.KernelIdeal.Attn
-- ==== Proof.KernelIdeal.Trip.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KernelIdeal.Flash
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Reads

variable {sig' : RefSig} {κ' : Kind} {sp' : Space} {s : Shape} {e : EltTy} {Val : EltTy → Type}

/-- A load through the last write's own rectangle reads that write's payload. -/
theorem readAt_writes_self (v : View sig' κ' sp' s e) (f : v.ty.Contents Val) (r : Rect s) (w : r.shape.Idx → Val e) (L : List (View.Piece Val s e)) :
    v.readAt Val r.toLoadRect (v.writes Val f (⟨r, w⟩ :: L)) = w :=
  funext fun x => View.read_writes_cons_emb v f r w L x

/-- A load apart from the last write reads what the earlier writes left. -/
theorem readAt_writes_skip (v : View sig' κ' sp' s e) (f : v.ty.Contents Val) (r r' : Rect s) (w : r.shape.Idx → Val e) (L : List (View.Piece Val s e))
    (h : LoadRect.disj r r'.toLoadRect = true) :
    v.readAt Val r'.toLoadRect (v.writes Val f (⟨r, w⟩ :: L)) = v.readAt Val r'.toLoadRect (v.writes Val f L) := by
  funext x
  have hx : r'.idx x ∉ r.set := LoadRect.idx_not_mem_of_disj h x
  show v.read Val _ (r'.idx x) = v.read Val _ (r'.idx x)
  rw [View.writes_cons]
  exact View.read_slice_write_of_not_mem r _ _ _ (by rwa [Rect.map_emb_univ])

end Reads

/-- Before trip `k` of a loop: the keys and the values as they are, the two maps' accumulators after `2k` blocks, the
    scores of block `2k`, and the carried maxima. -/
def inv (c : Dev nD)
    (arg5 : Memref sig .tc .vmem S8448x128 .bf16) (arg6 : Memref sig .tc .vmem S8448x128 .bf16) (arg7 : Memref sig .tc .vmem S2x144x8448 .bf16)
    (arg10 : Memref sig .tc .vmem S2x144x256 .f32) (arg11 : Memref sig .tc .vmem S2x2x768x256 .f32)
    (q0 q1 : Vec F S256x128 .bf16) (x5 x6 : Vec F S8448x128 .bf16) (x7 : Vec F S2x144x8448 .bf16)
    (X5 : BufTy.Contents (Elt F) arg5.view.ty) (X6 : BufTy.Contents (Elt F) arg6.view.ty) (X7 : BufTy.Contents (Elt F) arg7.view.ty)
    (h : Fin 2) (k : ℕ) (acc : FVec F S1x256 .f32 × FVec F S1x256 .f32) : sProp 𝕄 :=
  iprop((arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7)
    ∗ (∃ f, (arg10.view.loc (c : Thread nD τ) ↦[arg10.view.set]{fullShare} f)
        ∗ ⌜arg10.view.readAt (Elt F) (Rect.unit (s := S2x144x256) ![0, 0, 0] S1x144x256.size inb_S2x144x256_S1x144x256_0_0_0).toLoadRect f = (st (qm q0 h) x5 x7 h (2 * k)).2
          ∧ arg10.view.readAt (Elt F) (Rect.unit (s := S2x144x256) ![1, 0, 0] S1x144x256.size inb_S2x144x256_S1x144x256_1_0_0).toLoadRect f = (st (qm q1 h) x6 x7 h (2 * k)).2⌝)
    ∗ (∃ f, (arg11.view.loc (c : Thread nD τ) ↦[arg11.view.set]{fullShare} f)
        ∗ ⌜arg11.view.readAt (Elt F) (Rect.unit (s := S2x2x768x256) ![0, 0, 0, 0] S1x1x768x256.size inb_S2x2x768x256_S1x1x768x256_0_0_0_0).toLoadRect f = sc (qm q0 h) x5 (2 * k)
          ∧ arg11.view.readAt (Elt F) (Rect.unit (s := S2x2x768x256) ![0, 1, 0, 0] S1x1x768x256.size inb_S2x2x768x256_S1x1x768x256_0_1_0_0).toLoadRect f = sc (qm q1 h) x6 (2 * k)⌝)
    ∗ ⌜acc = ((st (qm q0 h) x5 x7 h (2 * k)).1, (st (qm q1 h) x6 x7 h (2 * k)).1)⌝)

variable (c : Dev nD) (i : grid1.Coords)
  (arg2 : Memref sig .tc .smem S1x1 .f32) (harg2 : arg2.IsWhole)
  (arg3 : Memref sig .tc .vmem S256x128 .bf16) (harg3 : arg3.IsWhole)
  (arg4 : Memref sig .tc .vmem S256x128 .bf16) (harg4 : arg4.IsWhole)
  (arg5 : Memref sig .tc .vmem S8448x128 .bf16) (harg5 : arg5.IsWhole)
  (arg6 : Memref sig .tc .vmem S8448x128 .bf16) (harg6 : arg6.IsWhole)
  (arg7 : Memref sig .tc .vmem S2x144x8448 .bf16) (harg7 : arg7.IsWhole)
  (arg8 : Memref sig .tc .vmem S128x1 .f32) (harg8 : arg8.IsWhole)
  (arg9 : Memref sig .tc .vmem S256x256 .bf16) (harg9 : arg9.IsWhole)
  (arg10 : Memref sig .tc .vmem S2x144x256 .f32) (harg10 : arg10.IsWhole)
  (arg11 : Memref sig .tc .vmem S2x2x768x256 .f32) (harg11 : arg11.IsWhole)

/-- One trip of the loop over head 0's key blocks: two blocks taken into the accumulators, the scores of the block after
    them computed ahead. -/
theorem trip1 (lm : Elt F .f32) (q0 q1 : Vec F S256x128 .bf16) (x5 x6 : Vec F S8448x128 .bf16) (x7 : Vec F S2x144x8448 .bf16)
    (X5 : BufTy.Contents (Elt F) arg5.view.ty) (X6 : BufTy.Contents (Elt F) arg6.view.ty) (X7 : BufTy.Contents (Elt F) arg7.view.ty)
    (hX5 : arg5.view.read (Elt F) X5 = x5) (hX6 : arg6.view.read (Elt F) X6 = x6) (hX7 : arg7.view.read (Elt F) X7 = x7)
    (k : Fin k1_t1_loop.trips) (m : FVec F S1x256 .f32 × FVec F S1x256 .f32) (E : Set ℕ) :
    inv c arg5 arg6 arg7 arg10 arg11 q0 q1 x5 x6 x7 X5 X6 X7 0 k.val m
      ⊢ wp frame (wpE (defs₀ (F := F)) Variants.none (c : Thread nD τ) none) E
          (k1_t1_body (F := F) i arg2 harg2 arg3 harg3 arg4 harg4 arg5 harg5 arg6 harg6 arg7 harg7 arg8 harg8 arg9 harg9 arg10 harg10 arg11 harg11 (k1_pay36 q0) (k1_pay37 q1) k1_pay38 (k1_pay39 (F := F)) k m)
          (inv c arg5 arg6 arg7 arg10 arg11 q0 q1 x5 x6 x7 X5 X6 X7 0 (k.val + 1)) := by
  have hk : k.val < 5 := Nat.lt_of_lt_of_le k.isLt k1_t1_abs.2.1
  have hb1 := k1_off1_eq k 0
  have hb2 := k1_off1_eq k 1
  have hv1 := k1_off2_eq k
  have hv2 := k1_off3_eq k
  have e0 : (2 * k.val) % 11 = 2 * k.val := Nat.mod_eq_of_lt (by omega)
  have e1 : (2 * k.val + 1) % 11 = 2 * k.val + 1 := Nat.mod_eq_of_lt (by omega)
  have e2 : (2 * k.val + 2) % 11 = 2 * k.val + 2 := Nat.mod_eq_of_lt (by omega)
  unfold k1_t1_body inv
  iintro ⟨H5, H6, H7, ⟨%f10, H10, %h10⟩, ⟨%f11, H11, %h11⟩, %hm⟩
  obtain ⟨h10a, h10b⟩ := h10
  obtain ⟨h11a, h11b⟩ := h11
  subst hm
  sl_exec
  sl_step
  have K51 : View.readAt (Elt F) arg5.view (Rect.unit (s := S8448x128) (k1_off1 k 1#32) S768x128.size (k1_off1_inb k 0)).toLoadRect X5 = kc x5 (2 * k.val + 1) := by
    rw [View.readAt_unit (off' := ![768 * ((2 * k.val + 1) % 11), 0]) _ _ _ (by rw [e1]; refine hb1.trans ?_; congr 1; simp; omega) (by
      intro a; fin_cases a <;> simp [S768x128, S8448x128, Shape.size] <;> omega), hX5]; rfl
  have K52 : View.readAt (Elt F) arg5.view (Rect.unit (s := S8448x128) (k1_off1 k 2#32) S768x128.size (k1_off1_inb k 1)).toLoadRect X5 = kc x5 (2 * k.val + 2) := by
    rw [View.readAt_unit (off' := ![768 * ((2 * k.val + 2) % 11), 0]) _ _ _ (by rw [e2]; refine hb2.trans ?_; congr 1; simp; omega) (by
      intro a; fin_cases a <;> simp [S768x128, S8448x128, Shape.size] <;> omega), hX5]; rfl
  have K61 : View.readAt (Elt F) arg6.view (Rect.unit (s := S8448x128) (k1_off1 k 1#32) S768x128.size (k1_off1_inb k 0)).toLoadRect X6 = kc x6 (2 * k.val + 1) := by
    rw [View.readAt_unit (off' := ![768 * ((2 * k.val + 1) % 11), 0]) _ _ _ (by rw [e1]; refine hb1.trans ?_; congr 1; simp; omega) (by
      intro a; fin_cases a <;> simp [S768x128, S8448x128, Shape.size] <;> omega), hX6]; rfl
  have K62 : View.readAt (Elt F) arg6.view (Rect.unit (s := S8448x128) (k1_off1 k 2#32) S768x128.size (k1_off1_inb k 1)).toLoadRect X6 = kc x6 (2 * k.val + 2) := by
    rw [View.readAt_unit (off' := ![768 * ((2 * k.val + 2) % 11), 0]) _ _ _ (by rw [e2]; refine hb2.trans ?_; congr 1; simp; omega) (by
      intro a; fin_cases a <;> simp [S768x128, S8448x128, Shape.size] <;> omega), hX6]; rfl
  have V1 : View.readAt (Elt F) arg7.view (Rect.unit (s := S2x144x8448) (k1_off2 k) S1x144x768.size (k1_off2_inb k)).toLoadRect X7 = vc x7 0 (2 * k.val) := by
    rw [View.readAt_unit (off' := ![0, 0, 768 * ((2 * k.val) % 11)]) _ _ _ (by rw [e0]; refine hv1.trans ?_; congr 3; omega) (by
      intro a; fin_cases a <;> simp [S1x144x768, S2x144x8448, Shape.size] <;> omega), hX7]; rfl
  have V2 : View.readAt (Elt F) arg7.view (Rect.unit (s := S2x144x8448) (k1_off3 k) S1x144x768.size (k1_off3_inb k)).toLoadRect X7 = vc x7 0 (2 * k.val + 1) := by
    rw [View.readAt_unit (off' := ![0, 0, 768 * ((2 * k.val + 1) % 11)]) _ _ _ (by rw [e1]; refine hv2.trans ?_; congr 3; omega) (by
      intro a; fin_cases a <;> simp [S1x144x768, S2x144x8448, Shape.size] <;> omega), hX7]; rfl
  isplitl [H5]; · iexact H5
  isplitl [H6]; · iexact H6
  isplitl [H7]; · iexact H7
  isplitl [H10]
  · iexists _; isplitl [H10]; · iexact H10
    ipureintro
    sl_unfold_run_names
    simp (disch := decide) only [readAt_writes_self, readAt_writes_skip, View.readCov_cons_toLoadRect, View.readCov_skip, View.writes_nil, K51, K52, K61, K62, V1, V2, h10a, h10b, h11a, h11b]
    rw [show 2 * (k.val + 1) = 2 * k.val + 1 + 1 by omega]
    exact ⟨rfl, rfl⟩
  isplitl [H11]
  · iexists _; isplitl [H11]; · iexact H11
    ipureintro
    sl_unfold_run_names
    simp (disch := decide) only [readAt_writes_self, readAt_writes_skip, View.readCov_cons_toLoadRect, View.readCov_skip, View.writes_nil, K51, K52, K61, K62, V1, V2, h10a, h10b, h11a, h11b]
    rw [show 2 * (k.val + 1) = 2 * k.val + 1 + 1 by omega]
    exact ⟨rfl, rfl⟩
  · ipureintro
    sl_unfold_run_names
    simp (disch := decide) only [readAt_writes_self, readAt_writes_skip, View.readCov_cons_toLoadRect, View.readCov_skip, View.writes_nil, K51, K52, K61, K62, V1, V2, h10a, h10b, h11a, h11b]
    rw [show 2 * (k.val + 1) = 2 * k.val + 1 + 1 by omega]
    rfl

/-- One trip of the loop over head 1's key blocks: two blocks taken into the accumulators, the scores of the block after
    them computed ahead. -/
theorem trip2 (lm : Elt F .f32) (q0 q1 : Vec F S256x128 .bf16) (x5 x6 : Vec F S8448x128 .bf16) (x7 : Vec F S2x144x8448 .bf16)
    (X5 : BufTy.Contents (Elt F) arg5.view.ty) (X6 : BufTy.Contents (Elt F) arg6.view.ty) (X7 : BufTy.Contents (Elt F) arg7.view.ty)
    (hX5 : arg5.view.read (Elt F) X5 = x5) (hX6 : arg6.view.read (Elt F) X6 = x6) (hX7 : arg7.view.read (Elt F) X7 = x7)
    (k : Fin k1_t2_loop.trips) (m : FVec F S1x256 .f32 × FVec F S1x256 .f32) (E : Set ℕ) :
    inv c arg5 arg6 arg7 arg10 arg11 q0 q1 x5 x6 x7 X5 X6 X7 1 k.val m
      ⊢ wp frame (wpE (defs₀ (F := F)) Variants.none (c : Thread nD τ) none) E
          (k1_t2_body (F := F) i arg2 harg2 arg3 harg3 arg4 harg4 arg5 harg5 arg6 harg6 arg7 harg7 arg8 harg8 arg9 harg9 arg10 harg10 arg11 harg11 k1_pay35 (k1_pay55 q0) (k1_pay56 k1_pay35) (k1_pay57 (F := F)) q1 k m)
          (inv c arg5 arg6 arg7 arg10 arg11 q0 q1 x5 x6 x7 X5 X6 X7 1 (k.val + 1)) := by
  have hk : k.val < 5 := Nat.lt_of_lt_of_le k.isLt k1_t2_abs.2.1
  have hb1 := k1_off4_eq k 0
  have hb2 := k1_off4_eq k 1
  have hv1 := k1_off5_eq k
  have hv2 := k1_off6_eq k
  have e0 : (2 * k.val) % 11 = 2 * k.val := Nat.mod_eq_of_lt (by omega)
  have e1 : (2 * k.val + 1) % 11 = 2 * k.val + 1 := Nat.mod_eq_of_lt (by omega)
  have e2 : (2 * k.val + 2) % 11 = 2 * k.val + 2 := Nat.mod_eq_of_lt (by omega)
  unfold k1_t2_body inv
  iintro ⟨H5, H6, H7, ⟨%f10, H10, %h10⟩, ⟨%f11, H11, %h11⟩, %hm⟩
  obtain ⟨h10a, h10b⟩ := h10
  obtain ⟨h11a, h11b⟩ := h11
  subst hm
  sl_exec
  sl_step
  have K51 : View.readAt (Elt F) arg5.view (Rect.unit (s := S8448x128) (k1_off4 k 1#32) S768x128.size (k1_off4_inb k 0)).toLoadRect X5 = kc x5 (2 * k.val + 1) := by
    rw [View.readAt_unit (off' := ![768 * ((2 * k.val + 1) % 11), 0]) _ _ _ (by rw [e1]; refine hb1.trans ?_; congr 1; simp; omega) (by
      intro a; fin_cases a <;> simp [S768x128, S8448x128, Shape.size] <;> omega), hX5]; rfl
  have K52 : View.readAt (Elt F) arg5.view (Rect.unit (s := S8448x128) (k1_off4 k 2#32) S768x128.size (k1_off4_inb k 1)).toLoadRect X5 = kc x5 (2 * k.val + 2) := by
    rw [View.readAt_unit (off' := ![768 * ((2 * k.val + 2) % 11), 0]) _ _ _ (by rw [e2]; refine hb2.trans ?_; congr 1; simp; omega) (by
      intro a; fin_cases a <;> simp [S768x128, S8448x128, Shape.size] <;> omega), hX5]; rfl
  have K61 : View.readAt (Elt F) arg6.view (Rect.unit (s := S8448x128) (k1_off4 k 1#32) S768x128.size (k1_off4_inb k 0)).toLoadRect X6 = kc x6 (2 * k.val + 1) := by
    rw [View.readAt_unit (off' := ![768 * ((2 * k.val + 1) % 11), 0]) _ _ _ (by rw [e1]; refine hb1.trans ?_; congr 1; simp; omega) (by
      intro a; fin_cases a <;> simp [S768x128, S8448x128, Shape.size] <;> omega), hX6]; rfl
  have K62 : View.readAt (Elt F) arg6.view (Rect.unit (s := S8448x128) (k1_off4 k 2#32) S768x128.size (k1_off4_inb k 1)).toLoadRect X6 = kc x6 (2 * k.val + 2) := by
    rw [View.readAt_unit (off' := ![768 * ((2 * k.val + 2) % 11), 0]) _ _ _ (by rw [e2]; refine hb2.trans ?_; congr 1; simp; omega) (by
      intro a; fin_cases a <;> simp [S768x128, S8448x128, Shape.size] <;> omega), hX6]; rfl
  have V1 : View.readAt (Elt F) arg7.view (Rect.unit (s := S2x144x8448) (k1_off5 k) S1x144x768.size (k1_off5_inb k)).toLoadRect X7 = vc x7 1 (2 * k.val) := by
    rw [View.readAt_unit (off' := ![1, 0, 768 * ((2 * k.val) % 11)]) _ _ _ (by rw [e0]; refine hv1.trans ?_; congr 3; omega) (by
      intro a; fin_cases a <;> simp [S1x144x768, S2x144x8448, Shape.size] <;> omega), hX7]; rfl
  have V2 : View.readAt (Elt F) arg7.view (Rect.unit (s := S2x144x8448) (k1_off6 k) S1x144x768.size (k1_off6_inb k)).toLoadRect X7 = vc x7 1 (2 * k.val + 1) := by
    rw [View.readAt_unit (off' := ![1, 0, 768 * ((2 * k.val + 1) % 11)]) _ _ _ (by rw [e1]; refine hv2.trans ?_; congr 3; omega) (by
      intro a; fin_cases a <;> simp [S1x144x768, S2x144x8448, Shape.size] <;> omega), hX7]; rfl
  isplitl [H5]; · iexact H5
  isplitl [H6]; · iexact H6
  isplitl [H7]; · iexact H7
  isplitl [H10]
  · iexists _; isplitl [H10]; · iexact H10
    ipureintro
    sl_unfold_run_names
    simp (disch := decide) only [readAt_writes_self, readAt_writes_skip, View.readCov_cons_toLoadRect, View.readCov_skip, View.writes_nil, K51, K52, K61, K62, V1, V2, h10a, h10b, h11a, h11b]
    rw [show 2 * (k.val + 1) = 2 * k.val + 1 + 1 by omega]
    exact ⟨rfl, rfl⟩
  isplitl [H11]
  · iexists _; isplitl [H11]; · iexact H11
    ipureintro
    sl_unfold_run_names
    simp (disch := decide) only [readAt_writes_self, readAt_writes_skip, View.readCov_cons_toLoadRect, View.readCov_skip, View.writes_nil, K51, K52, K61, K62, V1, V2, h10a, h10b, h11a, h11b]
    rw [show 2 * (k.val + 1) = 2 * k.val + 1 + 1 by omega]
    exact ⟨rfl, rfl⟩
  · ipureintro
    sl_unfold_run_names
    simp (disch := decide) only [readAt_writes_self, readAt_writes_skip, View.readCov_cons_toLoadRect, View.readCov_skip, View.writes_nil, K51, K52, K61, K62, V1, V2, h10a, h10b, h11a, h11b]
    rw [show 2 * (k.val + 1) = 2 * k.val + 1 + 1 by omega]
    rfl

end Cert.KernelIdeal.Attn
-- ==== Proof.KernelIdeal.Body.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KernelIdeal.Trip
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384
set_option maxHeartbeats 2000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid1.Coords)
  (arg2 : Memref sig .tc .smem S1x1 .f32) (harg2 : arg2.IsWhole)
  (arg3 : Memref sig .tc .vmem S256x128 .bf16) (harg3 : arg3.IsWhole)
  (arg4 : Memref sig .tc .vmem S256x128 .bf16) (harg4 : arg4.IsWhole)
  (arg5 : Memref sig .tc .vmem S8448x128 .bf16) (harg5 : arg5.IsWhole)
  (arg6 : Memref sig .tc .vmem S8448x128 .bf16) (harg6 : arg6.IsWhole)
  (arg7 : Memref sig .tc .vmem S2x144x8448 .bf16) (harg7 : arg7.IsWhole)
  (arg8 : Memref sig .tc .vmem S128x1 .f32) (harg8 : arg8.IsWhole)
  (arg9 : Memref sig .tc .vmem S256x256 .bf16) (harg9 : arg9.IsWhole)
  (arg10 : Memref sig .tc .vmem S2x144x256 .f32) (harg10 : arg10.IsWhole)
  (arg11 : Memref sig .tc .vmem S2x2x768x256 .f32) (harg11 : arg11.IsWhole)

section Cov

variable {sig' : RefSig} {κ' : Kind} {sp' : Space} (v : View sig' κ' sp' S2x144x256 .f32)

/-- A window of the last write's rectangle reads that window of its payload. -/
theorem readCov_sub {off size off' size' d : Fin S2x144x256.rank → ℕ} (inb : ∀ a, off a + size a ≤ S2x144x256.size a)
    (inb' : ∀ a, off' a + size' a ≤ S2x144x256.size a) (hd : ∀ a, d a + size' a ≤ size a) (h : ∀ a, off' a = off a + d a)
    (w : (Rect.unit (s := S2x144x256) off size inb).shape.Idx → Elt F .f32) (L : List (View.Piece (Elt F) S2x144x256 .f32)) :
    v.readCov (⟨Rect.unit (s := S2x144x256) off size inb, w⟩ :: L) (Rect.unit (s := S2x144x256) off' size' inb').toLoadRect
      = VecWindow.window w d size' hd := by
  rw [View.readCov_eq_canon']
  funext x
  have e : (Rect.unit (s := S2x144x256) off' size' inb').toLoadRect.idx x
      = (Rect.unit (s := S2x144x256) off size inb).emb ((Rect.unit (s := (Rect.unit (s := S2x144x256) off size inb).shape) d size' hd).emb x) := by
    funext a
    apply Fin.ext
    show off' a + 1 * (x a).val = off a + 1 * (d a + 1 * (x a).val)
    rw [h a]; omega
  rw [e]
  exact View.canon_cons_emb _ _ _ _

theorem cov_num0' (w : FVec F S1x144x256 .f32) (L : List (View.Piece (Elt F) S2x144x256 .f32)) :
    v.readCov (⟨Rect.unit (s := S2x144x256) ![0, 0, 0] ![1, 144, 256] inb_S2x144x256_S1x144x256_0_0_0, w⟩ :: L)
      (Rect.unit (s := S2x144x256) ![0, 0, 0] ![1, 128, 256] inb_S2x144x256_S1x128x256_0_0_0).toLoadRect = num w :=
  readCov_sub v _ _ (d := ![0, 0, 0]) (by decide) (by decide) w L
theorem cov_den0' (w : FVec F S1x144x256 .f32) (L : List (View.Piece (Elt F) S2x144x256 .f32)) :
    v.readCov (⟨Rect.unit (s := S2x144x256) ![0, 0, 0] ![1, 144, 256] inb_S2x144x256_S1x144x256_0_0_0, w⟩ :: L)
      (Rect.unit (s := S2x144x256) ![0, 128, 0] ![1, 1, 256] inb_S2x144x256_S1x1x256_0_128_0).toLoadRect = den w :=
  readCov_sub v _ _ (d := ![0, 128, 0]) (by decide) (by decide) w L
theorem cov_num1' (w : FVec F S1x144x256 .f32) (L : List (View.Piece (Elt F) S2x144x256 .f32)) :
    v.readCov (⟨Rect.unit (s := S2x144x256) ![1, 0, 0] ![1, 144, 256] inb_S2x144x256_S1x144x256_1_0_0, w⟩ :: L)
      (Rect.unit (s := S2x144x256) ![1, 0, 0] ![1, 128, 256] inb_S2x144x256_S1x128x256_1_0_0).toLoadRect = num w :=
  readCov_sub v _ _ (d := ![0, 0, 0]) (by decide) (by decide) w L
theorem cov_den1' (w : FVec F S1x144x256 .f32) (L : List (View.Piece (Elt F) S2x144x256 .f32)) :
    v.readCov (⟨Rect.unit (s := S2x144x256) ![1, 0, 0] ![1, 144, 256] inb_S2x144x256_S1x144x256_1_0_0, w⟩ :: L)
      (Rect.unit (s := S2x144x256) ![1, 128, 0] ![1, 1, 256] inb_S2x144x256_S1x1x256_1_128_0).toLoadRect = den w :=
  readCov_sub v _ _ (d := ![0, 128, 0]) (by decide) (by decide) w L

end Cov

/-- The body on whole buffers holding its inputs: the inputs as they were, and the output block at the two heads' outputs. -/
theorem body (x2 : Vec F S1x1 .f32) (x3 x4 : Vec F S256x128 .bf16) (x5 x6 : Vec F S8448x128 .bf16) (x7 : Vec F S2x144x8448 .bf16) (x8 : Vec F S128x1 .f32)
    (lm : Elt F .f32) (hlm : ∀ y, x2 y = lm)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
            ∗ owns (c : Thread nD τ) arg9 fullShare (blkOut lm x3 x4 x5 x6 x7 x8) ∗ (∃ d, owns (c : Thread nD τ) arg10 fullShare d) ∗ (∃ d, owns (c : Thread nD τ) arg11 fullShare d)) -∗ K ⟨⟩))
      ⊢ wp frame (wpE (defs₀ (F := F)) Variants.none c none) E (cc1_diff_attn i arg2 harg2 arg3 harg3 arg4 harg4 arg5 harg5 arg6 harg6 arg7 harg7 arg8 harg8 arg9 harg9 arg10 harg10 arg11 harg11) K := by
  simp only [cc1_diff_attn_eq_skeleton]; unfold cc1_diff_attn_skel
  simp only [k1_part7_eq_skeleton, k1_part8_eq_skeleton, k1_part9_eq_skeleton, k1_part10_eq_skeleton, k1_part11_eq_skeleton, k1_part12_eq_skeleton, k1_part13_eq_skeleton]
  unfold owns
  iintro ⟨⟨%X2, %hX2, H2⟩, ⟨%X3, %hX3, H3⟩, ⟨%X4, %hX4, H4⟩, ⟨%X5, %hX5, H5⟩, ⟨%X6, %hX6, H6⟩, ⟨%X7, %hX7, H7⟩, ⟨%X8, %hX8, H8⟩, ⟨%d9, %X9, -, H9⟩, ⟨%d10, %X10, -, H10⟩, ⟨%d11, %X11, -, H11⟩, Hk⟩
  sl_exec
  have eq0 : body.sl.r_1 c arg3 X3 = k1_pay36 x3 := by
    sl_unfold_run_names; rw [View.readAt_full, hX3]
  have eq1 : body.sl.r_2 c arg4 X4 = k1_pay37 x4 := by
    sl_unfold_run_names; rw [View.readAt_full, hX4]
  rw [eq0, eq1]
  have KA0 : View.readAt (Elt F) arg5.view (Rect.unit (s := S8448x128) ![0, 0] S768x128.size inb_S8448x128_S768x128_0_0).toLoadRect X5 = kc x5 0 := by
    rw [← hX5]; rfl
  have KB0 : View.readAt (Elt F) arg6.view (Rect.unit (s := S8448x128) ![0, 0] S768x128.size inb_S8448x128_S768x128_0_0).toLoadRect X6 = kc x6 0 := by
    rw [← hX6]; rfl
  sl_for (inv c arg5 arg6 arg7 arg10 arg11 x3 x4 x5 x6 x7 X5 X6 X7 0) $$ [H5 H6 H7 H10 H11]
  · intro k acc
    exact trip1 c i arg2 harg2 arg3 harg3 arg4 harg4 arg5 harg5 arg6 harg6 arg7 harg7 arg8 harg8 arg9 harg9 arg10 harg10 arg11 harg11 lm x3 x4 x5 x6 x7 X5 X6 X7 hX5 hX6 hX7 k acc E
  · unfold inv
    isplitl [H5]; · iexact H5
    isplitl [H6]; · iexact H6
    isplitl [H7]; · iexact H7
    isplitl [H10]
    · iexists _; isplitl [H10]; · iexact H10
      ipureintro
      sl_unfold_run_names
      refine ⟨?_, ?_⟩ <;>
        (funext x; rw [View.readAt_apply, View.read_writes_full]; rfl)
    isplitl [H11]
    · iexists _; isplitl [H11]; · iexact H11
      ipureintro
      simp (disch := decide) only [readAt_writes_self, readAt_writes_skip, KA0, KB0]
      exact ⟨rfl, rfl⟩
    · ipureintro
      rfl
  unfold inv
  rw [show Scf.trips k1_t1_loop.lb k1_t1_loop.ub k1_t1_loop.st = 5 by decide]
  iintro %acc ⟨H5, H6, H7, ⟨%f10, H10, %h10⟩, ⟨%f11, H11, %h11⟩, %hm⟩
  obtain ⟨h10a, h10b⟩ := h10
  obtain ⟨h11a, h11b⟩ := h11
  subst hm
  sl_exec
  have KA1 : body.sl.r_8 c arg3 X3 = k1_pay55 x3 := by
    sl_unfold_run_names; rw [View.readAt_full, hX3]
  have KB1 : View.readAt (Elt F) arg4.view (Rect.unit (s := S256x128) ![0, 0] S256x128.size inb_S256x128_S256x128_0_0).toLoadRect X4 = x4 := by
    rw [View.readAt_full, hX4]
  rw [KA1, KB1]
  have KL : body.sl.r c arg2 X2 = lm := by
    sl_unfold_run_names
    rw [← hlm, ← hX2]; rfl
  have KS : View.readAt (Elt F) arg8.view (Rect.unit (s := S128x1) ![0, 0] S128x1.size inb_S128x1_S128x1_0_0).toLoadRect X8 = x8 := by
    rw [View.readAt_full, hX8]
  have KV0 : View.readAt (Elt F) arg7.view (Rect.unit (s := S2x144x8448) ![0, 0, 7680] S1x144x768.size inb_S2x144x8448_S1x144x768_0_0_7680).toLoadRect X7 = vc x7 0 10 := by
    rw [← hX7]; rfl
  have KV1 : View.readAt (Elt F) arg7.view (Rect.unit (s := S2x144x8448) ![1, 0, 7680] S1x144x768.size inb_S2x144x8448_S1x144x768_1_0_7680).toLoadRect X7 = vc x7 1 10 := by
    rw [← hX7]; rfl
  have e103 : body.sl.v103 c arg7 arg10 x3 x4 x5 x6 x7 X7 = num (st (qm x3 0) x5 x7 0 11).2 := by
    sl_unfold_run_names
    simp (disch := decide) only [View.readCov_skip, cov_num0', KV0]; rfl
  have e105 : body.sl.v105 c arg7 arg10 x3 x4 x5 x6 x7 X7 = den (st (qm x3 0) x5 x7 0 11).2 := by
    sl_unfold_run_names
    simp (disch := decide) only [View.readCov_skip, cov_den0', KV0]; rfl
  have e109 : body.sl.v109 c arg7 arg10 x3 x4 x5 x6 x7 X7 = num (st (qm x4 0) x6 x7 0 11).2 := by
    sl_unfold_run_names
    simp (disch := decide) only [View.readCov_skip, cov_num1', KV0]; rfl
  have e111 : body.sl.v111 c arg7 arg10 x3 x4 x5 x6 x7 X7 = den (st (qm x4 0) x6 x7 0 11).2 := by
    sl_unfold_run_names
    simp (disch := decide) only [View.readCov_skip, cov_den1', KV0]; rfl
  rw [e103, e105, e109, e111, KS, KL]
  sl_for (inv c arg5 arg6 arg7 arg10 arg11 x3 x4 x5 x6 x7 X5 X6 X7 1) $$ [H5 H6 H7 H10 H11]
  · intro k acc
    exact trip2 c i arg2 harg2 arg3 harg3 arg4 harg4 arg5 harg5 arg6 harg6 arg7 harg7 arg8 harg8 arg9 harg9 arg10 harg10 arg11 harg11 lm x3 x4 x5 x6 x7 X5 X6 X7 hX5 hX6 hX7 k acc E
  · unfold inv
    isplitl [H5]; · iexact H5
    isplitl [H6]; · iexact H6
    isplitl [H7]; · iexact H7
    isplitl [H10]
    · iexists _; isplitl [H10]; · iexact H10
      ipureintro
      sl_unfold_run_names
      refine ⟨?_, ?_⟩ <;>
        (funext x; rw [View.readAt_apply, View.read_writes_full]; rfl)
    isplitl [H11]
    · iexists _; isplitl [H11]; · iexact H11
      ipureintro
      simp (disch := decide) only [readAt_writes_self, readAt_writes_skip, KA0, KB0]
      exact ⟨rfl, rfl⟩
    · ipureintro
      rfl
  unfold inv
  rw [show Scf.trips k1_t2_loop.lb k1_t2_loop.ub k1_t2_loop.st = 5 by decide]
  iintro %acc ⟨H5, H6, H7, ⟨%f10', H10, %h10'⟩, ⟨%f11', H11, %h11'⟩, %hm'⟩
  obtain ⟨h10a', h10b'⟩ := h10'
  obtain ⟨h11a', h11b'⟩ := h11'
  subst hm'
  sl_exec
  sl_step
  iapply Hk
  isplitl [H2]; · iexists _; isplitr; · (ipureintro; exact hX2)
                  iexact H2
  isplitl [H3]; · iexists _; isplitr; · (ipureintro; exact hX3)
                  iexact H3
  isplitl [H4]; · iexists _; isplitr; · (ipureintro; exact hX4)
                  iexact H4
  isplitl [H5]; · iexists _; isplitr; · (ipureintro; exact hX5)
                  iexact H5
  isplitl [H6]; · iexists _; isplitr; · (ipureintro; exact hX6)
                  iexact H6
  isplitl [H7]; · iexists _; isplitr; · (ipureintro; exact hX7)
                  iexact H7
  isplitl [H8]; · iexists _; isplitr; · (ipureintro; exact hX8)
                  iexact H8
  isplitl [H9]
  · iexists _; isplitr [H9]; rotate_left; · iexact H9
    ipureintro
    refine (View.read_writes_eq_canon _ _ _ ?_).trans ?_
    · exact View.cover_of_tiledL _ S256x128.size (by sl_kernel_rfl)
    sl_unfold_run_names
    simp (disch := decide) only [View.readCov_skip, cov_num0', cov_den0', cov_num1', cov_den1', KV1, KV0, KS, KL, h10a', h10b', h11a', h11b']
    rfl
  isplitl [H10]
  · iexists (arg10.view.read (Elt F) _); iexists _; isplitr; swap; · iexact H10
    ipureintro; exact rfl
  · iexists (arg11.view.read (Elt F) _); iexists _; isplitr; swap; · iexact H11
    ipureintro; exact rfl

end Cert.KernelIdeal.Attn
-- ==== Proof.KernelIdeal.Region1.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KernelIdeal.Body
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The attention over its grid -/

/-- The one entry of a one-by-one array. -/
def lamOf (x : Vec F S1x1 .f32) : Elt F .f32 := x (fun _ => ⟨0, by rename_i a; fin_cases a <;> decide⟩)
theorem lamOf_eq (x : Vec F S1x1 .f32) (y) : x y = lamOf x := by
  refine congrArg x (funext fun a => Fin.ext ?_)
  have := (y a).isLt
  have e : S1x1.size a = 1 := by fin_cases a <;> rfl
  show (y a).val = 0
  omega

/-- A whole buffer held at some values is that buffer at some contents. -/
theorem whole_back (c : Thread nD τ) (b : Ref sig c.2.kind) (X : b.ty.Contents (Elt F)) :
    (owns c (Memref.whole b) fullShare X : sProp 𝕄) ⊢ iprop(∃ f : Buf (Elt F) (c.loc b), (c.loc b) ↦{fullShare} f) := by
  rw [owns_whole_eq]
  iintro ⟨%f, -, H⟩
  iexists f; iexact H

section Region

-- the buffers' contents when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The pipeline's data: the arrays as the region finds them; after the body each input's buffer at its block and each
    output's at what the body computes of the input blocks. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => Attn.blkOut (lamOf (iblk V c 0 t)) (iblk V c 1 t) (iblk V c 2 t) (iblk V c 3 t) (iblk V c 4 t) (iblk V c 5 t) (iblk V c 6 t)
  Φ _ := Pipeline.ΦA spec1 c
  q w := Pipeline.shareOf spec1 w
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = Attn.blkOut (lamOf (iblk V c 0 t)) (iblk V c 1 t) (iblk V c 2 t) (iblk V c 3 t) (iblk V c 4 t) (iblk V c 5 t) (iblk V c 6 t) := by dsimp only [dat]

/-! Each input's buffer holds its block at every point, fetched there or not. -/

theorem before_0 (c : Dev nD) (t : Fin cfg1.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl)
      (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat V c).before 5 t d = iblk V c 5 t :=
  ((dat V c).before_in_eq_fetched 5 rfl (fun _ => rfl) (fun _ _ _ => rfl)
      (fun t => by rw [after_5]; unfold Dat.blockOf iblk; rw [A_eq]; try rfl) t d).trans
    (by unfold Dat.fetched Dat.blockOf iblk; rw [A_eq]; try rfl)
theorem before_6 (c : Dev nD) (t : Fin cfg1.N) (d) : (dat V c).before 6 t d = iblk V c 6 t :=
  ((dat V c).before_in_eq_fetched 6 rfl (fun _ => rfl) (fun _ _ _ => rfl)
      (fun t => by rw [after_6]; unfold Dat.blockOf iblk; rw [A_eq]; try rfl) t d).trans
    (by unfold Dat.fetched Dat.blockOf iblk; rw [A_eq]; try rfl)

/-! Each window's staging memref at a point. -/

abbrev ms0 (t : Fin cfg1.N) : Memref sig .tc .smem S1x1 .f32 := win1_0.stage (cfg1.slots t 0)
abbrev ms1 (t : Fin cfg1.N) : Memref sig .tc .vmem S256x128 .bf16 := win1_1.stage (cfg1.slots t 1)
abbrev ms2 (t : Fin cfg1.N) : Memref sig .tc .vmem S256x128 .bf16 := win1_2.stage (cfg1.slots t 2)
abbrev ms3 (t : Fin cfg1.N) : Memref sig .tc .vmem S8448x128 .bf16 := win1_3.stage (cfg1.slots t 3)
abbrev ms4 (t : Fin cfg1.N) : Memref sig .tc .vmem S8448x128 .bf16 := win1_4.stage (cfg1.slots t 4)
abbrev ms5 (t : Fin cfg1.N) : Memref sig .tc .vmem S2x144x8448 .bf16 := win1_5.stage (cfg1.slots t 5)
abbrev ms6 (t : Fin cfg1.N) : Memref sig .tc .vmem S128x1 .f32 := win1_6.stage (cfg1.slots t 6)
abbrev ms7 (t : Fin cfg1.N) : Memref sig .tc .vmem S256x256 .bf16 := win1_7.stage (cfg1.slots t 7)

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d)))
/-- and what it returns. -/
def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t)
    ∗ owns (c : Thread nD τ) (ms6 t) fullShare ((dat V c).after 6 t)
    ∗ owns (c : Thread nD τ) (ms7 t) fullShare ((dat V c).after 7 t))

set_option maxHeartbeats 800000 in
/-- The body at any point. -/
theorem sound (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6, after_7]
  rw [show (dat V c).Φ t.castSucc = Pipeline.ΦA spec1 c from rfl]; unfold Pipeline.ΦA
  rw [scopedRest1_eq]
  iintro ⟨⟨⟨R0, R1, R2, R3, R4, R5, R6, R7, R8, R9, R10, R11, ⟨%g0, G0⟩, ⟨%g1, G1⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (Attn.body c (grid1.coords t) _ _ _ _ _ _ _ _ _ _ _ _ _ _ _ _ _ _ _ _ (iblk V c 0 t) (iblk V c 1 t) (iblk V c 2 t) (iblk V c 3 t) (iblk V c 4 t) (iblk V c 5 t) (iblk V c 6 t) (lamOf (iblk V c 0 t)) (lamOf_eq _) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [G0]
  · iexists g0; rw [owns_whole_eq]; iexists g0; isplitr; · ipureintro; rfl
    iexact G0
  isplitl [G1]
  · iexists g1; rw [owns_whole_eq]; iexists g1; isplitr; · ipureintro; rfl
    iexact G1
  iintro ⟨H0, H1, H2, H3, H4, H5, H6, H7, ⟨%e0, G0⟩, ⟨%e1, G1⟩⟩
  isplitl [R0 R1 R2 R3 R4 R5 R6 R7 R8 R9 R10 R11 G0 G1 Hp]
  · isplitr [Hp]; swap; · iexact Hp
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [G0]
    · iapply (whole_back (c : Thread nD τ) cc1_scratch0 e0); iexact G0
    · iapply (whole_back (c : Thread nD τ) cc1_scratch1 e1); iexact G1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs_row (t : Fin cfg1.N) :
    defs₀ (F := F) .tc cfg1.body (cfg1.bodyArgs t (cfg1.slots t)) = bodyAt1 t := by
  unfold defs₀; rw [Defs.onTc_tc]

/-- The body's obligation, at every point. -/
theorem obligation (c : Dev nD) : BodyObligation (dat (F := F) V c) (defs₀ (F := F)) Variants.none () Set.univ := fun t => by
  rw [bigSep_W1, bigSep_W1, defs_row]
  exact triple_restated (sound V c t) rfl .rfl fun _ => .rfl

end Region

end Cert.KernelIdeal.Reg1
-- ==== Proof.KernelIdeal.Run.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import proofs.«01_k».proof.Proof.KernelIdeal.Region0
public import proofs.«01_k».proof.Proof.KernelIdeal.Region1
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The whole run: the host stretches and the two pipelines in order -/

variable (m : (l : Loc nD τ sig) → Buf (Elt F) l) (ρ : Dev nD → PrngReg)

/-- The arrays the program is called with. -/
abbrev argRefs : List (Ref sig .tc) := [main_arg0, main_arg1, main_arg2, main_arg3, main_arg4, main_arg5]

/-- `hostOps0` writes no argument. -/
theorem hostOps0_args : ∀ a ∈ argRefs, a ∉ hostOps0_W := ListAll.forall_mem_of_all_decide (by decide +kernel)

/-- `hostOps0_1` writes no argument. -/
theorem hostOps0_1_args : ∀ a ∈ argRefs, a ∉ hostOps0_1_W := ListAll.forall_mem_of_all_decide (by decide +kernel)

/-- `hostOps0_2` writes no argument. -/
theorem hostOps0_2_args : ∀ a ∈ argRefs, a ∉ hostOps0_2_W := ListAll.forall_mem_of_all_decide (by decide +kernel)

/-- `hostOps0_3` writes no argument. -/
theorem hostOps0_3_args : ∀ a ∈ argRefs, a ∉ hostOps0_3_W := ListAll.forall_mem_of_all_decide (by decide +kernel)

/-- `hostOps0_4` writes no argument. -/
theorem hostOps0_4_args : ∀ a ∈ argRefs, a ∉ hostOps0_4_W := ListAll.forall_mem_of_all_decide (by decide +kernel)

/-- `hostOps1` writes no argument. -/
theorem hostOps1_args : ∀ a ∈ argRefs, a ∉ hostOps1_W := ListAll.forall_mem_of_all_decide (by decide +kernel)

/-- A core's buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
abbrev W4 : Dev nD → Valuation τ sig (Elt F) := fun c => StableHlo.after hostOps0_3 (W3 m ρ c)
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)
abbrev W5 : Dev nD → Valuation τ sig (Elt F) := fun c => StableHlo.after hostOps0_4 (W4 m ρ c)
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a (hostOps0_4_args a ha)).trans (W4_args m ρ c a ha)
/-- What the rotation finds. -/
abbrev V5 : (c : Dev nD) → (b : Ref sig .tc) → Buf (Elt F) ((c : Thread nD τ).loc b) := fun c b => W5 m ρ c b
/-- Where the rotation ends: its arrays as its write-backs leave them, all else as it was. -/
def W6 (c : Dev nD) : Valuation τ sig (Elt F) :=
  Pipeline.withArrays spec0 c (W5 m ρ c) fun w => (Reg0.dat (V5 m ρ) c).arrAt w cfg0.N
/-- Each array of the rotation at its end. -/
theorem W6_arr (c : Dev nD) (w : Fin cfg0.W) :
    W6 m ρ c (Proc.devRef .tc (Pipeline.arrRef spec0 w)) = (Reg0.dat (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- The rotation changes its output arrays alone. -/
theorem W6_of (c : Dev nD) (r : Ref sig .tc) (h : ∀ w : Fin cfg0.W, Pipeline.arrRef spec0 w = r → (cfg0.win w).isOut = false) :
    W6 m ρ c (Proc.devRef .tc r) = W5 m ρ c (Proc.devRef .tc r) := by
  by_cases hw : ∃ w : Fin cfg0.W, Pipeline.arrRef spec0 w = r
  · obtain ⟨w, rfl⟩ := hw
    exact (W6_arr m ρ c w).trans (((Reg0.dat (V5 m ρ) c).arrAt_in w (h w rfl) _).trans (Reg0.A_eq (V5 m ρ) c w))
  · exact W6_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn0 a ha)).trans (W5_args m ρ c a ha)
abbrev V6 : (c : Dev nD) → (b : Ref sig .tc) → Buf (Elt F) ((c : Thread nD τ).loc b) := fun c b => W6 m ρ c b
theorem hF0 (c : Dev nD) (w : Fin cfg0.W) : (Reg0.dat (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps1 (W6 m ρ c)
theorem W7_of (c : Dev nD) (r : Ref sig .tc) (h : r ∉ hostOps1_W) : W7 m ρ c (Proc.devRef .tc r) = W6 m ρ c (Proc.devRef .tc r) :=
  StableHlo.after_of_writes_sub hostOps1 _ hostOps1_writes h
theorem W7_args (c : Dev nD) : ∀ a ∈ argRefs, W7 m ρ c (Proc.devRef .tc a) = m ((c : Thread nD τ).loc a) :=
  fun a ha => (W7_of m ρ c a (hostOps1_args a ha)).trans (W6_args m ρ c a ha)
/-- What the attention finds. -/
abbrev V7 : (c : Dev nD) → (b : Ref sig .tc) → Buf (Elt F) ((c : Thread nD τ).loc b) := fun c b => W7 m ρ c b
/-- Where the attention ends: its arrays as its write-backs leave them, all else as it was. -/
def W8 (c : Dev nD) : Valuation τ sig (Elt F) :=
  Pipeline.withArrays spec1 c (W7 m ρ c) fun w => (Reg1.dat (V7 m ρ) c).arrAt w cfg1.N
/-- Each array of the attention at its end. -/
theorem W8_arr (c : Dev nD) (w : Fin cfg1.W) :
    W8 m ρ c (Proc.devRef .tc (Pipeline.arrRef spec1 w)) = (Reg1.dat (V7 m ρ) c).arrAt w cfg1.N := by
  unfold W8; exact (Reg1.dat (V7 m ρ) c).withArrays_arrAt launch₀1.sharedIn _ (Reg1.A_eq (V7 m ρ) c) w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- The attention changes its output array alone. -/
theorem W8_of (c : Dev nD) (r : Ref sig .tc) (h : ∀ w : Fin cfg1.W, Pipeline.arrRef spec1 w = r → (cfg1.win w).isOut = false) :
    W8 m ρ c (Proc.devRef .tc r) = W7 m ρ c (Proc.devRef .tc r) := by
  by_cases hw : ∃ w : Fin cfg1.W, Pipeline.arrRef spec1 w = r
  · obtain ⟨w, rfl⟩ := hw
    exact (W8_arr m ρ c w).trans (((Reg1.dat (V7 m ρ) c).arrAt_in w (h w rfl) _).trans (Reg1.A_eq (V7 m ρ) c w))
  · exact W8_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn1 a ha)).trans (W7_args m ρ c a ha)
abbrev V8 : (c : Dev nD) → (b : Ref sig .tc) → Buf (Elt F) ((c : Thread nD τ).loc b) := fun c b => W8 m ρ c b
theorem hF1 (c : Dev nD) (w : Fin cfg1.W) : (Reg1.dat (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-- The data of the two pipelines, each at the contents it is entered with. -/
def pdats : (p : Fin 2) → (c : Dev nD) → Dat τ (Elt F) Unit ℕ (UR sig nD τ) ℕ (Pipeline.pin (pcfgs (F := F)) adm p) c
  | ⟨0, _⟩ => fun c => Reg0.dat (V5 m ρ) c
  | ⟨1, _⟩ => fun c => Reg1.dat (V7 m ρ) c
abbrev 𝒱₀ : Variants := Variants.none
abbrev L : GSem nD τ sig → Finset Unit := fun _ => ∅
abbrev lv : GSem nD τ sig → Unit → ℕ := fun _ _ => 0
/-- What every segment carries beside the buffers. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Every buffer of the launch is held throughout. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What the last segment leaves. -/
abbrev Tₙ (c : Dev nD) : sProp 𝕄 := iprop(StableHlo.held (c : Thread nD τ) (Pipeline.ucRefs τ sig) (W8 m ρ c) ∗ ∃ r, prngReg c r)

set_option backward.isDefEq.respectTransparency.types false in
/-- The rotation as a segment. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Reg0.obligation (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) (Reg0.A_eq (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention as a segment. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (Reg1.obligation (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V7 m ρ c) (Reg1.A_eq (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's eight segments. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ) ]
/-- The program is its segments, run in order. -/
theorem main_run (c : Dev nD) : main (F := F) c = Pipeline.Seg.run (segs m ρ) := (main_chain c).trans (by chain_rfl)

set_option backward.isDefEq.respectTransparency.types false in
/-- Every run of the program ends without a fault, whatever the launch memory, with the argument arrays as they were
    launched, the attention's array as its pipeline's write-backs leave it, and every counter at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_v41) = (Reg1.dat (V7 m ρ) c).arrAt 7 cfg1.N)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨(fun c =>
      ⟨(h c _ (mem_uc main_arg0 (by decide))).trans (W8_args m ρ c main_arg0 (by decide)),
       (h c _ (mem_uc main_arg1 (by decide))).trans (W8_args m ρ c main_arg1 (by decide)),
       (h c _ (mem_uc main_arg2 (by decide))).trans (W8_args m ρ c main_arg2 (by decide)),
       (h c _ (mem_uc main_arg3 (by decide))).trans (W8_args m ρ c main_arg3 (by decide)),
       (h c _ (mem_uc main_arg4 (by decide))).trans (W8_args m ρ c main_arg4 (by decide)),
       (h c _ (mem_uc main_arg5 (by decide))).trans (W8_args m ρ c main_arg5 (by decide)),
       (h c _ (mem_uc main_v41 (by decide))).trans (W8_arr m ρ c 7)⟩), funext fun g => hz g (.inr (regions_no_unscoped g.2))⟩)

end Cert.KernelIdeal.Run
-- ==== Proof.Math.Softmax.lean ====
module

public import Idealize.ShloMosaic.PureOps.Ideal

@[expose] public section

noncomputable section

/-! # Weights of a softmax over the extended reals -/

namespace Cert.Softmax

open Idealize.ShloMosaic

/-- The weight of a score `s` under a maximum `m`, to the base two. -/
def w (s m : EReal) : ℝ := (Ideal.exp2 (s - m)).toReal

theorem exp2_coe (r : ℝ) : Ideal.exp2 (r : EReal) = ((Real.rpow 2 r : ℝ) : EReal) := rfl
theorem exp_coe (r : ℝ) : Ideal.exp (r : EReal) = ((Real.exp r : ℝ) : EReal) := rfl
theorem exp2_bot : Ideal.exp2 ⊥ = 0 := rfl
theorem exp_bot : Ideal.exp ⊥ = 0 := rfl

/-- Below its maximum a score's weight is a real number, and zero where the two are not both real. -/
theorem exp2_eq {s m : EReal} (h : s ≤ m) : Ideal.exp2 (s - m) = ((w s m : ℝ) : EReal) := by
  unfold w
  induction m using EReal.rec with
  | bot => simp at h; subst h; simp [exp2_bot]
  | top =>
    have : s - ⊤ = ⊥ := by simp [sub_eq_add_neg]
    rw [this, exp2_bot]; simp
  | coe m =>
    induction s using EReal.rec with
    | bot => simp [exp2_bot]
    | top => simp at h
    | coe s => rw [← EReal.coe_sub, exp2_coe, EReal.toReal_coe]

theorem w_nonneg (s m : EReal) : 0 ≤ w s m := by
  unfold w
  refine EReal.toReal_nonneg ?_
  induction (s - m) using EReal.rec with
  | bot => exact le_of_eq exp2_bot.symm
  | top => exact le_top
  | coe r => rw [exp2_coe]; exact_mod_cast (Real.rpow_pos_of_pos two_pos r).le

theorem w_top (s : EReal) : w s ⊤ = 0 := by
  unfold w
  have : s - ⊤ = ⊥ := by simp [sub_eq_add_neg]
  rw [this, exp2_bot]; simp
theorem w_bot (m : EReal) : w ⊥ m = 0 := by
  unfold w
  have : (⊥ : EReal) - m = ⊥ := by simp [sub_eq_add_neg]
  rw [this, exp2_bot]; simp
theorem w_coe (s m : ℝ) : w s m = Real.rpow 2 (s - m) := by
  unfold w; rw [← EReal.coe_sub, exp2_coe, EReal.toReal_coe]

/-- Passing from one maximum to a larger one scales every weight alike. -/
theorem w_step {s m m' : EReal} (h : s ≤ m) (h' : m ≤ m') : w m m' * w s m = w s m' := by
  induction m' using EReal.rec with
  | top => simp [w_top]
  | bot => simp at h'; subst h'; simp at h; subst h; simp [w_bot]
  | coe m' =>
    induction m using EReal.rec with
    | top => simp at h'
    | bot => simp at h; subst h; simp [w_bot]
    | coe m =>
      induction s using EReal.rec with
      | top => simp at h
      | bot => simp [w_bot]
      | coe s =>
        simp only [w_coe]
        have := Real.rpow_add (two_pos : (0:ℝ) < 2) (m - m') (s - m)
        simp only [Real.rpow_eq_pow] at *
        rw [← this]; congr 1; ring

/-- A sum of real numbers is a real number. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem le_fold {ι : Type} [Fintype ι] (f : ι → EReal) (b : EReal) (i : ι) : f i ≤ Finset.univ.fold max b f :=
  (Finset.le_fold_max _).mpr (.inr ⟨i, Finset.mem_univ i, le_rfl⟩)

section Blocks

variable {T : ℕ} (S : ℕ → Fin T → EReal) (V : ℕ → Fin T → ℝ)

/-- The maximum over the first blocks. -/
def M : ℕ → EReal
  | 0 => ⊥
  | j + 1 => max (M j) (Finset.univ.fold max ⊥ (S j))

/-- The weighted sum over the first blocks, rescaled block by block. -/
def A : ℕ → EReal
  | 0 => 0
  | j + 1 => Ideal.exp2 (M S j - M S (j + 1)) * A j + ∑ k, ((V j k : ℝ) : EReal) * Ideal.exp2 (S j k - M S (j + 1))

theorem le_M {i j : ℕ} (h : i < j) (k : Fin T) : S i k ≤ M S j := by
  induction j with
  | zero => omega
  | succ j ih =>
    rcases Nat.lt_or_ge i j with hi | hi
    · exact (ih hi).trans (le_max_left _ _)
    · have : i = j := by omega
      subst this
      exact (le_fold (S i) ⊥ k).trans (le_max_right _ _)

theorem M_le {j : ℕ} {b : EReal} (h : ∀ i < j, ∀ k, S i k ≤ b) : M S j ≤ b := by
  induction j with
  | zero => exact bot_le
  | succ j ih =>
    refine max_le (ih fun i hi k => h i (by omega) k) ?_
    exact (Finset.fold_max_le b).mpr ⟨bot_le, fun k _ => h j (by omega) k⟩

/-- The rescaled sum is the weighted sum under the last maximum, and a real number. -/
theorem A_eq (j : ℕ) : A S V j = ((∑ i ∈ Finset.range j, ∑ k, V i k * w (S i k) (M S j) : ℝ) : EReal) := by
  induction j with
  | zero => simp [A]
  | succ j ih =>
    have hM : M S j ≤ M S (j + 1) := le_max_left _ _
    rw [A, ih, exp2_eq hM, Finset.sum_range_succ, EReal.coe_add, ← EReal.coe_mul]
    congr 1
    · rw [Finset.mul_sum]
      congr 1
      refine Finset.sum_congr rfl fun i hi => ?_
      rw [Finset.mul_sum]
      refine Finset.sum_congr rfl fun k _ => ?_
      rw [← w_step (le_M S (Finset.mem_range.mp hi) k) hM]; ring
    · rw [coe_sum]
      refine Finset.sum_congr rfl fun k _ => ?_
      rw [exp2_eq (le_M S (Nat.lt_succ_self j) k), ← EReal.coe_mul]

/-- All blocks at once. -/
theorem A_all (J : ℕ) (hJ : 0 < T) (s : Fin (J * T) → EReal) (v : Fin (J * T) → ℝ)
    (hs : ∀ (j : ℕ) (h : j < J) (k : Fin T), S j k = s ⟨j * T + k.val, by
      have := k.isLt; calc j * T + k.val < (j + 1) * T := by rw [Nat.add_mul]; omega
        _ ≤ J * T := Nat.mul_le_mul_right _ h⟩)
    (hv : ∀ (j : ℕ) (h : j < J) (k : Fin T), V j k = v ⟨j * T + k.val, by
      have := k.isLt; calc j * T + k.val < (j + 1) * T := by rw [Nat.add_mul]; omega
        _ ≤ J * T := Nat.mul_le_mul_right _ h⟩) :
    A S V J = ((∑ k, v k * w (s k) (Finset.univ.fold max ⊥ s) : ℝ) : EReal) := by
  have hMs : M S J = Finset.univ.fold max ⊥ s := by
    refine le_antisymm (M_le S fun i hi k => ?_) ((Finset.fold_max_le _).mpr ⟨bot_le, fun k _ => ?_⟩)
    · rw [hs i hi k]; exact le_fold s ⊥ _
    · have hk : k.val / T < J := by rw [Nat.div_lt_iff_lt_mul hJ]; exact k.isLt
      have e := hs (k.val / T) hk ⟨k.val % T, Nat.mod_lt _ hJ⟩
      have : (⟨k.val / T * T + k.val % T, by rw [Nat.div_add_mod']; exact k.isLt⟩ : Fin (J * T)) = k := Fin.ext (Nat.div_add_mod' _ _)
      rw [show s k = S (k.val / T) ⟨k.val % T, Nat.mod_lt _ hJ⟩ from by rw [e]; exact congrArg s this.symm]
      exact le_M S hk _
  rw [A_eq, hMs]
  congr 1
  rw [← (finProdFinEquiv (m := J) (n := T)).sum_comp, Fintype.sum_prod_type, Finset.sum_range]
  refine Finset.sum_congr rfl fun j _ => Finset.sum_congr rfl fun k _ => ?_
  have e : finProdFinEquiv (j, k) = (⟨j.val * T + k.val, by
      have := k.isLt; have := j.isLt; calc j.val * T + k.val < (j.val + 1) * T := by rw [Nat.add_mul]; omega
        _ ≤ J * T := Nat.mul_le_mul_right _ (by omega)⟩ : Fin (J * T)) := Fin.ext (by simp [finProdFinEquiv]; ring)
  rw [e, hs j.val j.isLt k, hv j.val j.isLt k]

end Blocks

/-! ## A positive real scale -/

theorem mul_sub_pos {c : ℝ} (hc : 0 < c) (x y : EReal) : (c : EReal) * (x - y) = (c : EReal) * x - (c : EReal) * y := by
  rw [sub_eq_add_neg, sub_eq_add_neg, EReal.left_distrib_of_nonneg_of_ne_top (by exact_mod_cast hc.le) (EReal.coe_ne_top c), mul_neg]

theorem mul_sum_pos {ι : Type} {c : ℝ} (hc : 0 < c) (t : Finset ι) (f : ι → EReal) :
    (c : EReal) * ∑ i ∈ t, f i = ∑ i ∈ t, (c : EReal) * f i := by
  classical
  induction t using Finset.induction_on with
  | empty => simp
  | insert a t ha ih =>
    rw [Finset.sum_insert ha, Finset.sum_insert ha, EReal.left_distrib_of_nonneg_of_ne_top (by exact_mod_cast hc.le) (EReal.coe_ne_top c), ih]

theorem mul_max_pos {c : ℝ} (hc : 0 < c) (x y : EReal) : (c : EReal) * max x y = max ((c : EReal) * x) ((c : EReal) * y) :=
  (show Monotone (fun z : EReal => (c : EReal) * z) from fun _ _ h => mul_le_mul_of_nonneg_left h (by exact_mod_cast hc.le)).map_max

theorem mul_fold_pos {ι : Type} {c : ℝ} (hc : 0 < c) (t : Finset ι) (f : ι → EReal) :
    (c : EReal) * t.fold max ⊥ f = t.fold max ⊥ fun i => (c : EReal) * f i := by
  classical
  induction t using Finset.induction_on with
  | empty => simp [EReal.coe_mul_bot_of_pos hc]
  | insert a t ha ih => rw [Finset.fold_insert ha, Finset.fold_insert ha, mul_max_pos hc, ih]

/-- The weight to the base two of scaled scores is the exponential of the scores. -/
theorem exp_eq {s m : EReal} (h : s ≤ m) :
    Ideal.exp (s - m) = ((w (((Real.log 2)⁻¹ : ℝ) * s) (((Real.log 2)⁻¹ : ℝ) * m) : ℝ) : EReal) := by
  have hl : 0 < Real.log 2 := Real.log_pos one_lt_two
  have hc : 0 < (Real.log 2)⁻¹ := inv_pos.mpr hl
  unfold w
  rw [← mul_sub_pos hc]
  have key : ∀ x : EReal, x ≠ ⊤ → Ideal.exp x = (((Ideal.exp2 (((Real.log 2)⁻¹ : ℝ) * x)).toReal : ℝ) : EReal) := by
    intro x hx
    induction x using EReal.rec with
    | top => exact absurd rfl hx
    | bot => rw [EReal.coe_mul_bot_of_pos hc, exp2_bot, exp_bot]; simp
    | coe r =>
      rw [← EReal.coe_mul, exp2_coe, EReal.toReal_coe, exp_coe]
      congr 1
      rw [Real.rpow_eq_pow, Real.rpow_def_of_pos two_pos]
      congr 1; field_simp
  refine key _ ?_
  induction m using EReal.rec with
  | top => simp [sub_eq_add_neg]
  | bot => simp at h; subst h; simp
  | coe m =>
    induction s using EReal.rec with
    | top => simp at h
    | bot => simp
    | coe s => rw [← EReal.coe_sub]; exact EReal.coe_ne_top _

/-- The weights of scaled scores under their maximum are the exponentials of the scores under theirs. -/
theorem exp_fold_eq {n : ℕ} (s : Fin n → EReal) (k : Fin n) :
    Ideal.exp (s k - max ⊥ (Finset.univ.fold max ⊥ s))
      = ((w (((Real.log 2)⁻¹ : ℝ) * s k) (Finset.univ.fold max ⊥ fun k => (((Real.log 2)⁻¹ : ℝ) : EReal) * s k) : ℝ) : EReal) := by
  rw [max_eq_right bot_le, exp_eq (le_fold s ⊥ k), mul_fold_pos (inv_pos.mpr (Real.log_pos one_lt_two))]

end Cert.Softmax

end
-- ==== Proof.Math.Rope.lean ====
module

public import proofs.«01_k».proof.Proof.Math.Softmax

@[expose] public section

noncomputable section

namespace Cert.Rope

open Idealize.ShloMosaic

/-! # The rotated queries and keys, and their scores -/

variable (p : Fin 8448 → Fin 4096 → EReal) (co si : Fin 8192 → Fin 64 → EReal)

/-- The query at row `t` of the sequence, lane `c` of all the heads of both maps, rotated. -/
def qx (t : Fin 8192) (c : Fin 1024) : EReal :=
  p ⟨256 + t.val, by omega⟩ ⟨c.val, by omega⟩ * co t ⟨c.val % 64, by omega⟩
    + (if h : c.val % 32 < 16 then -p ⟨256 + t.val, by omega⟩ ⟨c.val + 16, by omega⟩ else p ⟨256 + t.val, by omega⟩ ⟨c.val - 16, by omega⟩)
      * si t ⟨c.val % 64, by omega⟩

/-- The key at row `t` of the sequence, lane `c`, rotated. -/
def kr (t : Fin 8192) (c : Fin 1024) : EReal :=
  p ⟨256 + t.val, by omega⟩ ⟨1024 + c.val, by omega⟩ * co t ⟨c.val % 64, by omega⟩
    + (if h : c.val % 32 < 16 then -p ⟨256 + t.val, by omega⟩ ⟨1024 + (c.val + 16), by omega⟩ else p ⟨256 + t.val, by omega⟩ ⟨1024 + (c.val - 16), by omega⟩)
      * si t ⟨c.val % 64, by omega⟩

/-- The key at row `r`, lane `c`: as given on the context's rows, rotated on the sequence's. -/
def kx (r : Fin 8448) (c : Fin 1024) : EReal :=
  if hr : r.val < 256 then p r ⟨1024 + c.val, by omega⟩ else kr p co si ⟨r.val - 256, by omega⟩ c

/-- The score of key `r` for query `t` under map `u` of head `h`. -/
def sc (u : Fin 2) (h : Fin 8) (t : Fin 8192) (r : Fin 8448) : EReal :=
  (∑ d : Fin 64, qx p co si t ⟨512 * u.val + 64 * h.val + d.val, by omega⟩ * kx p co si r ⟨512 * u.val + 64 * h.val + d.val, by omega⟩)
    * ((1 / 8 : ℝ) : EReal)

/-- The weight of key `r` before the division: two to the power of its score in base two less the largest. -/
def wt (u : Fin 2) (h : Fin 8) (t : Fin 8192) (r : Fin 8448) : ℝ :=
  Softmax.w ((((Real.log 2)⁻¹ : ℝ) : EReal) * sc p co si u h t r)
    (Finset.univ.fold max ⊥ fun r => (((Real.log 2)⁻¹ : ℝ) : EReal) * sc p co si u h t r)

end Cert.Rope

end
-- ==== Proof.Math.Consts.lean ====
module

public import Idealize.ShloMosaic.PureOps.Ideal

@[expose] public section

noncomputable section

/-! # The constants the two programs spell, as the numbers they denote -/

namespace Cert.Consts

open Idealize.ShloMosaic

/-- The width of a head's values. -/
theorem ofBits_128 : Ideal.ofBits .f32 0x43000000#32 = ((128 : ℝ) : EReal) := by
  simp [Ideal.ofBits, Ideal.ieee, -EReal.coe_mul]; norm_num

/-- The scale of the scores. -/
theorem ofBits_eighth : Ideal.ofBits .f32 0x3E000000#32 = (((1 : ℝ) / 8 : ℝ) : EReal) := by
  simp [Ideal.ofBits, Ideal.ieee, -EReal.coe_mul]; norm_num

/-- The start of a maximum. -/
theorem ofBits_neg_inf : Ideal.ofBits .f32 0xFF800000#32 = ⊥ := by
  simp [Ideal.ofBits, Ideal.ieee, -EReal.coe_mul]

/-- The bound of the finite numbers. -/
theorem ofBits_inf : Ideal.ofBits .f32 0x7F800000#32 = ⊤ := by
  simp [Ideal.ofBits, Ideal.ieee, -EReal.coe_mul]

/-- The norm's small constant is a real number. -/
theorem ofBits_eps : ∃ r : ℝ, Ideal.ofBits .f32 0x358637BD#32 = (r : EReal) := by
  simp [Ideal.ofBits, Ideal.ieee, -EReal.coe_mul]

/-- One. -/
theorem ofBits_one : Ideal.ofBits .f32 0x3F800000#32 = 1 := by
  simp [Ideal.ofBits, Ideal.ieee, -EReal.coe_mul]; norm_num
/-- Minus one. -/
theorem ofBits_neg_one : Ideal.ofBits .f32 0xBF800000#32 = ((-(1 : ℝ) : ℝ) : EReal) := by
  simp [Ideal.ofBits, Ideal.ieee, -EReal.coe_mul]; norm_num
/-- Zero. -/
theorem ofBits_zero : Ideal.ofBits .f32 0x00000000#32 = 0 := by
  simp [Ideal.ofBits, Ideal.ieee]
/-- One, of the narrow format. -/
theorem ofBits_one16 : Ideal.ofBits .bf16 0x3F80#16 = 1 := by
  simp [Ideal.ofBits, Ideal.ieee, -EReal.coe_mul]; norm_num
/-- Zero, of the narrow format. -/
theorem ofBits_zero16 : Ideal.ofBits .bf16 0x0000#16 = 0 := by
  simp [Ideal.ofBits, Ideal.ieee]

end Cert.Consts

end
-- ==== Proof.Math.Combine.lean ====
module

public import proofs.«01_k».proof.Proof.Math.Consts
public import proofs.«01_k».proof.Proof.Math.Softmax

@[expose] public section

noncomputable section

/-! # Two softmax maps subtracted, then normed: dividing before or after the sum over the keys -/

namespace Cert.Combine

open Idealize.ShloMosaic Cert.Softmax

/-- A head's output over the root of its mean square. -/
def normOut (o : Fin 128 → EReal) (e : Fin 128) : EReal :=
  o e * Ideal.rsqrt (Ideal.div (∑ e, o e * o e) (Ideal.ofBits .f32 0x43000000#32) + Ideal.ofBits .f32 0x358637BD#32)

/-- Neither a nonzero real number. -/
def Ext (x : EReal) : Prop := x = 0 ∨ x = ⊤ ∨ x = ⊥

theorem Ext.sum {ι : Type} (t : Finset ι) (f : ι → EReal) (h : ∀ i, Ext (f i)) : Ext (∑ i ∈ t, f i) := by
  classical
  induction t using Finset.induction_on with
  | empty => left; simp
  | insert a t ha ih =>
    rw [Finset.sum_insert ha]
    rcases h a with h | h | h <;> rcases ih with ih | ih | ih <;> rw [h, ih] <;> simp [Ext]

theorem Ext.mul {r : ℝ} {t : EReal} (h : Ext t) : Ext ((r : EReal) * t) := by
  rcases h with h | h | h <;> subst h
  · left; simp
  all_goals
    rcases lt_trichotomy r 0 with hr | hr | hr
    · simp [Ext, EReal.coe_mul_top_of_neg, EReal.coe_mul_bot_of_neg, hr]
    · subst hr; left; simp
    · simp [Ext, EReal.coe_mul_top_of_pos, EReal.coe_mul_bot_of_pos, hr]

theorem rsqrt_top : Ideal.rsqrt ⊤ = 0 := rfl

theorem normOut_ext (o : Fin 128 → EReal) (h : ∀ e, Ext (o e)) (e : Fin 128) : normOut o e = 0 := by
  by_cases hz : ∀ e, o e = 0
  · unfold normOut; rw [hz e, zero_mul]
  · push Not at hz
    obtain ⟨e', he'⟩ := hz
    have hsq : o e' * o e' = ⊤ := by
      rcases h e' with h | h | h
      · exact absurd h he'
      · rw [h]; rfl
      · rw [h]; rfl
    have hnn : ∀ e, 0 ≤ o e * o e := fun e => by
      rcases h e with h | h | h <;> rw [h]
      · simp
      · exact le_top
      · exact le_top
    have hs : ∑ e, o e * o e = ⊤ := by
      rw [eq_top_iff, ← hsq]
      exact Finset.single_le_sum (f := fun e => o e * o e) (fun e _ => hnn e) (Finset.mem_univ e')
    obtain ⟨ep, hep⟩ := Consts.ofBits_eps
    unfold normOut
    rw [hs, Consts.ofBits_128, hep]
    have hd : Ideal.div ⊤ ((128 : ℝ) : EReal) = ⊤ := by
      unfold Ideal.div
      rw [if_neg (by norm_cast), ← EReal.coe_inv]
      exact EReal.top_mul_coe_of_pos (by norm_num)
    rw [hd, EReal.top_add_coe, rsqrt_top, mul_zero]

theorem div_coe {x y : ℝ} (h : y ≠ 0) : Ideal.div (x : EReal) (y : EReal) = ((x * y⁻¹ : ℝ) : EReal) := by
  unfold Ideal.div
  rw [if_neg (by exact_mod_cast h), EReal.coe_mul, EReal.coe_inv]

theorem div_zero_zero : Ideal.div ((0 : ℝ) : EReal) ((0 : ℝ) : EReal) = ⊥ := by
  unfold Ideal.div; simp

variable {n : ℕ} (r0 r1 : Fin n → ℝ) (v : Fin n → Fin 128 → ℝ) (lam : ℝ)

/-- The sums over the keys divided, then subtracted. -/
def after (e : Fin 128) : EReal :=
  Ideal.div ((∑ k, v k e * r0 k : ℝ) : EReal) ((∑ k, r0 k : ℝ) : EReal)
    - (lam : EReal) * Ideal.div ((∑ k, v k e * r1 k : ℝ) : EReal) ((∑ k, r1 k : ℝ) : EReal)

/-- The weights divided and subtracted, then summed over the keys. -/
def before (e : Fin 128) : EReal :=
  ∑ k, ((v k e : ℝ) : EReal) * (Ideal.div ((r0 k : ℝ) : EReal) ((∑ k, r0 k : ℝ) : EReal)
    - (lam : EReal) * Ideal.div ((r1 k : ℝ) : EReal) ((∑ k, r1 k : ℝ) : EReal))

/-- After the norm the two are equal. -/
theorem norm_eq (h0 : ∀ k, 0 ≤ r0 k) (h1 : ∀ k, 0 ≤ r1 k) (e : Fin 128) :
    normOut (after r0 r1 v lam) e = normOut (before r0 r1 v lam) e := by
  have z1 : (∑ k, r1 k) = 0 → ∀ k, r1 k = 0 := fun h k => (Finset.sum_eq_zero_iff_of_nonneg fun k _ => h1 k).mp h k (Finset.mem_univ k)
  have z0 : (∑ k, r0 k) = 0 → ∀ k, r0 k = 0 := fun h k => (Finset.sum_eq_zero_iff_of_nonneg fun k _ => h0 k).mp h k (Finset.mem_univ k)
  by_cases L0 : (∑ k, r0 k) = 0
  · rw [normOut_ext _ _ e, normOut_ext _ _ e]
    · refine fun e => Ext.sum _ _ fun k => Ext.mul ?_
      rw [L0, z0 L0 k, div_zero_zero, sub_eq_add_neg, EReal.bot_add]
      exact .inr (.inr rfl)
    · intro e
      unfold after
      have : ∑ k, v k e * r0 k = 0 := Finset.sum_eq_zero fun k _ => by rw [z0 L0 k, mul_zero]
      rw [L0, this, div_zero_zero, sub_eq_add_neg, EReal.bot_add]
      exact .inr (.inr rfl)
  by_cases L1 : (∑ k, r1 k) = 0
  · have hs : ∀ e, ∑ k, v k e * r1 k = 0 := fun e => Finset.sum_eq_zero fun k _ => by rw [z1 L1 k, mul_zero]
    by_cases hl : lam = 0
    · congr 1; funext e
      unfold after before
      subst hl
      simp only [EReal.coe_zero, zero_mul, sub_zero, div_coe L0, ← EReal.coe_mul, ← coe_sum]
      congr 1
      rw [Finset.sum_mul]
      exact Finset.sum_congr rfl fun k _ => by ring
    · have ht : ∀ x : ℝ, Ext ((x : EReal) - (lam : EReal) * ⊥) := by
        intro x
        rcases lt_or_gt_of_ne hl with h | h
        · rw [EReal.coe_mul_bot_of_neg h, sub_eq_add_neg, EReal.neg_top, EReal.add_bot]; exact .inr (.inr rfl)
        · rw [EReal.coe_mul_bot_of_pos h, EReal.coe_sub_bot]; exact .inr (.inl rfl)
      rw [normOut_ext _ _ e, normOut_ext _ _ e]
      · refine fun e => Ext.sum _ _ fun k => Ext.mul ?_
        rw [L1, z1 L1 k, div_zero_zero, div_coe L0]; exact ht _
      · intro e
        unfold after
        rw [L1, hs e, div_zero_zero, div_coe L0]; exact ht _
  · congr 1; funext e
    unfold after before
    simp only [div_coe L0, div_coe L1, ← EReal.coe_mul, ← EReal.coe_sub, ← coe_sum]
    congr 1
    rw [Finset.sum_mul, Finset.sum_mul, Finset.mul_sum, ← Finset.sum_sub_distrib]
    exact Finset.sum_congr rfl fun k _ => by ring

end Cert.Combine

end
-- ==== Proof.Value.Head.lean ====
module

public import proofs.«01_k».proof.Proof.KernelIdeal.Flash
public import proofs.«01_k».proof.Proof.Math.Combine
public import Idealize.ShloMosaic.Lib.Pointwise

@[expose] public section

set_option maxRecDepth 16384

noncomputable section

namespace Cert.Value

open Cert.KernelIdeal Cert.KernelIdeal.Gen
open Idealize.ShloMosaic Idealize.ShloMosaic.TcCoe Idealize.SL.Sem

/-! # The attention's body, element by element -/

theorem idx_eq2 {a b : ℕ} {i j : (⟨2, ![a, b]⟩ : Shape).Idx} (h0 : (i 0).val = (j 0).val) (h1 : (i 1).val = (j 1).val) : i = j :=
  funext fun x => by fin_cases x; exacts [Fin.ext h0, Fin.ext h1]
theorem idx_eq3 {a b c : ℕ} {i j : (⟨3, ![a, b, c]⟩ : Shape).Idx} (h0 : (i 0).val = (j 0).val) (h1 : (i 1).val = (j 1).val)
    (h2 : (i 2).val = (j 2).val) : i = j :=
  funext fun x => by fin_cases x; exacts [Fin.ext h0, Fin.ext h1, Fin.ext h2]

theorem num0 (a : FVec Ideal S1x144x256 .f32) (h) (e : Fin 128) (r : Fin 256) :
    VecWindow.window a ![0, 0, 0] ![1, 128, 256] h (ix3 0 e r) = a (ix3 0 (⟨e.val, by omega⟩ : Fin 144) r) := by
  refine congrArg a (idx_eq3 ?_ ?_ ?_) <;> simp [Rect.emb, Rect.unit]
theorem den0 (a : FVec Ideal S1x144x256 .f32) (h) (r : Fin 256) :
    VecWindow.window a ![0, 128, 0] ![1, 1, 256] h (ix3 0 0 r) = a (ix3 0 (128 : Fin 144) r) := by
  refine congrArg a (idx_eq3 ?_ ?_ ?_) <;> simp [Rect.emb, Rect.unit]

/-- The head a lane belongs to. -/
theorem lane_head (l : Fin 128) : k1_pay35 (ix2 0 l) = BitVec.ofNat 32 (l.val / 64) := by
  pointwise [k1_pay35]
  revert l; decide +kernel

theorem sc_at (q : FVec Ideal S256x128 .bf16) (k : Vec Ideal S8448x128 .bf16) (j : ℕ) (hj : j < 11) (a : Fin 768) (r : Fin 256) :
    Attn.sc q k j (ix4 0 0 a r) = ∑ l : Fin 128, k (ix2 (⟨j * 768 + a.val, by omega⟩ : Fin 8448) l) * q (ix2 r l) := by
  pointwise [Attn.sc, k1_pay1, Attn.kc]
  refine Finset.sum_congr rfl fun l _ => ?_
  congr 1
  refine congrArg k (idx_eq2 ?_ ?_)
  · simp [Rect.emb, Rect.unit]; rw [Nat.mod_eq_of_lt hj]; ring
  · simp [Rect.emb, Rect.unit]

theorem mNew_at (m : FVec Ideal S1x256 .f32) (s : FVec Ideal S1x1x768x256 .f32) (r : Fin 256) :
    Attn.mNew m s (ix2 0 r) = max (m (ix2 0 r)) (Finset.univ.fold max ⊥ fun a : Fin 768 => s (ix4 0 0 a r)) := by
  pointwise [Attn.mNew, k1_pay9, k1_pay8]
  rw [Consts.ofBits_neg_inf]

theorem aNew_at (m : FVec Ideal S1x256 .f32) (v : Vec Ideal S1x144x768 .bf16) (s : FVec Ideal S1x1x768x256 .f32) (acc : FVec Ideal S1x144x256 .f32) (e : Fin 144) (r : Fin 256) :
    Attn.aNew m v s acc (ix3 0 e r) = Ideal.exp2 (m (ix2 0 r) - Attn.mNew m s (ix2 0 r)) * acc (ix3 0 e r)
      + ∑ a : Fin 768, v (ix3 0 e a) * Ideal.exp2 (s (ix4 0 0 a r) - Attn.mNew m s (ix2 0 r)) := by
  pointwise [Attn.aNew, k1_pay10, k1_pay8, k1_pay3]
  rfl

theorem headOut_at (lam : EReal) (a0 a1 : FVec Ideal S1x144x256 .f32) (sub : Vec Ideal S128x1 .f32) (r : Fin 256) (e : Fin 128) :
    Attn.headOut (F := Ideal) lam a0 a1 sub (ix2 r e) = Combine.normOut (fun e => Ideal.div (a0 (ix3 0 (⟨e.val, by omega⟩ : Fin 144) r)) (a0 (ix3 0 (128 : Fin 144) r))
        - lam * Ideal.div (a1 (ix3 0 (⟨e.val, by omega⟩ : Fin 144) r)) (a1 (ix3 0 (128 : Fin 144) r))) e
      * (sub (ix2 e 0)) := by
  unfold Combine.normOut
  pointwise [Attn.headOut, k1_pay54, Attn.num, Attn.den]
  simp only [num0, den0]

theorem vc_at (v : Vec Ideal S2x144x8448 .bf16) (h : Fin 2) (j : ℕ) (hj : j < 11) (e : Fin 144) (a : Fin 768) :
    Attn.vc v h j (ix3 0 e a) = v (ix3 h e (⟨j * 768 + a.val, by omega⟩ : Fin 8448)) := by
  refine congrArg v (idx_eq3 ?_ ?_ ?_)
  · simp [Rect.emb, Rect.unit]
  · simp [Rect.emb, Rect.unit]
  · simp [Rect.emb, Rect.unit]; rw [Nat.mod_eq_of_lt hj]; ring

theorem qm_at (q : Vec Ideal S256x128 .bf16) (h : Fin 2) (r : Fin 256) (l : Fin 128) :
    Attn.qm q h (ix2 r l) = if l.val / 64 = h.val then q (ix2 r l) else 0 := by
  have hl : l.val / 64 = 0 ∨ l.val / 64 = 1 := by omega
  fin_cases h
  · show k1_pay36 q (ix2 r l) = _
    pointwise [k1_pay36]
    rw [lane_head]
    rcases hl with hl | hl <;> rw [hl] <;> simp [Scalar.select, IntOp.cmpi, Consts.ofBits_zero16]
  · show k1_pay58 (k1_pay55 q) (k1_pay56 k1_pay35) k1_pay57 (ix2 r l) = _
    pointwise [k1_pay58, k1_pay57, k1_pay56, k1_pay55]
    rw [lane_head]
    rcases hl with hl | hl <;> rw [hl] <;> simp [Scalar.select, IntOp.cmpi, Consts.ofBits_zero16]

section Recursion

variable (q : Vec Ideal S256x128 .bf16) (k : Vec Ideal S8448x128 .bf16) (v : Vec Ideal S2x144x8448 .bf16) (h : Fin 2) (r : Fin 256)

/-- The score of one key against one query row of head `h`. -/
def score (n : Fin 8448) : EReal := ∑ l : Fin 128, k (ix2 n l) * (if l.val / 64 = h.val then q (ix2 r l) else 0)

/-- The scores of block `j`, whatever `j`. -/
def S (j : ℕ) (a : Fin 768) : EReal := if hj : j < 11 then score q k h r ⟨j * 768 + a.val, by omega⟩ else 0

theorem sc_S (j : ℕ) (hj : j < 11) (a : Fin 768) : Attn.sc (Attn.qm q h) k j (ix4 0 0 a r) = S q k h r j a := by
  rw [sc_at _ _ _ hj, S, dif_pos hj, score]
  exact Finset.sum_congr rfl fun l _ => by rw [qm_at]

theorem st_max (j : ℕ) (hj : j ≤ 11) : (Attn.st (Attn.qm q h) k v h j).1 (ix2 0 r) = Softmax.M (S q k h r) j := by
  induction j with
  | zero => show k1_pay42 (F := Ideal) (ix2 0 r) = ⊥; pointwise [k1_pay42]; exact Consts.ofBits_neg_inf
  | succ j ih =>
    show Attn.mNew _ _ (ix2 0 r) = _
    rw [mNew_at, ih (by omega), Softmax.M]
    simp only [sc_S q k h r j (by omega)]

theorem st_acc (vr : Fin 8448 → ℝ) (e : Fin 144) (hv : ∀ n, v (ix3 h e n) = ((vr n : ℝ) : EReal)) (j : ℕ) (hj : j ≤ 11) :
    (Attn.st (Attn.qm q h) k v h j).2 (ix3 0 e r)
      = Softmax.A (S q k h r) (fun j a => if hj : j < 11 then vr ⟨j * 768 + a.val, by omega⟩ else 0) j := by
  induction j with
  | zero => exact Ideal.ofBits_zero_f32
  | succ j ih =>
    have hm := st_max q k v h r (j + 1) hj
    show Attn.aNew _ _ _ _ (ix3 0 e r) = _
    rw [aNew_at, ih (by omega), Softmax.A, st_max q k v h r j (by omega)]
    have hm' : Attn.mNew (Attn.st (Attn.qm q h) k v h j).1 (Attn.sc (Attn.qm q h) k j) (ix2 0 r) = Softmax.M (S q k h r) (j + 1) := hm
    rw [hm']
    congr 1
    refine Finset.sum_congr rfl fun a _ => ?_
    rw [vc_at _ _ _ (by omega), sc_S q k h r j (by omega), hv, dif_pos (by omega : j < 11)]

/-- The weight of key `n`. -/
def wt (n : Fin 8448) : ℝ := Softmax.w (score q k h r n) (Finset.univ.fold max ⊥ (score q k h r))

theorem st_eq (vr : Fin 8448 → ℝ) (e : Fin 144) (hv : ∀ n, v (ix3 h e n) = ((vr n : ℝ) : EReal)) :
    (Attn.st (Attn.qm q h) k v h 11).2 (ix3 0 e r) = ((∑ n, vr n * wt q k h r n : ℝ) : EReal) := by
  rw [st_acc q k v h r vr e hv 11 le_rfl]
  refine Softmax.A_all (T := 768) _ _ 11 (by norm_num) (score q k h r) vr ?_ ?_
  · intro j hj a; exact dif_pos hj
  · intro j hj a; exact dif_pos hj

end Recursion

/-- One head's block at an element: the two softmax maps' sums over the keys, subtracted and normed. -/
theorem headBlk_at (lam : ℝ) (q0 q1 : Vec Ideal S256x128 .bf16) (k0 k1 : Vec Ideal S8448x128 .bf16) (v : Vec Ideal S2x144x8448 .bf16)
    (sub : Vec Ideal S128x1 .f32) (h : Fin 2) (vr : Fin 8448 → Fin 128 → ℝ)
    (hv : ∀ n (e : Fin 128), v (ix3 h (⟨e.val, by omega⟩ : Fin 144) n) = ((vr n e : ℝ) : EReal))
    (h1 : ∀ n, v (ix3 h (128 : Fin 144) n) = 1) (r : Fin 256) (e : Fin 128) :
    Attn.headBlk (F := Ideal) (lam : EReal) q0 q1 k0 k1 v sub h (ix2 r e)
      = Combine.normOut (Combine.after (wt q0 k0 h r) (wt q1 k1 h r) vr lam) e * (sub (ix2 e 0)) := by
  have hd : ∀ (q : Vec Ideal S256x128 .bf16) (k : Vec Ideal S8448x128 .bf16),
      (Attn.st (Attn.qm q h) k v h 11).2 (ix3 0 (128 : Fin 144) r) = ((∑ n, wt q k h r n : ℝ) : EReal) := fun q k => by
    rw [st_eq q k v h r (fun _ => 1) 128 (fun n => by rw [h1 n]; rfl)]
    simp only [one_mul]
  unfold Attn.headBlk
  rw [headOut_at]
  refine congrArg (· * (sub (ix2 e 0))) (congrArg (fun o => Combine.normOut o e) (funext fun e => ?_))
  rw [hd, hd, st_eq q0 k0 v h r (fun n => vr n e) _ (fun n => hv n e), st_eq q1 k1 v h r (fun n => vr n e) _ (fun n => hv n e)]
  rfl

end Cert.Value

end
-- ==== Proof.Value.Tiles.lean ====
module

public import proofs.«01_k».proof.Proof.KernelIdeal.Rope
public import proofs.«01_k».proof.Proof.Math.Combine
public import proofs.«01_k».proof.Proof.Value.Head
public import Idealize.ShloMosaic.Lib.Pointwise
public import Idealize.ShloMosaic.Lib.Pipeline.ValueKit

@[expose] public section

set_option maxRecDepth 16384

noncomputable section

namespace Cert.Value

open Cert.KernelIdeal Cert.KernelIdeal.Gen
open Idealize.ShloMosaic Idealize.ShloMosaic.TcCoe Idealize.SL.Sem

/-! # The rotation's body, element by element -/

/-- The low half of each 32 lanes. -/
theorem low_at (l : Fin 128) : k0_pay7 (ix2 0 l) = if l.val % 32 < 16 then 1#1 else 0#1 := by
  pointwise [k0_pay7]
  revert l; decide +kernel

/-- The lane a rotation reads beside a lane: the other half's of its 32 lanes. -/
def oth (l : ℕ) : ℕ := if l % 32 < 16 then l + 16 else l - 16

theorem kTile_at (cs sn t : Vec Ideal S256x128 .f32) (r : Fin 256) (l l' : Fin 128) (hl : l'.val = oth l.val) :
    Rope.kTile cs sn t (ix2 r l) = t (ix2 r l) * cs (ix2 r l) + t (ix2 r l') * sn (ix2 r l) := by
  pointwise [Rope.kTile, k0_pay9, k0_pay5, k0_pay6]
  rw [low_at]
  unfold oth at hl
  split at hl
  · rename_i h
    have e : (⟨(l.val + 128 - 112) % 128, by omega⟩ : Fin 128) = l' := Fin.ext (by rw [hl]; show (l.val + 128 - 112) % 128 = l.val + 16; omega)
    simp only [h, ↓reduceIte, Scalar.select, e]; rfl
  · rename_i h
    have e : (⟨(l.val + 128 - 16) % 128, by omega⟩ : Fin 128) = l' := Fin.ext (by rw [hl]; show (l.val + 128 - 16) % 128 = l.val - 16; omega)
    simp only [h, ↓reduceIte, Scalar.select, e]; rfl

theorem qTile_at (cs sn t : Vec Ideal S256x128 .f32) (r : Fin 256) (l : Fin 128) :
    Rope.qTile cs sn t (ix2 r l) = Rope.kTile cs sn t (ix2 r l) * (((8 * (Real.log 2))⁻¹ : ℝ) : EReal) := by
  pointwise [Rope.qTile, Rope.kTile, k0_pay9, k0_pay5, k0_pay6, k0_pay8]
  rfl

theorem vTile_at (t : Vec Ideal S256x128 .f32) (e : Fin 128) (r : Fin 256) : k0_pay3 t (ix3 0 e r) = t (ix2 r e) := by
  pointwise [k0_pay3]
theorem one_at (e : Fin 16) (r : Fin 256) : k0_pay4 (F := Ideal) (ix3 0 e r) = 1 := by
  pointwise [k0_pay4]
  all_goals exact Consts.ofBits_one16

/-- The tile of keys at columns `c`, at an element. -/
theorem kTile_win (x : Vec Ideal S256x3072 .f32) (cs sn : Vec Ideal S256x128 .f32) (c : ℕ)
    (inb : ∀ a, (![0, c] : Fin 2 → ℕ) a + S256x128.size a ≤ S256x3072.size a) (y : S256x128.Idx) (r : Fin 256) (d : Fin 128) (n n' : Fin 3072)
    (hr : r.val = (y 0).val) (hd : d.val = (y 1).val) (hn : n.val = c + d.val) (hn' : n'.val = c + oth d.val) :
    Rope.kTile cs sn (VecWindow.window x ![0, c] S256x128.size inb) y = x (ix2 r n) * cs (ix2 r d) + x (ix2 r n') * sn (ix2 r d) := by
  have ho : oth d.val < 128 := by have := d.isLt; unfold oth; split <;> omega
  have hy : y = ix2 r d := idx_eq2 hr.symm hd.symm
  rw [hy, kTile_at _ _ _ r d ⟨oth d.val, ho⟩ rfl]
  congr 2
  · refine congrArg x (idx_eq2 ?_ ?_) <;> simp [Rect.emb, Rect.unit, hn]
  · refine congrArg x (idx_eq2 ?_ ?_) <;> simp [Rect.emb, Rect.unit, hn']

/-- The tile of queries at columns `c`, at an element. -/
theorem qTile_win (x : Vec Ideal S256x3072 .f32) (cs sn : Vec Ideal S256x128 .f32) (c : ℕ)
    (inb : ∀ a, (![0, c] : Fin 2 → ℕ) a + S256x128.size a ≤ S256x3072.size a) (y : S256x128.Idx) (r : Fin 256) (d : Fin 128) (n n' : Fin 3072)
    (hr : r.val = (y 0).val) (hd : d.val = (y 1).val) (hn : n.val = c + d.val) (hn' : n'.val = c + oth d.val) :
    Rope.qTile cs sn (VecWindow.window x ![0, c] S256x128.size inb) y
      = (x (ix2 r n) * cs (ix2 r d) + x (ix2 r n') * sn (ix2 r d)) * (((8 * (Real.log 2))⁻¹ : ℝ) : EReal) := by
  have hy : y = ix2 r d := idx_eq2 hr.symm hd.symm
  rw [← kTile_win x cs sn c inb y r d n n' hr hd hn hn', hy, qTile_at]

theorem vTile_win (x : Vec Ideal S256x3072 .f32) (c : ℕ)
    (inb : ∀ a, (![0, c] : Fin 2 → ℕ) a + S256x128.size a ≤ S256x3072.size a) (y : S1x128x256.Idx) (r : Fin 256) (n : Fin 3072)
    (hr : r.val = (y 2).val) (hn : n.val = c + (y 1).val) :
    k0_pay3 (VecWindow.window x ![0, c] S256x128.size inb) y = x (ix2 r n) := by
  have hy : y = (ix3 0 (⟨(y 1).val, (y 1).isLt⟩ : Fin 128) r : (⟨3, ![1, 128, 256]⟩ : Shape).Idx) := idx_eq3 (by have : (y 0).val < 1 := (y 0).isLt; show (y 0).val = 0; omega) rfl hr.symm
  rw [hy]
  refine (vTile_at _ _ _).trans ?_
  refine congrArg x (idx_eq2 ?_ ?_) <;> simp [Rect.emb, Rect.unit, hn]

theorem oth_lt {l n : ℕ} (h : l < 32 * n) : oth l < 32 * n := by unfold oth; split <;> omega
theorem oth_mod (l : ℕ) : oth l = 128 * (l / 128) + oth (l % 128) := by unfold oth; split <;> split <;> omega

/-- The keys' block at an element. -/
theorem kBlk_at (x : Vec Ideal S256x3072 .f32) (cs sn : Vec Ideal S256x128 .f32) (r : Fin 256) (l : Fin 1024) :
    Rope.kBlk x cs sn (ix2 r l) = x (ix2 r ⟨1024 + l.val, by omega⟩) * cs (ix2 r ⟨l.val % 128, by omega⟩)
      + x (ix2 r ⟨1024 + oth l.val, by have := oth_lt (n := 32) l.isLt; omega⟩) * sn (ix2 r ⟨l.val % 128, by omega⟩) := by
  have hm := oth_mod l.val
  unfold Rope.kBlk Rope.kPieces
  canon_tiles y h
  all_goals
    have h0' : r.val = (y 0).val := h0
    have h1' : l.val = _ := h1
    refine kTile_win _ _ _ _ _ _ _ _ _ _ h0' ?_ ?_ ?_
    · show l.val % 128 = _; omega
    · show 1024 + l.val = _ + l.val % 128; omega
    · show 1024 + oth l.val = _ + oth (l.val % 128); omega

/-- The queries' block at an element. -/
theorem qBlk_at (x : Vec Ideal S256x3072 .f32) (cs sn : Vec Ideal S256x128 .f32) (r : Fin 256) (l : Fin 1024) :
    Rope.qBlk x cs sn (ix2 r l) = (x (ix2 r ⟨l.val, by omega⟩) * cs (ix2 r ⟨l.val % 128, by omega⟩)
      + x (ix2 r ⟨oth l.val, by have := oth_lt (n := 32) l.isLt; omega⟩) * sn (ix2 r ⟨l.val % 128, by omega⟩)) * (((8 * (Real.log 2))⁻¹ : ℝ) : EReal) := by
  have hm := oth_mod l.val
  unfold Rope.qBlk Rope.qPieces
  canon_tiles y h
  all_goals
    have h0' : r.val = (y 0).val := h0
    have h1' : l.val = _ := h1
    refine qTile_win _ _ _ _ _ _ _ _ _ _ h0' ?_ ?_ ?_
    · show l.val % 128 = _; omega
    · show l.val = _ + l.val % 128; omega
    · show oth l.val = _ + oth (l.val % 128); omega

/-- The pieces of the transposed values' block cover it. -/
theorem vcover (x : Vec Ideal S256x3072 .f32) : ∀ y : S8x144x256.Idx, ∃ p ∈ Rope.vPieces x, y ∈ p.1.set :=
  View.cover_of_tiledBy (s := S8x144x256) _ ![1, 16, 256] (by sl_kernel_rfl)

/-- The transposed values' block at an element of a head's values. -/
theorem vBlk_at (x : Vec Ideal S256x3072 .f32) (h : Fin 8) (e : Fin 144) (he : e.val < 128) (r : Fin 256) :
    Rope.vBlk x (ix3 h e r) = x (ix2 r ⟨2048 + 128 * h.val + e.val, by omega⟩) := by
  unfold Rope.vBlk Rope.vPieces
  canon_tiles y g using vcover x _
  all_goals
    have g0' : h.val = _ := g0
    have g1' : e.val = _ := g1
    have g2' : r.val = (y 2).val := g2
    first
    | exact absurd he (by omega)
    | refine vTile_win _ _ _ _ _ _ g2' ?_
      show 2048 + 128 * h.val + e.val = _
      omega

/-- The rows of ones below a head's values. -/
theorem vBlk_one (x : Vec Ideal S256x3072 .f32) (h : Fin 8) (e : Fin 144) (he : ¬ e.val < 128) (r : Fin 256) :
    Rope.vBlk x (ix3 h e r) = 1 := by
  unfold Rope.vBlk Rope.vPieces
  canon_tiles y g using vcover x _
  all_goals
    have g1' : e.val = _ := g1
    first
    | exact absurd (show e.val < 128 by omega) he
    | have hy : y = ix3 0 (y 1) (y 2) := idx_eq3 (by have : (y 0).val < 1 := (y 0).isLt; show (y 0).val = 0; omega) rfl rfl
      rw [hy]; exact one_at _ _

/-- The attention's block at an element. -/
theorem blkOut_at (lam : EReal) (q0 q1 : Vec Ideal S256x128 .bf16) (k0 k1 : Vec Ideal S8448x128 .bf16) (v : Vec Ideal S2x144x8448 .bf16)
    (sub : Vec Ideal S128x1 .f32) (r : Fin 256) (l : Fin 256) :
    Attn.blkOut (F := Ideal) lam q0 q1 k0 k1 v sub (ix2 r l)
      = Attn.headBlk (F := Ideal) lam q0 q1 k0 k1 v sub (⟨l.val / 128, by omega⟩ : Fin 2) (ix2 r (⟨l.val % 128, by omega⟩ : Fin 128)) := by
  unfold Attn.blkOut
  canon_tiles y h
  · have h0' : r.val = (y 0).val := h0
    have h1' : l.val = 128 + (y 1).val := h1
    have e : (⟨l.val / 128, by omega⟩ : Fin 2) = 1 := Fin.ext (by show l.val / 128 = 1; omega)
    rw [e]
    exact congrArg _ (idx_eq2 h0'.symm (by show (y 1).val = l.val % 128; omega))
  · have h0' : r.val = (y 0).val := h0
    have h1' : l.val = (y 1).val := h1
    have e : (⟨l.val / 128, by omega⟩ : Fin 2) = 0 := Fin.ext (by show l.val / 128 = 0; omega)
    rw [e]
    exact congrArg _ (idx_eq2 h0'.symm (by show (y 1).val = l.val % 128; omega))

end Cert.Value

end
-- ==== Proof.Value.AttnArray.lean ====
module

public import proofs.«01_k».proof.Proof.KernelIdeal.Region1
public import proofs.«01_k».proof.Proof.Math.Combine
public import proofs.«01_k».proof.Proof.Value.Tiles
public import Idealize.ShloMosaic.Lib.Pointwise
public import Idealize.ShloMosaic.Lib.Pipeline.ValueKit

@[expose] public section

set_option maxRecDepth 16384

noncomputable section

namespace Cert.Value

open Cert.KernelIdeal Cert.KernelIdeal.Gen
open Idealize.ShloMosaic Idealize.ShloMosaic.TcCoe Idealize.SL.Sem

/-! # What the attention leaves in its array -/

open Idealize.ShloMosaic.Pipeline (Dat)

/-- Every key's weight among its row of scores. -/
def wgt {N : ℕ} (s : Fin N → EReal) (n : Fin N) : ℝ := Softmax.w (s n) (Finset.univ.fold max ⊥ s)

/-- The score of key `n` under map `u` of head `h` at query row `R`, over all lanes of the pair of heads. -/
def laneScore (Q K : FVec Ideal S8448x1024 .bf16) (u : Fin 2) (h : Fin 8) (R : Fin 8192) (n : Fin 8448) : EReal :=
  ∑ l : Fin 128, K (ix2 n (⟨128 * (4 * u.val + h.val / 2) + l.val, by omega⟩ : Fin 1024))
    * (if l.val / 64 = h.val % 2 then Q (ix2 (⟨256 + R.val, by omega⟩ : Fin 8448) (⟨128 * (4 * u.val + h.val / 2) + l.val, by omega⟩ : Fin 1024)) else 0)

/-- The attention's array. -/
def oarr (Q K : FVec Ideal S8448x1024 .bf16) (lam : ℝ) (vr : Fin 8 → Fin 8448 → Fin 128 → ℝ) (sub : FVec Ideal S128x1 .f32) :
    FVec Ideal S8192x1024 .bf16 := fun i =>
  have hl : (i 1).val < 1024 := (i 1).isLt
  let h : Fin 8 := ⟨(i 1).val / 128, by omega⟩
  let e : Fin 128 := ⟨(i 1).val % 128, by omega⟩
  Combine.normOut (Combine.after (wgt (laneScore Q K 0 h (i 0))) (wgt (laneScore Q K 1 h (i 0))) (vr h) lam) e
    * (sub (ix2 e 0))

theorem idx1 : ∀ t : Fin cfg1.N, win1_1.index t = ![1 + t.val % 32, t.val / 32] ∧ win1_2.index t = ![1 + t.val % 32, 4 + t.val / 32]
    ∧ win1_3.index t = ![0, t.val / 32] ∧ win1_4.index t = ![0, 4 + t.val / 32] ∧ win1_5.index t = ![t.val / 32, 0, 0]
    ∧ win1_6.index t = ![0, 0] ∧ win1_7.index t = ![t.val % 32, t.val / 32] ∧ win1_0.index t = ![0, 0] :=
  (by decide +kernel : ∀ t : Fin grid1.N, _)

theorem N1 (t : Fin cfg1.N) : t.val < 128 := lt_of_lt_of_eq t.isLt (by decide +kernel)

section

variable (V : (c : Dev nD) → (b : Ref sig .tc) → Buf (Elt Ideal) ((c : Thread nD τ).loc b)) (c : Dev nD)

theorem q0_at (t : Fin cfg1.N) (y : S256x128.Idx) (r : Fin 8448) (l : Fin 1024)
    (hr : r.val = 256 * (1 + t.val % 32) + (y 0).val) (hl : l.val = 128 * (t.val / 32) + (y 1).val) :
    (Reg1.iblk V c 1 t : FVec Ideal S256x128 .bf16) y = (V c main_v19_0 : FVec Ideal S8448x1024 .bf16) (ix2 r l) := by
  blk_point [Reg1.iblk, idx1 t]
theorem q1_at (t : Fin cfg1.N) (y : S256x128.Idx) (r : Fin 8448) (l : Fin 1024)
    (hr : r.val = 256 * (1 + t.val % 32) + (y 0).val) (hl : l.val = 128 * (4 + t.val / 32) + (y 1).val) :
    (Reg1.iblk V c 2 t : FVec Ideal S256x128 .bf16) y = (V c main_v19_0 : FVec Ideal S8448x1024 .bf16) (ix2 r l) := by
  blk_point [Reg1.iblk, idx1 t]
theorem k0_at (t : Fin cfg1.N) (y : S8448x128.Idx) (r : Fin 8448) (l : Fin 1024)
    (hr : r.val = (y 0).val) (hl : l.val = 128 * (t.val / 32) + (y 1).val) :
    (Reg1.iblk V c 3 t : FVec Ideal S8448x128 .bf16) y = (V c main_v19_1 : FVec Ideal S8448x1024 .bf16) (ix2 r l) := by
  blk_point [Reg1.iblk, idx1 t]
theorem k1_at (t : Fin cfg1.N) (y : S8448x128.Idx) (r : Fin 8448) (l : Fin 1024)
    (hr : r.val = (y 0).val) (hl : l.val = 128 * (4 + t.val / 32) + (y 1).val) :
    (Reg1.iblk V c 4 t : FVec Ideal S8448x128 .bf16) y = (V c main_v19_1 : FVec Ideal S8448x1024 .bf16) (ix2 r l) := by
  blk_point [Reg1.iblk, idx1 t]
theorem v_at (t : Fin cfg1.N) (y : S2x144x8448.Idx) (h : Fin 8) (e : Fin 144) (n : Fin 8448)
    (h0 : h.val = 2 * (t.val / 32) + (y 0).val) (h1 : e.val = (y 1).val) (h2 : n.val = (y 2).val) :
    (Reg1.iblk V c 5 t : FVec Ideal S2x144x8448 .bf16) y = (V c main_v19_2 : FVec Ideal S8x144x8448 .bf16) (ix3 h e n) := by
  blk_point [Reg1.iblk, idx1 t]
theorem sub_at (t : Fin cfg1.N) (y : S128x1.Idx) (e : Fin 128) (h0 : e.val = (y 0).val) :
    (Reg1.iblk V c 6 t : FVec Ideal S128x1 .f32) y = (V c main_v40 : FVec Ideal S128x1 .f32) (ix2 e 0) := by
  blk_point [Reg1.iblk, idx1 t]
theorem lam_at (t : Fin cfg1.N) (y : S1x1.Idx) :
    (Reg1.iblk V c 0 t : FVec Ideal S1x1 .f32) y = (V c main_v36 : FVec Ideal S1x1 .f32) (ix2 0 0) := by
  blk_point [Reg1.iblk, idx1 t]

theorem o_point (lam : ℝ) (hlam : (V c main_v36 : FVec Ideal S1x1 .f32) (ix2 0 0) = (lam : EReal))
    (vr : Fin 8 → Fin 8448 → Fin 128 → ℝ)
    (hv : ∀ h n (e : Fin 128), (V c main_v19_2 : FVec Ideal S8x144x8448 .bf16) (ix3 h (⟨e.val, by omega⟩ : Fin 144) n) = ((vr h n e : ℝ) : EReal))
    (h1 : ∀ h n, (V c main_v19_2 : FVec Ideal S8x144x8448 .bf16) (ix3 h (128 : Fin 144) n) = (1 : EReal))
    (t : Fin cfg1.N) (r l : Fin 256) :
    Attn.blkOut (F := Ideal) (Reg1.lamOf (Reg1.iblk V c 0 t)) (Reg1.iblk V c 1 t) (Reg1.iblk V c 2 t) (Reg1.iblk V c 3 t)
        (Reg1.iblk V c 4 t) (Reg1.iblk V c 5 t) (Reg1.iblk V c 6 t) (ix2 r l)
      = oarr (V c main_v19_0) (V c main_v19_1) lam vr (V c main_v40)
          (ix2 (⟨256 * (t.val % 32) + r.val, by omega⟩ : Fin 8192) (⟨256 * (t.val / 32) + l.val, by have := N1 t; omega⟩ : Fin 1024)) := by
  have hN := N1 t
  have hlam' : Reg1.lamOf (F := Ideal) (Reg1.iblk V c 0 t) = (lam : EReal) := (lam_at V c t _).trans hlam
  rw [hlam']
  refine (blkOut_at _ _ _ _ _ _ _ r l).trans ?_
  refine (headBlk_at lam _ _ _ _ _ _ _ (vr ⟨2 * (t.val / 32) + l.val / 128, by omega⟩)
    (fun n e => (v_at V c t _ _ _ _ rfl rfl rfl).trans (hv _ n e)) (fun n => (v_at V c t _ ⟨2 * (t.val / 32) + l.val / 128, by omega⟩ 128 n rfl rfl rfl).trans (h1 _ n)) r _).trans ?_
  have eh : (⟨2 * (t.val / 32) + l.val / 128, by omega⟩ : Fin 8) = ⟨(256 * (t.val / 32) + l.val) / 128, by omega⟩ :=
    Fin.ext (by show 2 * (t.val / 32) + l.val / 128 = (256 * (t.val / 32) + l.val) / 128; omega)
  have ee : (⟨l.val % 128, by omega⟩ : Fin 128) = ⟨(256 * (t.val / 32) + l.val) % 128, by omega⟩ :=
    Fin.ext (by show l.val % 128 = (256 * (t.val / 32) + l.val) % 128; omega)
  rw [eh, ee]
  unfold oarr
  have s0 : score (Reg1.iblk V c 1 t) (Reg1.iblk V c 3 t) ⟨l.val / 128, by omega⟩ r
      = laneScore (V c main_v19_0) (V c main_v19_1) 0 ⟨(256 * (t.val / 32) + l.val) / 128, by omega⟩ ⟨256 * (t.val % 32) + r.val, by omega⟩ := by
    funext n
    unfold score laneScore
    refine Finset.sum_congr rfl fun x _ => Ideal.mul_congr (k0_at V c t _ _ _ rfl ?_) ?_
    · show 128 * (4 * 0 + (256 * (t.val / 32) + l.val) / 128 / 2) + x.val = 128 * (t.val / 32) + x.val; omega
    · refine if_congr ?_ (q0_at V c t _ _ _ ?_ ?_) rfl
      · show x.val / 64 = l.val / 128 ↔ x.val / 64 = (256 * (t.val / 32) + l.val) / 128 % 2; omega
      · show 256 + (256 * (t.val % 32) + r.val) = 256 * (1 + t.val % 32) + r.val; omega
      · show 128 * (4 * 0 + (256 * (t.val / 32) + l.val) / 128 / 2) + x.val = 128 * (t.val / 32) + x.val; omega
  have s1 : score (Reg1.iblk V c 2 t) (Reg1.iblk V c 4 t) ⟨l.val / 128, by omega⟩ r
      = laneScore (V c main_v19_0) (V c main_v19_1) 1 ⟨(256 * (t.val / 32) + l.val) / 128, by omega⟩ ⟨256 * (t.val % 32) + r.val, by omega⟩ := by
    funext n
    unfold score laneScore
    refine Finset.sum_congr rfl fun x _ => Ideal.mul_congr (k1_at V c t _ _ _ rfl ?_) ?_
    · show 128 * (4 * 1 + (256 * (t.val / 32) + l.val) / 128 / 2) + x.val = 128 * (4 + t.val / 32) + x.val; omega
    · refine if_congr ?_ (q1_at V c t _ _ _ ?_ ?_) rfl
      · show x.val / 64 = l.val / 128 ↔ x.val / 64 = (256 * (t.val / 32) + l.val) / 128 % 2; omega
      · show 256 + (256 * (t.val % 32) + r.val) = 256 * (1 + t.val % 32) + r.val; omega
      · show 128 * (4 * 1 + (256 * (t.val / 32) + l.val) / 128 / 2) + x.val = 128 * (4 + t.val / 32) + x.val; omega
  refine Ideal.mul_congr ?_ (sub_at V c t _ _ rfl)
  exact congrArg₂ (fun a b => Combine.normOut (Combine.after a b _ lam) _)
    (funext fun n => congrArg (fun s => wgt s n) s0) (funext fun n => congrArg (fun s => wgt s n) s1)

theorem o_arr (lam : ℝ) (hlam : (V c main_v36 : FVec Ideal S1x1 .f32) (ix2 0 0) = (lam : EReal))
    (vr : Fin 8 → Fin 8448 → Fin 128 → ℝ)
    (hv : ∀ h n (e : Fin 128), (V c main_v19_2 : FVec Ideal S8x144x8448 .bf16) (ix3 h (⟨e.val, by omega⟩ : Fin 144) n) = ((vr h n e : ℝ) : EReal))
    (h1 : ∀ h n, (V c main_v19_2 : FVec Ideal S8x144x8448 .bf16) (ix3 h (128 : Fin 144) n) = (1 : EReal)) :
    (Reg1.dat V c).arrAt 7 cfg1.N = oarr (V c main_v19_0) (V c main_v19_1) lam vr (V c main_v40) := by
  refine Dat.arrAt_eq_of_covers (Reg1.dat V c) 7 _ (by decide +kernel) fun t _ y => ?_
  blk_simp
  rw [Reg1.after_7]
  have h0 : (y 0).val < 256 := (y 0).isLt
  have h1' : (y 1).val < 256 := (y 1).isLt
  have hy : y = (ix2 (⟨(y 0).val, h0⟩ : Fin 256) (⟨(y 1).val, h1'⟩ : Fin 256) : S256x256.Idx) := idx_eq2 rfl rfl
  refine (congrArg _ hy).trans ((o_point V c lam hlam vr hv h1 t _ _).trans (congrArg _ (idx_eq2 ?_ ?_)))
  all_goals (blk_simp [idx1 t] <;> first | omega | (show 256 * (t.val % 32) + (y 0).val = t.val % 32 * 256 + (y 0).val; omega) | (show 256 * (t.val / 32) + (y 1).val = t.val / 32 * 256 + (y 1).val; omega))

end

end Cert.Value

end
-- ==== Proof.Value.Host.lean ====
module

public import proofs.«01_k».proof.Proof.KernelIdeal.Run
public import proofs.«01_k».proof.Proof.Math.Combine
public import proofs.«01_k».proof.Proof.Value.AttnArray
public import Idealize.ShloMosaic.Lib.Claim
public import Idealize.ShloMosaic.Lib.Pointwise
public import Idealize.ShloMosaic.Lib.Pipeline.ValueKit

@[expose] public section

set_option maxRecDepth 16384

noncomputable section

namespace Cert.Value

open Cert.KernelIdeal Cert.KernelIdeal.Gen
open Idealize.ShloMosaic Idealize.ShloMosaic.TcCoe Idealize.SL.Sem

/-! # What the host computes before the two calls -/

open Cert.KernelIdeal.Run

/-- A lane's place among its 32. -/
def place : IVec S64 32 :=
  let d : IVec S64 32 := broadcastInDim S64 ![] bcast_S_S64 (select (cmpi .eq (constantI S_ 32 32#32) (constantI S_ 32 0#32)) (constantI S_ 32 1#32) (constantI S_ 32 32#32))
  let r : IVec S64 32 := Host.remsi (iotaInDim S64 32 0) d
  select (andi (cmpi .ne (cmpi .slt r (broadcastInDim S64 ![] bcast_S_S64 (constantI S_ 32 0#32)))
      (broadcastInDim S64 ![] bcast_S_S64 (cmpi .slt (select (cmpi .eq (constantI S_ 32 32#32) (constantI S_ 32 0#32)) (constantI S_ 32 1#32) (constantI S_ 32 32#32)) (constantI S_ 32 0#32))))
      (cmpi .ne r (broadcastInDim S64 ![] bcast_S_S64 (constantI S_ 32 0#32)))) (addi r d) r
/-- The rotation's sign, lane by lane. -/
def sgn : FVec Ideal S64 .f32 :=
  select (cmpi .slt place (broadcastInDim S64 ![] bcast_S_S64 (constantI S_ 32 16#32)))
    (broadcastInDim S64 ![] bcast_S_S64 (constant S_ .f32 0xBF800000#32)) (broadcastInDim S64 ![] bcast_S_S64 (constant S_ .f32 0x3F800000#32))

theorem place_at (l : Fin 64) : place (ix1 l) = BitVec.ofNat 32 (l.val % 32) := by
  unfold place
  pointwise
  revert l; decide +kernel

theorem sgn_at (l : Fin 64) : sgn (ix1 l) = if l.val % 32 < 16 then ((-(1 : ℝ) : ℝ) : EReal) else 1 := by
  unfold sgn
  pointwise
  rw [place_at]
  have h : IntOp.cmpi CmpIPredicate.slt (BitVec.ofNat 32 (l.val % 32)) 16#32 = if l.val % 32 < 16 then 1#1 else 0#1 := by
    revert l; decide +kernel
  rw [h]
  split
  · exact Consts.ofBits_neg_one
  · rfl

/-- The cosines over the lanes of two heads: one on the rows of the context. -/
def ctab (C : FVec Ideal S8192x64 .f32) : FVec Ideal S8448x128 .f32 := fun i =>
  have h0 : (i 0).val < 8448 := (i 0).isLt
  if h : (i 0).val < 256 then 1 else C (ix2 (⟨(i 0).val - 256, by omega⟩ : Fin 8192) (⟨(i 1).val % 64, by omega⟩ : Fin 64))
/-- The signed sines over the lanes of two heads: zero on the rows of the context. -/
def stab (C : FVec Ideal S8192x64 .f32) : FVec Ideal S8448x128 .f32 := fun i =>
  have h0 : (i 0).val < 8448 := (i 0).isLt
  (if h : (i 0).val < 256 then 0 else C (ix2 (⟨(i 0).val - 256, by omega⟩ : Fin 8192) (⟨(i 1).val % 64, by omega⟩ : Fin 64)))
    * (if (i 1).val % 32 < 16 then ((-(1 : ℝ) : ℝ) : EReal) else 1)
/-- The maps' weight from its four rows of parameters and its offset. -/
def lamf (L : FVec Ideal S4x64 .f32) (D : FVec Ideal S_ .f32) : EReal :=
  Ideal.exp (∑ x : Fin 64, L (ix2 0 x) * L (ix2 1 x)) - Ideal.exp (∑ x : Fin 64, L (ix2 2 x) * L (ix2 3 x)) + D ix0
/-- A head's norm weights, scaled by what the maps' offset leaves of one. -/
def gain (G : FVec Ideal S128 .f32) (D : FVec Ideal S_ .f32) (x : Fin 128) : EReal :=
  G (ix1 x) * (Ideal.ofBits .f32 0x3F800000#32 - D ix0)

section

variable (m : (l : Loc nD τ sig) → Buf (Elt Ideal) l) (ρ : Dev nD → PrngReg) (c : Dev nD)

theorem v8_eq : (W4 m ρ c (Proc.devRef .tc main_v8) : FVec Ideal S64 .f32) = sgn := by
  after_results
  rfl
theorem v3_eq : (W4 m ρ c (Proc.devRef .tc main_v3) : FVec Ideal S8448x64 .f32)
    = concatenate S8448x64 0 [⟨S256x64, (broadcastInDim S256x64 ![] bcast_S_S256x64 (constant S_ .f32 0x00000000#32) : FVec Ideal S256x64 .f32)⟩,
        ⟨S8192x64, (m ((c : Thread nD τ).loc main_arg2) : FVec Ideal S8192x64 .f32)⟩] concatenates_S256x64_S8192x64_S8448x64_d0 := by
  after_results

theorem v15_eq : (W5 m ρ c (Proc.devRef .tc main_v15) : FVec Ideal S8448x128 .f32) = ctab (m ((c : Thread nD τ).loc main_arg1)) := by
  funext i
  idx_vars i
  after_results
  pointwise [ctab]
theorem v18_eq : (W5 m ρ c (Proc.devRef .tc main_v18) : FVec Ideal S8448x128 .f32) = stab (m ((c : Thread nD τ).loc main_arg2)) := by
  have e := v8_eq m ρ c
  have e3 := v3_eq m ρ c
  show StableHlo.after hostOps0_4 (W4 m ρ c) (Proc.devRef .tc main_v18) = _
  generalize W4 m ρ c = w at e e3
  funext i
  idx_vars i
  after_results
  rw [e, e3]
  pointwise [stab]
  have hs : sgn (ix1 (⟨i1.val % 64, by omega⟩ : Fin 64)) = if i1.val % 32 < 16 then ((-(1 : ℝ) : ℝ) : EReal) else 1 := by
    rw [sgn_at, show (⟨i1.val % 64, by omega⟩ : Fin 64).val % 32 = i1.val % 32 from by show i1.val % 64 % 32 = _; omega]
  exact congrArg (fun z : EReal => (_ : EReal) * z) hs

theorem v36_eq : (W7 m ρ c (Proc.devRef .tc main_v36) : FVec Ideal S1x1 .f32) (ix2 0 0) = lamf (m ((c : Thread nD τ).loc main_arg3)) (m ((c : Thread nD τ).loc main_arg5)) := by
  have e := W6_args m ρ c main_arg3 (by decide)
  have e5 := W6_args m ρ c main_arg5 (by decide)
  show StableHlo.after hostOps1 (W6 m ρ c) (Proc.devRef .tc main_v36) (ix2 0 0) = _
  generalize W6 m ρ c = w at e e5
  after_results
  rw [e, e5]
  pointwise [lamf]
theorem v40_eq (x : Fin 128) : (W7 m ρ c (Proc.devRef .tc main_v40) : FVec Ideal S128x1 .f32) (ix2 x 0)
    = gain (m ((c : Thread nD τ).loc main_arg4)) (m ((c : Thread nD τ).loc main_arg5)) x := by
  have e := W6_args m ρ c main_arg4 (by decide)
  have e5 := W6_args m ρ c main_arg5 (by decide)
  show StableHlo.after hostOps1 (W6 m ρ c) (Proc.devRef .tc main_v40) (ix2 x 0) = _
  generalize W6 m ρ c = w at e e5
  after_results
  rw [e, e5]
  pointwise [gain]

end

end Cert.Value

end
-- ==== Proof.Value.Arrays.lean ====
module

public import proofs.«01_k».proof.Proof.KernelIdeal.Region0
public import proofs.«01_k».proof.Proof.Math.Combine
public import proofs.«01_k».proof.Proof.Value.Tiles
public import Idealize.ShloMosaic.Lib.Pointwise
public import Idealize.ShloMosaic.Lib.Pipeline.ValueKit

@[expose] public section

set_option maxRecDepth 16384

noncomputable section

namespace Cert.Value

open Cert.KernelIdeal Cert.KernelIdeal.Gen
open Idealize.ShloMosaic Idealize.ShloMosaic.TcCoe Idealize.SL.Sem

/-! # What the rotation leaves in its arrays -/

open Idealize.ShloMosaic.Pipeline (Dat)

/-- The rotated keys' array. -/
def karr (P : FVec Ideal S8448x4096 .f32) (cs sn : FVec Ideal S8448x128 .f32) : FVec Ideal S8448x1024 .bf16 := fun i =>
  have hl : (i 1).val < 1024 := (i 1).isLt
  P (ix2 (i 0) (⟨1024 + (i 1).val, by omega⟩ : Fin 4096)) * cs (ix2 (i 0) (⟨(i 1).val % 128, by omega⟩ : Fin 128))
    + P (ix2 (i 0) (⟨1024 + oth (i 1).val, by have := oth_lt (n := 32) hl; omega⟩ : Fin 4096)) * sn (ix2 (i 0) (⟨(i 1).val % 128, by omega⟩ : Fin 128))
/-- The rotated and scaled queries' array. -/
def qarr (P : FVec Ideal S8448x4096 .f32) (cs sn : FVec Ideal S8448x128 .f32) : FVec Ideal S8448x1024 .bf16 := fun i =>
  have hl : (i 1).val < 1024 := (i 1).isLt
  (P (ix2 (i 0) (⟨(i 1).val, by omega⟩ : Fin 4096)) * cs (ix2 (i 0) (⟨(i 1).val % 128, by omega⟩ : Fin 128))
    + P (ix2 (i 0) (⟨oth (i 1).val, by have := oth_lt (n := 32) hl; omega⟩ : Fin 4096)) * sn (ix2 (i 0) (⟨(i 1).val % 128, by omega⟩ : Fin 128)))
    * (((8 * (Real.log 2))⁻¹ : ℝ) : EReal)
/-- The transposed values' array. -/
def varr (P : FVec Ideal S8448x4096 .f32) : FVec Ideal S8x144x8448 .bf16 := fun i =>
  have h0 : (i 0).val < 8 := (i 0).isLt
  if he : (i 1).val < 128 then P (ix2 (i 2) (⟨2048 + 128 * (i 0).val + (i 1).val, by omega⟩ : Fin 4096)) else 1

theorem idx0 : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0, t.val] :=
  (by decide +kernel : ∀ t : Fin grid0.N, _)

section

variable (V : (c : Dev nD) → (b : Ref sig .tc) → Buf (Elt Ideal) ((c : Thread nD τ).loc b)) (c : Dev nD)

theorem xblk_at (t : Fin cfg0.N) (y : (cfg0.win 0).block.Idx) (r : Fin 8448) (l : Fin 4096)
    (hr : r.val = 256 * t.val + (y 0).val) (hl : l.val = (y 1).val) :
    Reg0.xblk V c t y = (V c main_arg0 : FVec Ideal S8448x4096 .f32) (ix2 r l) := by
  unfold Reg0.xblk Pipeline.Window.fill
  rw [dif_pos (Reg0.moved_all t y)]
  blk_point [Reg0.iblk, idx0 t]

theorem cs_at (t : Fin cfg0.N) (y : S256x128.Idx) (r : Fin 8448) (l : Fin 128)
    (hr : r.val = 256 * t.val + (y 0).val) (hl : l.val = (y 1).val) :
    (Reg0.iblk V c 1 t : FVec Ideal S256x128 .f32) y = (V c main_v15 : FVec Ideal S8448x128 .f32) (ix2 r l) := by
  blk_point [Reg0.iblk, idx0 t]
theorem sn_at (t : Fin cfg0.N) (y : S256x128.Idx) (r : Fin 8448) (l : Fin 128)
    (hr : r.val = 256 * t.val + (y 0).val) (hl : l.val = (y 1).val) :
    (Reg0.iblk V c 2 t : FVec Ideal S256x128 .f32) y = (V c main_v18 : FVec Ideal S8448x128 .f32) (ix2 r l) := by
  blk_point [Reg0.iblk, idx0 t]

theorem N0 (t : Fin cfg0.N) : t.val < 33 := lt_of_lt_of_eq t.isLt (by decide +kernel)

theorem q_point (t : Fin cfg0.N) (r : Fin 256) (l : Fin 1024) :
    Rope.qBlk (F := Ideal) (Reg0.xblk V c t) (Reg0.iblk V c 1 t) (Reg0.iblk V c 2 t) (ix2 r l)
      = qarr (V c main_arg0) (V c main_v15) (V c main_v18) (ix2 (⟨256 * t.val + r.val, by have := N0 t; omega⟩ : Fin 8448) l) := by
  refine (qBlk_at _ _ _ r l).trans ?_
  refine Ideal.mul_congr (Ideal.add_congr (Ideal.mul_congr ?_ ?_) (Ideal.mul_congr ?_ ?_)) rfl
  · exact xblk_at V c t _ _ _ rfl rfl
  · exact cs_at V c t _ _ _ rfl rfl
  · exact xblk_at V c t _ _ _ rfl rfl
  · exact sn_at V c t _ _ _ rfl rfl
theorem k_point (t : Fin cfg0.N) (r : Fin 256) (l : Fin 1024) :
    Rope.kBlk (F := Ideal) (Reg0.xblk V c t) (Reg0.iblk V c 1 t) (Reg0.iblk V c 2 t) (ix2 r l)
      = karr (V c main_arg0) (V c main_v15) (V c main_v18) (ix2 (⟨256 * t.val + r.val, by have := N0 t; omega⟩ : Fin 8448) l) := by
  refine (kBlk_at _ _ _ r l).trans ?_
  refine Ideal.add_congr (Ideal.mul_congr ?_ ?_) (Ideal.mul_congr ?_ ?_)
  · exact xblk_at V c t _ _ _ rfl rfl
  · exact cs_at V c t _ _ _ rfl rfl
  · exact xblk_at V c t _ _ _ rfl rfl
  · exact sn_at V c t _ _ _ rfl rfl
theorem v_point (t : Fin cfg0.N) (h : Fin 8) (e : Fin 144) (r : Fin 256) :
    Rope.vBlk (F := Ideal) (Reg0.xblk V c t) (ix3 h e r)
      = varr (V c main_arg0) (ix3 h e (⟨256 * t.val + r.val, by have := N0 t; omega⟩ : Fin 8448)) := by
  by_cases he : e.val < 128
  · refine (vBlk_at _ h e he r).trans (Eq.trans ?_ (dif_pos he).symm)
    exact xblk_at V c t _ _ _ rfl rfl
  · exact (vBlk_one _ h e he r).trans (Eq.symm (by unfold varr; exact dif_neg he))

theorem q_arr : (Reg0.dat V c).arrAt 3 cfg0.N = qarr (V c main_arg0) (V c main_v15) (V c main_v18) := by
  refine Dat.arrAt_eq_of_covers (Reg0.dat V c) 3 _ (by decide +kernel) fun t _ y => ?_
  blk_simp
  rw [Reg0.after_3]
  have h0 : (y 0).val < 256 := (y 0).isLt
  have h1 : (y 1).val < 1024 := (y 1).isLt
  have hy : y = (ix2 (⟨(y 0).val, h0⟩ : Fin 256) (⟨(y 1).val, h1⟩ : Fin 1024) : S256x1024.Idx) := idx_eq2 rfl rfl
  refine (congrArg _ hy).trans ((q_point V c t _ _).trans (congrArg _ (idx_eq2 ?_ ?_)))
  all_goals (blk_simp [idx0 t] <;> first | omega | (show 256 * t.val + (y 0).val = t.val * 256 + (y 0).val; omega))
theorem k_arr : (Reg0.dat V c).arrAt 4 cfg0.N = karr (V c main_arg0) (V c main_v15) (V c main_v18) := by
  refine Dat.arrAt_eq_of_covers (Reg0.dat V c) 4 _ (by decide +kernel) fun t _ y => ?_
  blk_simp
  rw [Reg0.after_4]
  have h0 : (y 0).val < 256 := (y 0).isLt
  have h1 : (y 1).val < 1024 := (y 1).isLt
  have hy : y = (ix2 (⟨(y 0).val, h0⟩ : Fin 256) (⟨(y 1).val, h1⟩ : Fin 1024) : S256x1024.Idx) := idx_eq2 rfl rfl
  refine (congrArg _ hy).trans ((k_point V c t _ _).trans (congrArg _ (idx_eq2 ?_ ?_)))
  all_goals (blk_simp [idx0 t] <;> first | omega | (show 256 * t.val + (y 0).val = t.val * 256 + (y 0).val; omega))
theorem v_arr : (Reg0.dat V c).arrAt 5 cfg0.N = varr (V c main_arg0) := by
  refine Dat.arrAt_eq_of_covers (Reg0.dat V c) 5 _ (by decide +kernel) fun t _ y => ?_
  blk_simp
  rw [Reg0.after_5]
  have h0 : (y 0).val < 8 := (y 0).isLt
  have h1 : (y 1).val < 144 := (y 1).isLt
  have h2 : (y 2).val < 256 := (y 2).isLt
  have hy : y = (ix3 (⟨(y 0).val, h0⟩ : Fin 8) (⟨(y 1).val, h1⟩ : Fin 144) (⟨(y 2).val, h2⟩ : Fin 256) : S8x144x256.Idx) := idx_eq3 rfl rfl rfl
  refine (congrArg _ hy).trans ((v_point V c t _ _ _).trans (congrArg _ (idx_eq3 ?_ ?_ ?_)))
  all_goals (blk_simp [idx0 t] <;> first | omega | (show 256 * t.val + (y 2).val = t.val * 256 + (y 2).val; omega))

end

end Cert.Value

end
-- ==== Proof.Value.Scores.lean ====
module

public import proofs.«01_k».proof.Proof.Math.Rope
public import proofs.«01_k».proof.Proof.Value.Host
public import proofs.«01_k».proof.Proof.Value.Arrays

@[expose] public section

set_option maxRecDepth 16384

noncomputable section

namespace Cert.Value

open Cert.KernelIdeal Cert.KernelIdeal.Gen
open Idealize.ShloMosaic Idealize.ShloMosaic.TcCoe Idealize.SL.Sem

/-! # The kernel's scores are the rotated queries' and keys' -/

variable (P : FVec Ideal S8448x4096 .f32) (C S : FVec Ideal S8192x64 .f32)

theorem neg_one_mul (x : EReal) : x * ((-(1 : ℝ) : ℝ) : EReal) = -x := by
  rw [EReal.coe_neg, EReal.coe_one, mul_neg, mul_one]

/-- The other lane times the signed sine is the signed other lane times the sine. -/
theorem sign_move (x s : EReal) (p : Prop) [Decidable p] :
    x * (s * (if p then ((-(1 : ℝ) : ℝ) : EReal) else 1)) = (if p then -x else x) * s := by
  split
  · rw [neg_one_mul, mul_neg, neg_mul]
  · rw [mul_one]

theorem qarr_apply (cs sn : FVec Ideal S8448x128 .f32) (r : Fin 8448) (c : Fin 1024) :
    qarr P cs sn (ix2 r c) = (P (ix2 r (⟨c.val, by omega⟩ : Fin 4096)) * cs (ix2 r (⟨c.val % 128, by omega⟩ : Fin 128))
      + P (ix2 r (⟨oth c.val, by have := oth_lt (n := 32) c.isLt; omega⟩ : Fin 4096)) * sn (ix2 r (⟨c.val % 128, by omega⟩ : Fin 128)))
      * (((8 * (Real.log 2))⁻¹ : ℝ) : EReal) := rfl
theorem karr_apply (cs sn : FVec Ideal S8448x128 .f32) (r : Fin 8448) (c : Fin 1024) :
    karr P cs sn (ix2 r c) = P (ix2 r (⟨1024 + c.val, by omega⟩ : Fin 4096)) * cs (ix2 r (⟨c.val % 128, by omega⟩ : Fin 128))
      + P (ix2 r (⟨1024 + oth c.val, by have := oth_lt (n := 32) c.isLt; omega⟩ : Fin 4096)) * sn (ix2 r (⟨c.val % 128, by omega⟩ : Fin 128)) := rfl
theorem ctab_apply (r : Fin 8448) (l : Fin 128) :
    ctab C (ix2 r l) = if h : r.val < 256 then 1 else C (ix2 (⟨r.val - 256, by omega⟩ : Fin 8192) (⟨l.val % 64, by omega⟩ : Fin 64)) := rfl
theorem stab_apply (r : Fin 8448) (l : Fin 128) :
    stab S (ix2 r l) = (if h : r.val < 256 then 0 else S (ix2 (⟨r.val - 256, by omega⟩ : Fin 8192) (⟨l.val % 64, by omega⟩ : Fin 64)))
      * (if l.val % 32 < 16 then ((-(1 : ℝ) : ℝ) : EReal) else 1) := rfl

/-- The kernel's query is the rotated one, scaled. -/
theorem qarr_at (t : Fin 8192) (c : Fin 1024) :
    qarr P (ctab C) (stab S) (ix2 (⟨256 + t.val, by omega⟩ : Fin 8448) c)
      = Rope.qx (fun r l => P (ix2 r l)) (fun r l => C (ix2 r l)) (fun r l => S (ix2 r l)) t c * (((8 * (Real.log 2))⁻¹ : ℝ) : EReal) := by
  have hc := c.isLt
  have hT : ∀ (T : FVec Ideal S8192x64 .f32) (a b : Fin 8192) (x y : Fin 64), a.val = b.val → x.val = y.val → T (ix2 a x) = T (ix2 b y) :=
    fun T a b x y h h' => by rw [Fin.ext h, Fin.ext h']
  have hr : ¬ 256 + t.val < 256 := by omega
  rw [qarr_apply, ctab_apply, stab_apply]
  unfold Rope.qx
  refine Ideal.mul_congr (Ideal.add_congr (Ideal.mul_congr rfl ?_) ?_) rfl
  · refine (dif_neg hr).trans (hT C _ _ _ _ ?_ ?_)
    · show 256 + t.val - 256 = t.val; omega
    · show c.val % 128 % 64 = c.val % 64; omega
  · refine (Ideal.mul_congr rfl (Ideal.mul_congr ((dif_neg hr).trans (hT S _ t _ (⟨c.val % 64, by omega⟩ : Fin 64) ?_ ?_)) rfl)).trans ((sign_move _ _ _).trans (Ideal.mul_congr ?_ rfl))
    · show 256 + t.val - 256 = t.val; omega
    · show c.val % 128 % 64 = c.val % 64; omega
    · have hP : ∀ (a b : Fin 4096), a.val = b.val → P (ix2 (⟨256 + t.val, by omega⟩ : Fin 8448) a) = P (ix2 (⟨256 + t.val, by omega⟩ : Fin 8448) b) := fun a b h => by rw [Fin.ext h]
      by_cases h : c.val % 32 < 16
      · rw [dif_pos h, if_pos (show c.val % 128 % 32 < 16 by omega)]
        exact congrArg Neg.neg (hP _ _ (by show oth c.val = c.val + 16; unfold oth; rw [if_pos h]))
      · rw [dif_neg h, if_neg (show ¬ c.val % 128 % 32 < 16 by omega)]
        exact hP _ _ (by show oth c.val = c.val - 16; unfold oth; rw [if_neg h])

/-- The kernel's key is the rotated one. -/
theorem karr_at (r : Fin 8448) (c : Fin 1024) :
    karr P (ctab C) (stab S) (ix2 r c)
      = Rope.kx (fun r l => P (ix2 r l)) (fun r l => C (ix2 r l)) (fun r l => S (ix2 r l)) r c := by
  have hc := c.isLt
  have hT : ∀ (T : FVec Ideal S8192x64 .f32) (a b : Fin 8192) (x y : Fin 64), a.val = b.val → x.val = y.val → T (ix2 a x) = T (ix2 b y) :=
    fun T a b x y h h' => by rw [Fin.ext h, Fin.ext h']
  rw [karr_apply, ctab_apply, stab_apply]
  unfold Rope.kx
  by_cases hr : r.val < 256
  · refine (Ideal.add_congr (Ideal.mul_congr rfl (dif_pos hr)) (Ideal.mul_congr rfl (Ideal.mul_congr (dif_pos hr) rfl))).trans ?_
    rw [dif_pos hr, mul_one, zero_mul, mul_zero, add_zero]
  have hP : ∀ (a b : Fin 4096), a.val = b.val → P (ix2 r a) = P (ix2 (⟨256 + (r.val - 256), by omega⟩ : Fin 8448) b) := fun a b h => by
    rw [Fin.ext h, show (⟨256 + (r.val - 256), by omega⟩ : Fin 8448) = r from Fin.ext (by show 256 + (r.val - 256) = r.val; omega)]
  refine Eq.trans ?_ (dif_neg hr).symm
  unfold Rope.kr
  refine Ideal.add_congr (Ideal.mul_congr (hP _ _ rfl) ?_) ?_
  · refine (dif_neg hr).trans (hT C _ _ _ _ rfl ?_)
    show c.val % 128 % 64 = c.val % 64; omega
  · refine (Ideal.mul_congr rfl (Ideal.mul_congr ((dif_neg hr).trans (hT S _ (⟨r.val - 256, by omega⟩ : Fin 8192) _ (⟨c.val % 64, by omega⟩ : Fin 64) rfl ?_)) rfl)).trans ((sign_move _ _ _).trans (Ideal.mul_congr ?_ rfl))
    · show c.val % 128 % 64 = c.val % 64; omega
    · by_cases h : c.val % 32 < 16
      · rw [dif_pos h, if_pos (show c.val % 128 % 32 < 16 by omega)]
        exact congrArg Neg.neg (hP _ _ (by show 1024 + oth c.val = 1024 + (c.val + 16); unfold oth; rw [if_pos h]))
      · rw [dif_neg h, if_neg (show ¬ c.val % 128 % 32 < 16 by omega)]
        exact hP _ _ (by show 1024 + oth c.val = 1024 + (c.val - 16); unfold oth; rw [if_neg h])

/-- A sum over the lanes of two heads of which only one head's count. -/
theorem lanes_sum (f : Fin 128 → EReal) (b : ℕ) (hb : b < 2) (hf : ∀ l : Fin 128, l.val / 64 ≠ b → f l = 0) :
    ∑ l, f l = ∑ d : Fin 64, f ⟨64 * b + d.val, by omega⟩ := by
  symm
  refine Finset.sum_of_injOn (fun d : Fin 64 => (⟨64 * b + d.val, by omega⟩ : Fin 128)) ?_ (fun _ _ => Finset.mem_univ _) ?_ (fun _ _ => rfl)
  · intro x _ y _ h
    have := congrArg Fin.val h
    exact Fin.ext (by dsimp only at this; omega)
  · intro l _ hl
    refine hf l fun h => hl ⟨⟨l.val % 64, by omega⟩, Finset.mem_univ _, Fin.ext ?_⟩
    show 64 * b + l.val % 64 = l.val
    omega

/-- The kernel's score is the rotated queries' and keys', in base two. -/
theorem laneScore_eq (u : Fin 2) (h : Fin 8) (R : Fin 8192) (n : Fin 8448) :
    laneScore (qarr P (ctab C) (stab S)) (karr P (ctab C) (stab S)) u h R n
      = (((Real.log 2)⁻¹ : ℝ) : EReal) * Rope.sc (fun r l => P (ix2 r l)) (fun r l => C (ix2 r l)) (fun r l => S (ix2 r l)) u h R n := by
  have hh := h.isLt
  have hu := u.isLt
  unfold laneScore
  rw [lanes_sum _ (h.val % 2) (by omega) (fun l hl => by rw [if_neg hl, mul_zero])]
  have hk : (((8 * (Real.log 2))⁻¹ : ℝ) : EReal) = (((Real.log 2)⁻¹ : ℝ) : EReal) * ((1 / 8 : ℝ) : EReal) := by
    rw [← EReal.coe_mul]; congr 1; rw [mul_inv]; ring
  have hpos : 0 < (8 * Real.log 2)⁻¹ := inv_pos.mpr (mul_pos (by norm_num) (Real.log_pos one_lt_two))
  unfold Rope.sc
  rw [mul_comm (∑ d : Fin 64, _) ((1 / 8 : ℝ) : EReal), ← mul_assoc, ← hk, Softmax.mul_sum_pos hpos]
  refine Finset.sum_congr rfl fun d _ => ?_
  rw [if_pos (show (64 * (h.val % 2) + d.val) / 64 = h.val % 2 by omega), karr_at, qarr_at]
  have e : (⟨128 * (4 * u.val + h.val / 2) + (64 * (h.val % 2) + d.val), by omega⟩ : Fin 1024) = ⟨512 * u.val + 64 * h.val + d.val, by omega⟩ :=
    Fin.ext (by show 128 * (4 * u.val + h.val / 2) + (64 * (h.val % 2) + d.val) = 512 * u.val + 64 * h.val + d.val; omega)
  rw [e, mul_comm, mul_comm (Rope.qx _ _ _ _ _), mul_assoc]

/-- The kernel's weight of a key. -/
theorem wgt_eq (u : Fin 2) (h : Fin 8) (R : Fin 8192) :
    wgt (laneScore (qarr P (ctab C) (stab S)) (karr P (ctab C) (stab S)) u h R)
      = Rope.wt (fun r l => P (ix2 r l)) (fun r l => C (ix2 r l)) (fun r l => S (ix2 r l)) u h R := by
  have e : laneScore (qarr P (ctab C) (stab S)) (karr P (ctab C) (stab S)) u h R = fun n => (((Real.log 2)⁻¹ : ℝ) : EReal) * Rope.sc (fun r l => P (ix2 r l)) (fun r l => C (ix2 r l)) (fun r l => S (ix2 r l)) u h R n :=
    funext fun n => laneScore_eq P C S u h R n
  funext n
  rw [e]
  rfl

end Cert.Value

end
-- ==== Proof.Value.Result.lean ====
module

public import proofs.«01_k».proof.Proof.Value.Scores
public import proofs.«01_k».proof.Proof.Value.AttnArray

@[expose] public section

set_option maxRecDepth 16384

noncomputable section

namespace Cert.Value

open Cert.KernelIdeal Cert.KernelIdeal.Gen Cert.KernelIdeal.Run
open Idealize.ShloMosaic Idealize.ShloMosaic.TcCoe Idealize.SL.Sem

/-! # What the kernel's two calls end holding -/

/-- The maps' weight is a real number when its parameters are. -/
theorem lamf_real (L : FVec Ideal S4x64 .f32) (D : FVec Ideal S_ .f32) (h : ∀ (r : Fin 4) (c : Fin 64), ∃ x : ℝ, L (ix2 r c) = (x : EReal))
    (hD : ∃ x : ℝ, D ix0 = (x : EReal)) : ∃ r : ℝ, lamf L D = (r : EReal) := by
  choose l hl using h
  obtain ⟨k, hk⟩ := hD
  have hs : ∀ a b : Fin 4, (∑ x : Fin 64, L (ix2 a x) * L (ix2 b x)) = ((∑ x : Fin 64, l a x * l b x : ℝ) : EReal) := fun a b => by
    rw [Softmax.coe_sum]
    exact Finset.sum_congr rfl fun x _ => by rw [hl, hl, EReal.coe_mul]
  refine ⟨Real.exp (∑ x : Fin 64, l 0 x * l 1 x) - Real.exp (∑ x : Fin 64, l 2 x * l 3 x) + k, ?_⟩
  unfold lamf
  rw [hs, hs, hk, Softmax.exp_coe, Softmax.exp_coe, EReal.coe_add, EReal.coe_sub]

variable (m : (l : Loc nD τ sig) → Buf (Elt Ideal) l) (ρ : Dev nD → PrngReg) (c : Dev nD)

theorem q_eq : (V7 m ρ c main_v19_0 : FVec Ideal S8448x1024 .bf16)
    = qarr (m ((c : Thread nD τ).loc main_arg0)) (ctab (m ((c : Thread nD τ).loc main_arg1))) (stab (m ((c : Thread nD τ).loc main_arg2))) := by
  refine (W7_of m ρ c main_v19_0 (by decide)).trans ((W6_arr m ρ c 3).trans ((q_arr (V5 m ρ) c).trans ?_))
  rw [show (V5 m ρ c main_arg0) = m ((c : Thread nD τ).loc main_arg0) from W5_args m ρ c main_arg0 (by decide)]
  exact congrArg₂ (qarr _) (v15_eq m ρ c) (v18_eq m ρ c)
theorem k_eq : (V7 m ρ c main_v19_1 : FVec Ideal S8448x1024 .bf16)
    = karr (m ((c : Thread nD τ).loc main_arg0)) (ctab (m ((c : Thread nD τ).loc main_arg1))) (stab (m ((c : Thread nD τ).loc main_arg2))) := by
  refine (W7_of m ρ c main_v19_1 (by decide)).trans ((W6_arr m ρ c 4).trans ((k_arr (V5 m ρ) c).trans ?_))
  rw [show (V5 m ρ c main_arg0) = m ((c : Thread nD τ).loc main_arg0) from W5_args m ρ c main_arg0 (by decide)]
  exact congrArg₂ (karr _) (v15_eq m ρ c) (v18_eq m ρ c)
theorem v_eq : (V7 m ρ c main_v19_2 : FVec Ideal S8x144x8448 .bf16) = varr (m ((c : Thread nD τ).loc main_arg0)) := by
  refine (W7_of m ρ c main_v19_2 (by decide)).trans ((W6_arr m ρ c 5).trans ((v_arr (V5 m ρ) c).trans ?_))
  rw [show (V5 m ρ c main_arg0) = m ((c : Thread nD τ).loc main_arg0) from W5_args m ρ c main_arg0 (by decide)]

/-- The result at a row and a column: the two maps' normalized outputs combined, normed and scaled. -/
theorem result_at (P : FVec Ideal S8448x4096 .f32) (C S : FVec Ideal S8192x64 .f32) (L : FVec Ideal S4x64 .f32) (G : FVec Ideal S128 .f32) (D : FVec Ideal S_ .f32)
    (hP : m ((c : Thread nD τ).loc main_arg0) = P) (hC : m ((c : Thread nD τ).loc main_arg1) = C) (hS : m ((c : Thread nD τ).loc main_arg2) = S)
    (hL : m ((c : Thread nD τ).loc main_arg3) = L) (hG : m ((c : Thread nD τ).loc main_arg4) = G) (hD : m ((c : Thread nD τ).loc main_arg5) = D)
    (lam : ℝ) (hlam : lamf L D = (lam : EReal)) (vr : Fin 8 → Fin 8448 → Fin 128 → ℝ)
    (hv : ∀ h n (e : Fin 128), P (ix2 n (⟨2048 + 128 * h.val + e.val, by omega⟩ : Fin 4096)) = ((vr h n e : ℝ) : EReal))
    (t : Fin 8192) (x : Fin 1024) :
    ((Reg1.dat (V7 m ρ) c).arrAt 7 cfg1.N : FVec Ideal S8192x1024 .bf16) (ix2 t x)
      = Combine.normOut (Combine.after (Rope.wt (fun r l => P (ix2 r l)) (fun r l => C (ix2 r l)) (fun r l => S (ix2 r l)) 0 (⟨x.val / 128, by omega⟩ : Fin 8) t)
          (Rope.wt (fun r l => P (ix2 r l)) (fun r l => C (ix2 r l)) (fun r l => S (ix2 r l)) 1 (⟨x.val / 128, by omega⟩ : Fin 8) t)
          (vr (⟨x.val / 128, by omega⟩ : Fin 8)) lam) (⟨x.val % 128, by omega⟩ : Fin 128)
        * gain G D (⟨x.val % 128, by omega⟩ : Fin 128) := by
  have hval := v_eq m ρ c
  have h36 : (V7 m ρ c main_v36 : FVec Ideal S1x1 .f32) (ix2 0 0) = (lam : EReal) := (v36_eq m ρ c).trans ((congrArg₂ lamf hL hD).trans hlam)
  have e := o_arr (V7 m ρ) c lam h36 vr
    (fun h n e => (congrFun hval _).trans (by
      rw [hP]; show (if he : e.val < 128 then P (ix2 n (⟨2048 + 128 * h.val + e.val, by omega⟩ : Fin 4096)) else 1) = _
      rw [dif_pos e.isLt, hv]))
    (fun h n => (congrFun hval _).trans (by unfold varr; exact dif_neg (by show ¬ 128 < 128; omega)))
  rw [q_eq, k_eq, hP, hC, hS] at e
  refine (congrFun e (ix2 t x)).trans ?_
  unfold oarr
  refine Ideal.mul_congr ?_ ((v40_eq m ρ c _).trans (congrArg₂ (gain · · _) hG hD))
  exact congrArg₂ (fun a b => Combine.normOut (Combine.after a b (vr (⟨x.val / 128, by omega⟩ : Fin 8)) lam) (⟨x.val % 128, by omega⟩ : Fin 128))
    (wgt_eq P C S 0 (⟨x.val / 128, by omega⟩ : Fin 8) t) (wgt_eq P C S 1 (⟨x.val / 128, by omega⟩ : Fin 8) t)

end Cert.Value

end
-- ==== Proof.Value.Ref.lean ====
module

public import proofs.«01_k».proof.Proof.Gen.ReferenceIdeal
public import proofs.«01_k».proof.Proof.Gen.ReferenceIdeal.Read
public import proofs.«01_k».proof.Proof.Math.Rope
public import proofs.«01_k».proof.Proof.Math.Combine
public import Idealize.ShloMosaic.Lib.Pointwise
public import Idealize.ShloMosaic.Lib.Pipeline.ValueKit

@[expose] public section

set_option maxRecDepth 16384

noncomputable section

namespace Cert.ReferenceIdeal.At

open Cert.ReferenceIdeal Cert.ReferenceIdeal.Gen Cert.ReferenceIdeal.Read
open Idealize.ShloMosaic Idealize.SL.Sem

/-! # The reference, element by element -/

variable (P : FVec Ideal S8448x4096 .f32) (C S : FVec Ideal S8192x64 .f32) (L : FVec Ideal S4x64 .f32) (G : FVec Ideal S128 .f32) (D : FVec Ideal S_ .f32)

/-- A rotated query. -/
theorem q_at (t : Fin 8192) (u : Fin 2) (h : Fin 8) (d : Fin 64) :
    (val_main_v15 (F := Ideal) P C S (ix4 t u h d) : EReal) = Rope.qx (fun r l => P (ix2 r l)) (fun r l => C (ix2 r l)) (fun r l => S (ix2 r l)) t (⟨512 * u.val + 64 * h.val + d.val, by omega⟩ : Fin 1024) := by
  have hP : ∀ (a b : Fin 4096), a.val = b.val → P (ix2 (⟨256 + t.val, by omega⟩ : Fin 8448) a) = P (ix2 (⟨256 + t.val, by omega⟩ : Fin 8448) b) := fun a b h => by rw [Fin.ext h]
  pointwise [val_main_v15, val_main_v14, val_main_v13, val_main_v12, val_main_v11, val_main_v10, val_main_v9, val_main_v8, val_main_v7, val_main_v6, val_main_v5, val_main_v4, val_main_v3, val_main_v2, val_main_v1, val_main_v0]
  unfold Rope.qx
  refine Ideal.add_congr (Ideal.mul_congr (hP _ _ (by show u.val * 512 + h.val * 64 + d.val = 512 * u.val + 64 * h.val + d.val; omega)) (congrArg (fun l => C (ix2 t l)) (Fin.ext (by show d.val = (512 * u.val + 64 * h.val + d.val) % 64; omega))))
    (Ideal.mul_congr ?_ (congrArg (fun l => S (ix2 t l)) (Fin.ext (by show d.val = (512 * u.val + 64 * h.val + d.val) % 64; omega))))
  dsimp only
  by_cases hs : (512 * u.val + 64 * h.val + d.val) % 32 < 16
  · rw [dif_pos hs]
    split_ifs <;> first | (exfalso; omega) | exact congrArg Neg.neg (hP _ _ (by dsimp only; omega))
  · rw [dif_neg hs]
    split_ifs <;> first | (exfalso; omega) | exact hP _ _ (by dsimp only; omega)
set_option maxHeartbeats 2000000 in
/-- A rotated key, by its row below the context. -/
theorem kr_at (t : Fin 8192) (u : Fin 2) (h : Fin 8) (d : Fin 64) :
    (val_main_v34 (F := Ideal) P C S (ix4 t u h d) : EReal) = Rope.kr (fun r l => P (ix2 r l)) (fun r l => C (ix2 r l)) (fun r l => S (ix2 r l)) t (⟨512 * u.val + 64 * h.val + d.val, by omega⟩ : Fin 1024) := by
  pointwise [val_main_v34, val_main_v33, val_main_v32, val_main_v31, val_main_v30, val_main_v29, val_main_v28, val_main_v27, val_main_v26, val_main_v25, val_main_v24, val_main_v23, val_main_v22, val_main_v21, val_main_v20, val_main_v19, val_main_v16]
  unfold Rope.kr
  obtain ⟨g, hg⟩ : ∃ g : ℕ → EReal, ∀ a : Fin 4096, P (ix2 (⟨256 + t.val, by omega⟩ : Fin 8448) a) = g a.val :=
    ⟨fun a => if h : a < 4096 then P (ix2 (⟨256 + t.val, by omega⟩ : Fin 8448) ⟨a, h⟩) else 0, fun a => by dsimp only; rw [dif_pos a.isLt]⟩
  simp only [hg]
  have hd : (512 * u.val + 64 * h.val + d.val) % 64 = d.val := by omega
  refine Ideal.add_congr (Ideal.mul_congr (congrArg g (by omega)) (congrArg (fun l => C (ix2 t l)) (Fin.ext hd.symm)))
    (Ideal.mul_congr ?_ (congrArg (fun l => S (ix2 t l)) (Fin.ext hd.symm)))
  by_cases hs : (512 * u.val + 64 * h.val + d.val) % 32 < 16
  · rw [dif_pos hs]
    split_ifs <;> first | (exfalso; omega) | exact congrArg (fun a => -g a) (by omega)
  · rw [dif_neg hs]
    split_ifs <;> first | (exfalso; omega) | exact congrArg g (by omega)
/-- A key: rotated below the context, as given on the context's rows. -/
theorem k_at (r : Fin 8448) (u : Fin 2) (h : Fin 8) (d : Fin 64) :
    (val_main_v35 (F := Ideal) P C S (ix4 r u h d) : EReal) = Rope.kx (fun r l => P (ix2 r l)) (fun r l => C (ix2 r l)) (fun r l => S (ix2 r l)) r (⟨512 * u.val + 64 * h.val + d.val, by omega⟩ : Fin 1024) := by
  pointwise [val_main_v35, val_main_v18, val_main_v17, val_main_v16]
  unfold Rope.kx
  by_cases hr : r.val < 256
  · rw [dif_pos hr, dif_pos hr]
    exact congrArg (fun l => P (ix2 r l)) (Fin.ext (by show 1024 + (u.val * 512 + h.val * 64 + d.val) = 1024 + (512 * u.val + 64 * h.val + d.val); omega))
  rw [dif_neg hr, dif_neg hr]
  exact kr_at P C S _ u h d
/-- A value. -/
theorem v37_at (r : Fin 8448) (h : Fin 8) (e : Fin 128) :
    (val_main_v37 (F := Ideal) P (ix3 r h e) : EReal) = P (ix2 r (⟨2048 + 128 * h.val + e.val, by omega⟩ : Fin 4096)) := by
  pointwise [val_main_v37, val_main_v36]
  exact congrArg (fun l => P (ix2 r l)) (Fin.ext (by dsimp only <;> omega))
/-- The maps' weight. -/
theorem v53_at (i : S_.Idx) :
    (val_main_v53 (F := Ideal) L D i : EReal) = Ideal.exp (∑ x : Fin 64, L (ix2 0 x) * L (ix2 1 x)) - Ideal.exp (∑ x : Fin 64, L (ix2 2 x) * L (ix2 3 x)) + D ix0 := by
  pointwise [val_main_v53, val_main_v52, val_main_v51, val_main_v50, val_main_v49, val_main_v48, val_main_v47, val_main_v46, val_main_v45, val_main_v44, val_main_v43, val_main_v42, val_main_v41, val_main_v40, val_main_v39, val_main_v38, val_main_cst, val_main_cst_0]
  exact congrArg (fun k => _ + D k) (funext fun a => a.elim0)
/-- The output, the weighted sums of the values given. -/
theorem v75_at (t : Fin 8192) (h : Fin 8) (e : Fin 128) :
    (val_main_v75 (F := Ideal) P C S L D (ix3 h e t) : EReal) = ∑ k : Fin 8448, (val_main_v37 (F := Ideal) P (ix3 k h e) : EReal) * val_main_v74 (F := Ideal) P C S L D (ix3 h t k) := by
  rw [val_main_v75_apply]
  refine Finset.sum_congr rfl fun k _ => Ideal.mul_congr (congrArg (val_main_v37 (F := Ideal) P) (funext fun a => ?_)) (congrArg (val_main_v74 (F := Ideal) P C S L D) (funext fun a => ?_))
  · fin_cases a <;> rfl
  · fin_cases a <;> rfl
/-- A product of a query and a key. -/
theorem v54_at (t : Fin 8192) (u : Fin 2) (h : Fin 8) (r : Fin 8448) :
    (val_main_v54 (F := Ideal) P C S (ix4 u h t r) : EReal) = ∑ d : Fin 64, (val_main_v15 (F := Ideal) P C S (ix4 t u h d) : EReal) * val_main_v35 (F := Ideal) P C S (ix4 r u h d) := by
  rw [val_main_v54_apply]
  refine Finset.sum_congr rfl fun k _ => Ideal.mul_congr (congrArg (val_main_v15 (F := Ideal) P C S) (funext fun a => ?_)) (congrArg (val_main_v35 (F := Ideal) P C S) (funext fun a => ?_))
  · fin_cases a <;> rfl
  · fin_cases a <;> rfl
/-- The score of a key. -/
theorem v56_at (t : Fin 8192) (u : Fin 2) (h : Fin 8) (r : Fin 8448) :
    (val_main_v56 (F := Ideal) P C S (ix4 u h t r) : EReal) = Rope.sc (fun r l => P (ix2 r l)) (fun r l => C (ix2 r l)) (fun r l => S (ix2 r l)) u h t r := by
  rw [val_main_v56_apply, val_main_v55_apply, val_main_cst_1_apply]
  refine Ideal.mul_congr ((v54_at P C S t u h r).trans (Finset.sum_congr rfl fun d _ => Ideal.mul_congr (q_at P C S t u h d) (k_at P C S r u h d))) ?_
  exact Cert.Consts.ofBits_eighth
/-- The largest score. -/
theorem v57_at (t : Fin 8192) (u : Fin 2) (h : Fin 8) :
    (val_main_v57 (F := Ideal) P C S (ix3 u h t) : EReal) = Finset.univ.fold max (Ideal.ofBits .f32 0xFF800000#32) (fun x : Fin 8448 => (val_main_v56 (F := Ideal) P C S (ix4 u h t x) : EReal)) := by
  unfold val_main_v57
  generalize val_main_v56 (F := Ideal) P C S = y0
  refine (Host.reduce_eq_fold_single (α := EReal) max y0 (val_main_cst_2 (F := Ideal)) reducesTo_S2x8x8192x8448_S2x8x8192_d3 (by decide) h_S_ _).trans ?_
  refine congrArg (fun f => Finset.univ.fold max (Ideal.ofBits .f32 0xFF800000#32) f) (funext fun k => ?_)
  exact congrArg y0 (funext fun a => Fin.ext (by match a with | ⟨0, _⟩ => rfl | ⟨1, _⟩ => rfl | ⟨2, _⟩ => rfl | ⟨3, _⟩ => rfl))
/-- The exponential of a score less the largest. -/
theorem v63_at (t : Fin 8192) (u : Fin 2) (h : Fin 8) (r : Fin 8448) :
    (val_main_v63 (F := Ideal) P C S (ix4 u h t r) : EReal) = Ideal.exp ((val_main_v56 (F := Ideal) P C S (ix4 u h t r) : EReal)
      - max (Ideal.ofBits .f32 0xFF800000#32) (val_main_v57 (F := Ideal) P C S (ix3 u h t))) := by
  rw [val_main_v63_apply, val_main_v62_apply, val_main_v61_apply, val_main_v60_apply, val_main_v59_apply, val_main_v58_apply, val_main_cst_3_apply]
  have e : idx_main_v60 (idx_main_v61 (ix4 u h t r)) = ix3 u h t := funext fun a => by fin_cases a <;> rfl
  rw [e]
  generalize val_main_v56 (F := Ideal) P C S (ix4 u h t r) = a
  generalize val_main_v57 (F := Ideal) P C S (ix3 u h t) = b
  rfl
/-- The sum of the exponentials. -/
theorem v64_at (t : Fin 8192) (u : Fin 2) (h : Fin 8) :
    (val_main_v64 (F := Ideal) P C S (ix3 u h t) : EReal) = ∑ x : Fin 8448, (val_main_v63 (F := Ideal) P C S (ix4 u h t x) : EReal) := by
  rw [val_main_v64_apply, val_main_cst_4_apply, show (FloatOps.ofBits .f32 0#32 : Ideal .f32) = (0 : EReal) from Cert.Consts.ofBits_zero, zero_add]
  refine Finset.sum_congr rfl fun k _ => congrArg (val_main_v63 (F := Ideal) P C S) (funext fun a => ?_)
  fin_cases a <;> rfl
/-- A softmax weight. -/
theorem v67_at (t : Fin 8192) (u : Fin 2) (h : Fin 8) (r : Fin 8448) :
    (val_main_v67 (F := Ideal) P C S (ix4 u h t r) : EReal) = Ideal.div (val_main_v63 (F := Ideal) P C S (ix4 u h t r)) (val_main_v64 (F := Ideal) P C S (ix3 u h t)) := by
  pointwise [val_main_v67, val_main_v66, val_main_v65]
/-- The first map's weight. -/
theorem v69_at (t : Fin 8192) (h : Fin 8) (r : Fin 8448) :
    (val_main_v69 (F := Ideal) P C S (ix3 h t r) : EReal) = val_main_v67 (F := Ideal) P C S (ix4 0 h t r) := by
  rw [val_main_v69_apply, val_main_v68_apply]
  refine congrArg (val_main_v67 (F := Ideal) P C S) (funext fun a => Fin.ext ?_)
  have h0 := h.isLt; have h1 := t.isLt; have h2 := r.isLt
  match a with
  | ⟨0, _⟩ => rfl
  | ⟨1, _⟩ => show ((h.val * 8192 + t.val) * 8448 + r.val) / 69206016 % 8 = h.val; omega
  | ⟨2, _⟩ => show ((h.val * 8192 + t.val) * 8448 + r.val) / 8448 % 8192 = t.val; omega
  | ⟨3, _⟩ => show ((h.val * 8192 + t.val) * 8448 + r.val) % 8448 = r.val; omega
/-- The second map's weight. -/
theorem v71_at (t : Fin 8192) (h : Fin 8) (r : Fin 8448) :
    (val_main_v71 (F := Ideal) P C S (ix3 h t r) : EReal) = val_main_v67 (F := Ideal) P C S (ix4 1 h t r) := by
  rw [val_main_v71_apply, val_main_v70_apply]
  refine congrArg (val_main_v67 (F := Ideal) P C S) (funext fun a => Fin.ext ?_)
  have h0 := h.isLt; have h1 := t.isLt; have h2 := r.isLt
  match a with
  | ⟨0, _⟩ => rfl
  | ⟨1, _⟩ => show ((h.val * 8192 + t.val) * 8448 + r.val) / 69206016 % 8 = h.val; omega
  | ⟨2, _⟩ => show ((h.val * 8192 + t.val) * 8448 + r.val) / 8448 % 8192 = t.val; omega
  | ⟨3, _⟩ => show ((h.val * 8192 + t.val) * 8448 + r.val) % 8448 = r.val; omega
/-- The difference of the two maps' weights. -/
theorem v74_at (t : Fin 8192) (h : Fin 8) (r : Fin 8448) :
    (val_main_v74 (F := Ideal) P C S L D (ix3 h t r) : EReal) = (val_main_v67 (F := Ideal) P C S (ix4 0 h t r) : EReal)
      - val_main_v53 (F := Ideal) L D ix0 * val_main_v67 (F := Ideal) P C S (ix4 1 h t r) := by
  rw [val_main_v74_apply, val_main_v73_apply, val_main_v72_apply, v69_at, v71_at,
    show idx_main_v72 (ix3 h t r) = ix0 from funext fun a => a.elim0]
  generalize val_main_v67 (F := Ideal) P C S (ix4 0 h t r) = a
  generalize val_main_v67 (F := Ideal) P C S (ix4 1 h t r) = b
  generalize val_main_v53 (F := Ideal) L D ix0 = c
  rfl

/-- The sum of the exponentials of all keys' scores, each less the largest, at scores in base two. -/
theorem exp_at (t : Fin 8192) (u : Fin 2) (h : Fin 8) (r : Fin 8448) :
    (val_main_v63 (F := Ideal) P C S (ix4 u h t r) : EReal)
      = ((Rope.wt (fun r l => P (ix2 r l)) (fun r l => C (ix2 r l)) (fun r l => S (ix2 r l)) u h t r : ℝ) : EReal) := by
  rw [v63_at, v57_at, Cert.Consts.ofBits_neg_inf]
  simp only [v56_at]
  exact Cert.Softmax.exp_fold_eq _ r
/-- A softmax weight, at scores in base two. -/
theorem soft_at (t : Fin 8192) (u : Fin 2) (h : Fin 8) (r : Fin 8448) :
    (val_main_v67 (F := Ideal) P C S (ix4 u h t r) : EReal)
      = Ideal.div ((Rope.wt (fun r l => P (ix2 r l)) (fun r l => C (ix2 r l)) (fun r l => S (ix2 r l)) u h t r : ℝ) : EReal)
          ((∑ k, Rope.wt (fun r l => P (ix2 r l)) (fun r l => C (ix2 r l)) (fun r l => S (ix2 r l)) u h t k : ℝ) : EReal) := by
  rw [v67_at, v64_at, exp_at, Cert.Softmax.coe_sum]
  exact congrArg _ (Finset.sum_congr rfl fun k _ => exp_at P C S t u h k)
/-- The weighted sums of the values. -/
theorem out_at (lam : ℝ) (hlam : (val_main_v53 (F := Ideal) L D ix0 : EReal) = (lam : EReal)) (vr : Fin 8 → Fin 8448 → Fin 128 → ℝ)
    (hv : ∀ h n (e : Fin 128), P (ix2 n (⟨2048 + 128 * h.val + e.val, by omega⟩ : Fin 4096)) = ((vr h n e : ℝ) : EReal))
    (t : Fin 8192) (h : Fin 8) (e : Fin 128) :
    (val_main_v75 (F := Ideal) P C S L D (ix3 h e t) : EReal)
      = Cert.Combine.before (Rope.wt (fun r l => P (ix2 r l)) (fun r l => C (ix2 r l)) (fun r l => S (ix2 r l)) 0 h t)
          (Rope.wt (fun r l => P (ix2 r l)) (fun r l => C (ix2 r l)) (fun r l => S (ix2 r l)) 1 h t) (vr h) lam e := by
  rw [v75_at]
  refine Finset.sum_congr rfl fun k _ => Ideal.mul_congr ((v37_at P k h e).trans (hv h k e)) ?_
  rw [v74_at, hlam, soft_at, soft_at]
/-- The result. -/
theorem v94_at (t : Fin 8192) (x : Fin 1024) :
    (val_main_v94 (F := Ideal) P C S L G D (ix2 t x) : EReal)
      = Cert.Combine.normOut (fun e => (val_main_v75 (F := Ideal) P C S L D (ix3 (⟨x.val / 128, by omega⟩ : Fin 8) e t) : EReal)) (⟨x.val % 128, by omega⟩ : Fin 128)
          * G (ix1 (⟨x.val % 128, by omega⟩ : Fin 128)) * (Ideal.ofBits .f32 0x3F800000#32 - D ix0) := by
  pointwise [val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_cst_5, val_main_cst_6, val_main_cst_7, val_main_cst_8, Cert.Combine.normOut]

end Cert.ReferenceIdeal.At

end
-- ==== Proof.Value.Pre.lean ====
module

public import proofs.«01_k».proof.Defs
public import proofs.«01_k».proof.Proof.Math.Consts
public import Idealize.ShloMosaic.Lib.Pointwise

@[expose] public section

set_option maxRecDepth 16384

noncomputable section

namespace Cert.Pre_finite

open Idealize.ShloMosaic

/-! # What the precondition says of the arguments -/

/-- If the conjunction of many bits is one, each is. -/
theorem fold_and {α : Type} [DecidableEq α] (t : Finset α) (f : α → BitVec 1) (b : BitVec 1) (h : t.fold IntOp.andi b f = 1#1) (i : α) (hi : i ∈ t) : f i = 1#1 := by
  induction t using Finset.induction_on with
  | empty => simp at hi
  | insert a t ha ih =>
    rw [Finset.fold_insert ha] at h
    have hb : ∀ x y : BitVec 1, IntOp.andi x y = 1#1 → x = 1#1 ∧ y = 1#1 := by decide
    rcases Finset.mem_insert.mp hi with e | e
    · rw [e]; exact (hb _ _ h).1
    · exact ih (hb _ _ h).2 e

/-- An extended real whose magnitude is below infinity is a real number. -/
theorem real_of_lt (x : EReal) (h : FloatOps.cmpf (F := Ideal) (φ := .f32) .olt (FloatOps.hostAbsf x) (FloatOps.ofBits .f32 0x7F800000#32) = 1#1) :
    ∃ r : ℝ, x = (r : EReal) := by
  have h' : Ideal.cmp .olt (max x (-x)) (Ideal.ofBits .f32 0x7F800000#32) = 1#1 := h
  rw [Cert.Consts.ofBits_inf] at h'
  induction x using EReal.rec with
  | bot => simp [Ideal.cmp] at h'
  | coe r => exact ⟨r, rfl⟩
  | top => simp [Ideal.cmp] at h'

variable [Facts]

theorem of_fn (P : FVec Ideal S8448x4096 .f32) (C S : FVec Ideal S8192x64 .f32) (L : FVec Ideal S4x64 .f32) (G : FVec Ideal S128 .f32) (D : FVec Ideal S_ .f32)
    (h : fn (F := Ideal) P C S L G D = fun _ => 1#1) :
    (∀ (r : Fin 8448) (c : Fin 1024), ∃ x : ℝ, P (ix2 r (⟨2048 + c.val, by omega⟩ : Fin 4096)) = (x : EReal))
      ∧ (∀ (r : Fin 4) (c : Fin 64), ∃ x : ℝ, L (ix2 r c) = (x : EReal)) ∧ ∃ x : ℝ, D ix0 = (x : EReal) := by
  have h0 := congrFun h (fun a => a.elim0)
  unfold fn at h0
  have hb : ∀ x y : BitVec 1, IntOp.andi x y = 1#1 → x = 1#1 ∧ y = 1#1 := by decide
  obtain ⟨hpl, hd⟩ := hb _ _ h0
  obtain ⟨hp, hl⟩ := hb _ _ hpl
  dsimp only at hp hl
  rw [Host.reduce_eq_fold] at hp hl
  refine ⟨?_, ?_, ?_⟩
  · intro r c
    have := fold_and _ _ _ hp (ix2 r c) (Finset.mem_filter.mpr ⟨Finset.mem_univ _, funext fun a => a.elim0⟩)
    refine real_of_lt _ (Eq.trans ?_ this)
    pointwise
  · intro r c
    have := fold_and _ _ _ hl (ix2 r c) (Finset.mem_filter.mpr ⟨Finset.mem_univ _, funext fun a => a.elim0⟩)
    exact real_of_lt _ this
  · exact real_of_lt _ ((congrArg (fun i => FloatOps.cmpf (F := Ideal) (φ := .f32) .olt (FloatOps.hostAbsf (D i)) (FloatOps.ofBits .f32 0x7F800000#32)) (funext fun a => a.elim0)).trans hd)

end Cert.Pre_finite

end
-- ==== Proof.Value.Equal.lean ====
module

public import proofs.«01_k».proof.Proof.Value.Result
public import proofs.«01_k».proof.Proof.Value.Ref
public import proofs.«01_k».proof.Proof.Value.Pre

@[expose] public section

set_option maxRecDepth 16384

noncomputable section

namespace Cert.Value

open Cert.KernelIdeal Cert.KernelIdeal.Gen Cert.KernelIdeal.Run
open Idealize.ShloMosaic Idealize.ShloMosaic.TcCoe Idealize.SL.Sem

/-! # The two results are equal -/

variable (m : (l : Loc nD τ sig) → Buf (Elt Ideal) l) (ρ : Dev nD → PrngReg) (c : Dev nD)

/-- On finite values and parameters, what the attention ends holding is the reference's result. -/
theorem equal [Cert.Pre_finite.Facts] (P : FVec Ideal S8448x4096 .f32) (C S : FVec Ideal S8192x64 .f32) (L : FVec Ideal S4x64 .f32) (G : FVec Ideal S128 .f32) (D : FVec Ideal S_ .f32)
    (hP : m ((c : Thread nD τ).loc main_arg0) = P) (hC : m ((c : Thread nD τ).loc main_arg1) = C) (hS : m ((c : Thread nD τ).loc main_arg2) = S)
    (hL : m ((c : Thread nD τ).loc main_arg3) = L) (hG : m ((c : Thread nD τ).loc main_arg4) = G) (hD : m ((c : Thread nD τ).loc main_arg5) = D)
    (h : Cert.Pre_finite.fn (F := Ideal) P C S L G D = fun _ => 1#1) :
    (Cert.ReferenceIdeal.Read.val_main_v94 (F := Ideal) P C S L G D : FVec Ideal S8192x1024 .bf16)
      = ((Reg1.dat (V7 m ρ) c).arrAt 7 cfg1.N : FVec Ideal S8192x1024 .bf16) := by
  obtain ⟨hv, hl, hd⟩ := Cert.Pre_finite.of_fn P C S L G D h
  obtain ⟨lam, hlam⟩ := lamf_real L D hl hd
  choose p hp using hv
  have hvr : ∀ (h : Fin 8) n (e : Fin 128), P (ix2 n (⟨2048 + 128 * h.val + e.val, by omega⟩ : Fin 4096)) = ((p n (⟨128 * h.val + e.val, by omega⟩ : Fin 1024) : ℝ) : EReal) :=
    fun h n e => (congrArg (fun l => P (ix2 n l)) (Fin.ext (by show 2048 + 128 * h.val + e.val = 2048 + (128 * h.val + e.val); omega))).trans (hp n ⟨128 * h.val + e.val, by omega⟩)
  have hlam' : (Cert.ReferenceIdeal.Read.val_main_v53 (F := Ideal) L D ix0 : EReal) = (lam : EReal) := (Cert.ReferenceIdeal.At.v53_at L D ix0).trans hlam
  funext i
  obtain ⟨t, x, hi⟩ : ∃ (t : Fin 8192) (x : Fin 1024), i = (ix2 t x : S8192x1024.Idx) := ⟨i 0, i 1, idx_eq2 rfl rfl⟩
  rw [hi]
  refine (Cert.ReferenceIdeal.At.v94_at P C S L G D t x).trans ?_
  refine Eq.trans ?_ (result_at m ρ c P C S L G D hP hC hS hL hG hD lam hlam (fun h n e => p n ⟨128 * h.val + e.val, by omega⟩) hvr t x).symm
  have ho := funext (fun e => Cert.ReferenceIdeal.At.out_at P C S L D lam hlam' (fun h n e => p n ⟨128 * h.val + e.val, by omega⟩) hvr t (⟨x.val / 128, by omega⟩ : Fin 8) e)
  rw [ho, mul_assoc]
  exact Ideal.mul_congr (Combine.norm_eq _ _ _ _ (fun k => Softmax.w_nonneg _ _) (fun k => Softmax.w_nonneg _ _) _).symm rfl

end Cert.Value

end
-- ==== Proof.Math.Mlp.lean ====
module

public import Idealize.ShloMosaic.PureOps.Ideal
public import Mathlib.Algebra.BigOperators.Fin

@[expose] public section

noncomputable section

namespace Cert.Mlp

open Idealize.ShloMosaic

/-! # One row of the squared-ReLU network with its norms -/

/-- The norm of a row, times its weights. -/
def rms (x g : Fin 2048 → EReal) (c : Fin 2048) : EReal :=
  x c * Ideal.rsqrt (Ideal.div (∑ k, x k * x k) (Ideal.ofBits .f32 0x45000000#32) + Ideal.ofBits .f32 0x358637BD#32) * g c

/-- The normalized row, scaled and shifted. -/
def modu (x g sc sh : Fin 2048 → EReal) (c : Fin 2048) : EReal :=
  rms x g c * (1 + sc c) + sh c

/-- A hidden element: the squared positive part of a product. -/
def hid (a w : Fin 2048 → EReal) : EReal :=
  max (∑ k, a k * w k) 0 * max (∑ k, a k * w k) 0

/-- The row plus the gated norm of another. -/
def resid (x y g gate : Fin 2048 → EReal) (c : Fin 2048) : EReal := x c + gate c * rms y g c

/-- Equal entries give equal results. -/
theorem modu_congr {x x' g g' sc sc' sh sh' : Fin 2048 → EReal} (c : Fin 2048) (h1 : ∀ k, x k = x' k) (h2 : ∀ k, g k = g' k) (h3 : ∀ k, sc k = sc' k) (h4 : ∀ k, sh k = sh' k) :
    modu x g sc sh c = modu x' g' sc' sh' c := by
  rw [funext h1, funext h2, funext h3, funext h4]

theorem resid_congr {x x' y y' g g' t t' : Fin 2048 → EReal} (c : Fin 2048) (h1 : ∀ k, x k = x' k) (h2 : ∀ k, y k = y' k) (h3 : ∀ k, g k = g' k) (h4 : ∀ k, t k = t' k) :
    resid x y g t c = resid x' y' g' t' c := by
  rw [funext h1, funext h2, funext h3, funext h4]

/-- A sum over 8192 is the sum over 16 blocks of the sums over their 512. -/
theorem sum_blocks (f : Fin 8192 → EReal) :
    ∑ n, f n = ∑ j ∈ Finset.range 16, ∑ q : Fin 512, if h : 512 * j + q.val < 8192 then f ⟨512 * j + q.val, h⟩ else 0 := by
  rw [Finset.sum_range, ← Equiv.sum_comp (finProdFinEquiv (m := 16) (n := 512)), Fintype.sum_prod_type]
  refine Finset.sum_congr rfl fun j _ => Finset.sum_congr rfl fun q _ => ?_
  rw [dif_pos (by omega)]
  exact congrArg f (Fin.ext (by show q.val + 512 * j.val = 512 * j.val + q.val; omega))

end Cert.Mlp

end
-- ==== Proof.Math.Tiles.lean ====
module

public import Idealize.ShloMosaic.Lib.Ring
public import Idealize.ShloMosaic.Lib.Pointwise
public import Idealize.ShloMosaic.Lib.WordCmp
public import Idealize.ShloMosaic.Lib.Pipeline.ReadBack
public import Idealize.ShloMosaic.Lib.Pipeline.ValueKit

@[expose] public section

set_option maxRecDepth 16384

noncomputable section

namespace Cert.Tiles

open Idealize.ShloMosaic Idealize.SL.Sem

/-! # Matrices written in groups of rows, or in four strips of columns -/

/-- The shape of an `a` by `b` matrix. -/
abbrev Mat (a b : ℕ) : Shape := ⟨2, ![a, b]⟩

variable {R m C : ℕ}

/-- Row `q` of group `k` is row `m * k + q` of the matrix. -/
theorem row_idx (k : ℕ) (inb : ∀ a, (![m * k, 0] : Fin 2 → ℕ) a + (Mat m C).size a ≤ (Mat R C).size a) (q : Fin m) (hq : m * k + q.val < R) (l : Fin C) :
    (Rect.unit (s := Mat R C) ![m * k, 0] (Mat m C).size inb).idx (ix2 q l) = ix2 ⟨m * k + q.val, hq⟩ l := by
  funext a
  refine Fin.ext ?_
  fin_cases a
  · show m * k + 1 * q.val = _
    simp [ix2]
  · show 0 + 1 * l.val = _
    simp [ix2]

/-- A row of a group, read out of the matrix. -/
theorem ld_rows {e : EltTy} (k : ℕ) (off : Fin 2 → ℕ) (hoff : off = ![m * k, 0]) (inb : ∀ a, off a + (Mat m C).size a ≤ (Mat R C).size a)
    (x : (Mat R C).Idx → Elt Ideal e) (q : Fin m) (r : Fin R) (hr : r.val = m * k + q.val) (l : Fin C) :
    View.ld (Val := Elt Ideal) (e' := e) x (Rect.unit (s := Mat R C) off (Mat m C).size inb) (ix2 q l) = x (ix2 r l) := by
  subst hoff
  exact congrArg x ((row_idx k inb q (hr ▸ r.isLt) l).trans (congrArg (fun z : Fin R => (ix2 z l : (Mat R C).Idx)) (Fin.ext hr.symm)))

/-- A matrix after group `k` is written over it. -/
theorem canon_rows {e : EltTy} (k : ℕ) (off : Fin 2 → ℕ) (hoff : off = ![m * k, 0]) (inb : ∀ a, off a + (Mat m C).size a ≤ (Mat R C).size a)
    (w : (⟨(Mat R C).rank, (Mat m C).size⟩ : Shape).Idx → Elt Ideal e) (L : List (View.Piece (Elt Ideal) (Mat R C) e)) (r : Fin R) (l : Fin C) :
    View.canon (⟨Rect.unit (s := Mat R C) off (Mat m C).size inb, w⟩ :: L) (ix2 r l)
      = if h : m * k ≤ r.val ∧ r.val < m * k + m then w (ix2 ⟨r.val - m * k, by omega⟩ l) else View.canon L (ix2 r l) := by
  subst hoff
  split
  · rename_i h
    have e1 : (ix2 r l : (Mat R C).Idx) = (Rect.unit (s := Mat R C) ![m * k, 0] (Mat m C).size inb).emb (ix2 ⟨r.val - m * k, by omega⟩ l) :=
      ((row_idx k inb ⟨r.val - m * k, by omega⟩ (by show m * k + (r.val - m * k) < R; omega) l).trans
        (congrArg (fun z : Fin R => (ix2 z l : (Mat R C).Idx)) (Fin.ext (by show m * k + (r.val - m * k) = r.val; omega)))).symm
    rw [e1, View.canon_cons_emb]
  · rename_i h
    apply View.canon_cons_of_not_mem
    rw [Rect.mem_set_unit]
    intro hh
    exact h (hh 0)

/-- A loop over the groups of rows. `P n` is what the trips before `n` wrote. Trip `n` writes group `n`, and turns the
    rows `s` it finds there into the rows `f`. Then the rows of the trips so far are `f`'s, the others are `s`'s. -/
theorem rows_loop {e : EltTy} (N : ℕ) (P : ℕ → List (View.Piece (Elt Ideal) (Mat R C) e)) (f s : Fin R → Fin C → Elt Ideal e)
    (h0 : ∀ r l, View.canon (P 0) (ix2 r l) = s r l)
    (hs : ∀ n, n < N → ∃ (off : Fin 2 → ℕ) (inb : ∀ a, off a + (Mat m C).size a ≤ (Mat R C).size a) (w : (⟨(Mat R C).rank, (Mat m C).size⟩ : Shape).Idx → Elt Ideal e),
      off = ![m * n, 0] ∧ P (n + 1) = ⟨Rect.unit (s := Mat R C) off (Mat m C).size inb, w⟩ :: P n
        ∧ ∀ (q : Fin m) (r : Fin R) (l : Fin C), r.val = m * n + q.val → (∀ k, View.canon (P n) (ix2 r k) = s r k) → w (ix2 q l) = f r l)
    (n : ℕ) (hn : n ≤ N) (r : Fin R) (l : Fin C) :
    View.canon (P n) (ix2 r l) = if r.val < m * n then f r l else s r l := by
  induction n generalizing r l with
  | zero => rw [if_neg (by simp)]; exact h0 r l
  | succ n ih =>
    obtain ⟨off, inb, w, ho, hP, hw⟩ := hs n hn
    rw [hP, canon_rows n off ho, Nat.mul_succ]
    split
    · rename_i h
      rw [if_pos h.2]
      exact hw _ r l (by show r.val = m * n + (r.val - m * n); omega) fun k => (ih (by omega) r k).trans (if_neg (by omega))
    · rename_i h
      refine (ih (by omega) r l).trans ?_
      by_cases hr : r.val < m * n
      · rw [if_pos hr, if_pos (by omega)]
      · rw [if_neg hr, if_neg (by omega)]

/-- A row is of the context when its number in the array is below 256; a kernel compares words. -/
theorem pick_word (A M a k q : ℕ) (h : A * a + M * k + q < 2 ^ 31) (x y : EReal) :
    Scalar.select
        (IntOp.cmpi CmpIPredicate.slt
          (IntOp.addi (Scalar.addi (Scalar.muli (BitVec.ofNat 32 a) (BitVec.ofNat 32 A)) (Scalar.muli (Scf.iv 0#32 1#32 k) (BitVec.ofNat 32 M))) (BitVec.ofNat 32 q))
          256#32) x y
      = if A * a + M * k + q < 256 then x else y := by
  have e : IntOp.addi (Scalar.addi (Scalar.muli (BitVec.ofNat 32 a) (BitVec.ofNat 32 A)) (Scalar.muli (Scf.iv 0#32 1#32 k) (BitVec.ofNat 32 M))) (BitVec.ofNat 32 q)
      = BitVec.ofNat 32 (A * a + M * k + q) := by
    simp only [IntOp.addi, Scalar.addi, Scalar.muli, IntOp.muli, Scf.iv, ← BitVec.ofNat_mul, ← BitVec.ofNat_add]
    congr 1
    ring
  rw [e, show (256#32 : BitVec 32) = BitVec.ofNat 32 256 from rfl]
  by_cases hlt : A * a + M * k + q < 256
  · rw [(WordCmp.cmpi_slt_ofNat_eq_one_iff (by omega) (by decide)).2 hlt, if_pos hlt]; rfl
  · rw [(WordCmp.cmpi_slt_ofNat_eq_zero_iff (by omega) (by decide)).2 (by omega), if_neg hlt]; rfl

/-- The one row of an array, read whole. -/
theorem whole_row (inb : ∀ a, (![0, 0] : Fin 2 → ℕ) a + (Mat 1 2048).size a ≤ (Mat 1 2048).size a) (x : FVec Ideal (Mat 1 2048) .f32) :
    View.ld (Val := Elt Ideal) (e' := .f32) x (Rect.unit (s := Mat 1 2048) ![0, 0] (Mat 1 2048).size inb) = x :=
  View.ld_unit_lit (Val := Elt Ideal) (S := Mat 1 2048) (e := .f32) (off := ![0, 0]) inb x (by decide)

/-- One of the two rows of an array, read out of it. -/
theorem ld_row (p : Fin 2) (inb : ∀ a, (![p.val, 0] : Fin 2 → ℕ) a + (Mat 1 2048).size a ≤ (Mat 2 2048).size a) (x : FVec Ideal (Mat 2 2048) .f32) (l : Fin 2048) :
    (View.ld (Val := Elt Ideal) (e' := .f32) x (Rect.unit (s := Mat 2 2048) ![p.val, 0] (Mat 1 2048).size inb) (ix2 0 l) : EReal) = x (ix2 p l) := by
  refine congrArg x (funext fun a => Fin.ext ?_)
  fin_cases a
  · rfl
  · show 0 + 1 * l.val = _
    simp [ix2]

theorem idx_cols (y : (Mat 1056 512).Idx) : ∃ (r : Fin 1056) (q : Fin 512), y = ix2 r q := ⟨y 0, y 1, by funext a; fin_cases a <;> rfl⟩

/-- Column `q` of the strip that starts at column `o`. -/
theorem cols_idx (o : ℕ) (inb : ∀ a, (![0, o] : Fin 2 → ℕ) a + (Mat 1056 512).size a ≤ (Mat 1056 2048).size a) (r : Fin 1056) (q : Fin 512) (l : Fin 2048) (hl : l.val = o + q.val) :
    (Rect.unit (s := Mat 1056 2048) ![0, o] (Mat 1056 512).size inb).idx (ix2 r q) = ix2 r l := by
  funext a
  refine Fin.ext ?_
  fin_cases a
  · show 0 + 1 * r.val = _
    simp [ix2]
  · show o + 1 * q.val = _
    simp [ix2, hl]

theorem ld_cols (o : ℕ) (inb : ∀ a, (![0, o] : Fin 2 → ℕ) a + (Mat 1056 512).size a ≤ (Mat 1056 2048).size a) (x : FVec Ideal (Mat 1056 2048) .f32) (r : Fin 1056) (q : Fin 512) (l : Fin 2048) (hl : l.val = o + q.val) :
    (View.ld (Val := Elt Ideal) (e' := .f32) x (Rect.unit (s := Mat 1056 2048) ![0, o] (Mat 1056 512).size inb) (ix2 r q) : EReal) = x (ix2 r l) :=
  congrArg x (cols_idx o inb r q l hl)

theorem ld_down (o : ℕ) (inb : ∀ a, (![0, 0, o] : Fin 3 → ℕ) a + (⟨3, ![1, 512, 512]⟩ : Shape).size a ≤ (⟨3, ![1, 512, 2048]⟩ : Shape).size a) (x : FVec Ideal (⟨3, ![1, 512, 2048]⟩ : Shape) .f32) (f : Fin 512) (q : Fin 512) (l : Fin 2048) (hl : l.val = o + q.val) :
    (View.ld (Val := Elt Ideal) (e' := .f32) x (Rect.unit (s := ⟨3, ![1, 512, 2048]⟩) ![0, 0, o] (⟨3, ![1, 512, 512]⟩ : Shape).size inb) (ix3 0 f q) : EReal) = x (ix3 0 f l) := by
  refine congrArg x (funext fun a => Fin.ext ?_)
  fin_cases a
  · rfl
  · show 0 + 1 * f.val = _
    simp [ix3]
  · show o + 1 * q.val = _
    simp [ix3, hl]

/-- A strip that ends before column `l` says nothing of it. -/
theorem canon_skip (o : ℕ) (inb : ∀ a, (![0, o] : Fin 2 → ℕ) a + (Mat 1056 512).size a ≤ (Mat 1056 2048).size a) (w : (⟨(Mat 1056 2048).rank, (Mat 1056 512).size⟩ : Shape).Idx → Elt Ideal .f32)
    (L : List (View.Piece (Elt Ideal) (Mat 1056 2048) .f32)) (r : Fin 1056) (l : Fin 2048) (h : o + 512 ≤ l.val) :
    View.canon (⟨Rect.unit (s := Mat 1056 2048) ![0, o] (Mat 1056 512).size inb, w⟩ :: L) (ix2 r l) = View.canon L (ix2 r l) := by
  apply View.canon_cons_of_not_mem
  rw [Rect.mem_set_unit]
  intro hh
  have h1 : l.val < o + 512 := (hh 1).2
  omega

/-- Where the columns from `o` on hold zero, writing the strip at `o` leaves zero from its end on. -/
theorem skip_zero (o : ℕ) (inb : ∀ a, (![0, o] : Fin 2 → ℕ) a + (Mat 1056 512).size a ≤ (Mat 1056 2048).size a) (w : (⟨(Mat 1056 2048).rank, (Mat 1056 512).size⟩ : Shape).Idx → Elt Ideal .f32)
    (L : List (View.Piece (Elt Ideal) (Mat 1056 2048) .f32)) (h : ∀ (r : Fin 1056) (l : Fin 2048), o ≤ l.val → (View.canon L (ix2 r l) : EReal) = 0)
    (r : Fin 1056) (l : Fin 2048) (hl : o + 512 ≤ l.val) : (View.canon (⟨Rect.unit (s := Mat 1056 2048) ![0, o] (Mat 1056 512).size inb, w⟩ :: L) (ix2 r l) : EReal) = 0 :=
  (canon_skip o inb w L r l hl).trans (h r l (by omega))

/-- The strip at `o`, read back there, is zero. -/
theorem read_zero {sig : RefSig} {κ : Kind} {sp : Space} (v : View sig κ sp (Mat 1056 2048) .f32) (o : ℕ) (inb : ∀ a, (![0, o] : Fin 2 → ℕ) a + (Mat 1056 512).size a ≤ (Mat 1056 2048).size a)
    (L : List (View.Piece (Elt Ideal) (Mat 1056 2048) .f32)) (h : ∀ (r : Fin 1056) (l : Fin 2048), o ≤ l.val → (View.canon L (ix2 r l) : EReal) = 0)
    (r : Fin 1056) (q : Fin 512) (l : Fin 2048) (hl : l.val = o + q.val) :
    (v.readCov L (Rect.unit (s := Mat 1056 2048) ![0, o] (Mat 1056 512).size inb).toLoadRect (ix2 r q) : EReal) = 0 := by
  rw [View.readCov_eq_canon']
  exact (congrArg (View.canon L) (cols_idx o inb r q l hl)).trans (h r l (by omega))

/-- A strip that holds its columns of `f` agrees with `f` where it is written. -/
theorem strip (o : ℕ) (inb : ∀ a, (![0, o] : Fin 2 → ℕ) a + (Mat 1056 512).size a ≤ (Mat 1056 2048).size a) (w : FVec Ideal (Mat 1056 512) .f32)
    (f : Fin 1056 → Fin 2048 → EReal) (ew : ∀ (r : Fin 1056) (q : Fin 512) (l : Fin 2048), l.val = o + q.val → (w (ix2 r q) : EReal) = f r l)
    (y : (Mat 1056 512).Idx) : (w y : EReal) = f ((Rect.unit (s := Mat 1056 2048) ![0, o] (Mat 1056 512).size inb).idx y 0)
      ((Rect.unit (s := Mat 1056 2048) ![0, o] (Mat 1056 512).size inb).idx y 1) := by
  obtain ⟨r, q, rfl⟩ := idx_cols y
  have hl : o + q.val < 2048 := by
    have h : o + 512 ≤ 2048 := inb 1
    omega
  have e := cols_idx o inb r q ⟨o + q.val, hl⟩ rfl
  exact (ew r q ⟨o + q.val, hl⟩ rfl).trans (congrArg (fun z : (Mat 1056 2048).Idx => f (z 0) (z 1)) e.symm)

/-- Four strips that hold their columns of `f`, written over anything, make `f`. -/
theorem canon_strips (w0 w1 w2 w3 : FVec Ideal (Mat 1056 512) .f32) (f : Fin 1056 → Fin 2048 → EReal)
    (i0 : ∀ a, (![0, 0] : Fin 2 → ℕ) a + (Mat 1056 512).size a ≤ (Mat 1056 2048).size a)
    (i1 : ∀ a, (![0, 512] : Fin 2 → ℕ) a + (Mat 1056 512).size a ≤ (Mat 1056 2048).size a)
    (i2 : ∀ a, (![0, 1024] : Fin 2 → ℕ) a + (Mat 1056 512).size a ≤ (Mat 1056 2048).size a)
    (i3 : ∀ a, (![0, 1536] : Fin 2 → ℕ) a + (Mat 1056 512).size a ≤ (Mat 1056 2048).size a)
    (e0 : ∀ (r : Fin 1056) (q : Fin 512) (l : Fin 2048), l.val = 0 + q.val → (w0 (ix2 r q) : EReal) = f r l)
    (e1 : ∀ (r : Fin 1056) (q : Fin 512) (l : Fin 2048), l.val = 512 + q.val → (w1 (ix2 r q) : EReal) = f r l)
    (e2 : ∀ (r : Fin 1056) (q : Fin 512) (l : Fin 2048), l.val = 1024 + q.val → (w2 (ix2 r q) : EReal) = f r l)
    (e3 : ∀ (r : Fin 1056) (q : Fin 512) (l : Fin 2048), l.val = 1536 + q.val → (w3 (ix2 r q) : EReal) = f r l)
    (T : List (View.Piece (Elt Ideal) (Mat 1056 2048) .f32)) (r : Fin 1056) (l : Fin 2048) :
    (View.canon ([(⟨Rect.unit (s := Mat 1056 2048) ![0, 1536] (Mat 1056 512).size i3, w3⟩ : View.Piece (Elt Ideal) (Mat 1056 2048) .f32),
      (⟨Rect.unit (s := Mat 1056 2048) ![0, 1024] (Mat 1056 512).size i2, w2⟩ : View.Piece (Elt Ideal) (Mat 1056 2048) .f32),
      (⟨Rect.unit (s := Mat 1056 2048) ![0, 512] (Mat 1056 512).size i1, w1⟩ : View.Piece (Elt Ideal) (Mat 1056 2048) .f32),
      (⟨Rect.unit (s := Mat 1056 2048) ![0, 0] (Mat 1056 512).size i0, w0⟩ : View.Piece (Elt Ideal) (Mat 1056 2048) .f32)] ++ T) (ix2 r l) : EReal) = f r l := by
  refine View.canon_append_of_piecesOf (Val := Elt Ideal) (e := .f32) (fun y : (Mat 1056 2048).Idx => f (y 0) (y 1)) T _ ?_ (ix2 r l) ?_
  · exact ⟨strip 1536 i3 w3 f e3, strip 1024 i2 w2 f e2, strip 512 i1 w1 f e1, strip 0 i0 w0 f e0, trivial⟩
  · refine View.cover_of_tiledL (_ : List (View.Piece (Elt Ideal) (Mat 1056 2048) .f32)) (Mat 1056 512).size ?_ (ix2 r l)
    rfl

/-- A sum is the sum over its blocks of the sums over a block. -/
theorem sum_blocks (J B : ℕ) {N : ℕ} (hN : N = J * B) (f : Fin N → EReal) :
    ∑ n, f n = ∑ j ∈ Finset.range J, ∑ q : Fin B, if h : B * j + q.val < N then f ⟨B * j + q.val, h⟩ else 0 := by
  subst hN
  rw [Finset.sum_range, ← Equiv.sum_comp (finProdFinEquiv (m := J) (n := B)), Fintype.sum_prod_type]
  refine Finset.sum_congr rfl fun j _ => Finset.sum_congr rfl fun q _ => ?_
  have e : (finProdFinEquiv (j, q)).val = B * j.val + q.val := by show q.val + B * j.val = _; omega
  rw [dif_pos (e ▸ (finProdFinEquiv (j, q)).isLt)]
  exact congrArg f (Fin.ext e)

end Cert.Tiles

end
-- ==== Proof.Mlp.Body.lean ====
module

public import proofs.«01_k».proof.Proof.Gen.MlpIdeal.Value
public import proofs.«01_k».proof.Proof.Math.Mlp
public import proofs.«01_k».proof.Proof.Math.Tiles
public import Idealize.ShloMosaic.Lib.Pointwise
public import Idealize.ShloMosaic.Lib.WordCmp
public import Idealize.ShloMosaic.Lib.Pipeline.ReadBack
public import Idealize.ShloMosaic.Lib.Pipeline.ValueKit

@[expose] public section

set_option maxRecDepth 16384

noncomputable section

namespace Cert.MlpIdeal.Body

open Cert.MlpIdeal Cert.MlpIdeal.Gen
open Idealize.ShloMosaic Idealize.ShloMosaic.TcCoe Idealize.SL.Sem

variable (c : Dev nD) (i : grid0.Coords) (a2 : Memref sig .tc .vmem S1x2048 .f32) (h2 : a2.IsWhole) (a3 : Memref sig .tc .vmem S2x2048 .f32) (h3 : a3.IsWhole)
  (a4 : Memref sig .tc .vmem S2x2048 .f32) (h4 : a4.IsWhole) (a5 : Memref sig .tc .vmem S1x2048x512 .f32) (h5 : a5.IsWhole)
  (a6 : Memref sig .tc .vmem S1x512x2048 .f32) (h6 : a6.IsWhole) (a7 : Memref sig .tc .vmem S1x2048 .f32) (h7 : a7.IsWhole)
  (a8 : Memref sig .tc .vmem S2x2048 .f32) (h8 : a8.IsWhole) (a9 : Memref sig .tc .vmem S1056x2048 .f32) (h9 : a9.IsWhole)
  (a10 : Memref sig .tc .vmem S1056x2048 .f32) (h10 : a10.IsWhole) (a11 : Memref sig .tc .vmem S1056x2048 .bf16) (h11 : a11.IsWhole)
  (x0 : FVec Ideal S1x2048 .f32) (x1 x2 : FVec Ideal S2x2048 .f32) (x3 : FVec Ideal S1x2048x512 .f32) (x4 : FVec Ideal S1x512x2048 .f32)
  (x5 : FVec Ideal S1x2048 .f32) (x6 : FVec Ideal S2x2048 .f32) (x7 : FVec Ideal S1056x2048 .f32) (xo : FVec Ideal S1056x2048 .f32) (xs : FVec Ideal S1056x2048 .bf16)

/-- One strip of columns of the sum, with the point's product added. -/
theorem acc_at (a : FVec Ideal S1056x2048 .bf16) (w : FVec Ideal S1x2048x512 .f32) (v : FVec Ideal S1056x512 .f32) (d : FVec Ideal S1x512x512 .f32)
    (r : Fin 1056) (q : Fin 512) : (k0_pay2 (F := Ideal) (k0_pay10 a w) v d (ix2 r q) : EReal)
      = v (ix2 r q) + ∑ f : Fin 512, Mlp.hid (fun k => a (ix2 r k)) (fun k => w (ix3 0 k f)) * d (ix3 0 f q) := by
  unfold Mlp.hid
  pointwise [k0_pay2, k0_pay10]

theorem off1_eq (k : Fin k0_t1_loop.trips) : k0_off1 k = ![48 * k.val, 0] := by revert k; decide

theorem off2_eq (k : Fin k0_t2_loop.trips) : k0_off2 k = ![48 * k.val, 0] := by revert k; decide

theorem pay_mod (a : Fin 8) (k : Fin k0_t1_loop.trips) (h : FVec Ideal S48x2048 .f32) (g s0 s1 b0 b1 : FVec Ideal S1x2048 .f32) (q : Fin 48) (l : Fin 2048) :
    (k0_pay9 (F := Ideal) (k0_pay6 (Scalar.muli (BitVec.ofNat 32 a.val) 1056#32) 0#32 1#32 k h g s0 s1) b1 (k0_pay7 (Scalar.muli (BitVec.ofNat 32 a.val) 1056#32) 0#32 1#32 k) (k0_pay8 b0) (ix2 q l) : EReal)
      = Mlp.modu (fun c => h (ix2 q c)) (fun c => g (ix2 0 c)) (fun c => if 1056 * a.val + 48 * k.val + q.val < 256 then s0 (ix2 0 c) else s1 (ix2 0 c))
          (fun c => if 1056 * a.val + 48 * k.val + q.val < 256 then b0 (ix2 0 c) else b1 (ix2 0 c)) l := by
  unfold Mlp.modu Mlp.rms
  pointwise [k0_pay9, k0_pay8, k0_pay7, k0_pay6, k0_pay5]
  have hk : k.val < 22 := k.isLt
  rw [Cert.Tiles.pick_word 1056 48 a.val k.val q.val (by omega), Cert.Tiles.pick_word 1056 48 a.val k.val q.val (by omega)]

theorem pay_res (a : Fin 8) (k : Fin k0_t2_loop.trips) (h y : FVec Ideal S48x2048 .f32) (g s0 s1 : FVec Ideal S1x2048 .f32) (q : Fin 48) (l : Fin 2048) :
    (k0_pay4 (F := Ideal) (Scalar.muli (BitVec.ofNat 32 a.val) 1056#32) k h s0 s1 y g (ix2 q l) : EReal)
      = Mlp.resid (fun c => h (ix2 q c)) (fun c => y (ix2 q c)) (fun c => g (ix2 0 c)) (fun c => if 1056 * a.val + 48 * k.val + q.val < 256 then s0 (ix2 0 c) else s1 (ix2 0 c)) l := by
  unfold Mlp.resid Mlp.rms
  pointwise [k0_pay4]
  have hk : k.val < 22 := k.isLt
  rw [Cert.Tiles.pick_word 1056 48 a.val k.val q.val (by omega)]

theorem trip1 (v0 : BitVec 32) (q0 : k0_cond1 i = 1#1) (k : Fin k0_t1_loop.trips) :
    tripL_k0_t1 (F := Ideal) Variants.none c none i a2 h2 a3 h3 a4 h4 a5 h5 a6 h6 a7 h7 a8 h8 a9 h9 a10 h10 a11 h11 v0 q0 (h2.unread x0) (h3.unread x1) (h4.unread x2)
        (h9.unread x7) k
      = [⟨Rect.unit (s := S1056x2048) (k0_off1 k) S48x2048.size (k0_off1_inb i k q0),
          k0_pay9 (F := Ideal) (k0_pay6 v0 0#32 1#32 k (View.ld x7 (Rect.unit (s := S1056x2048) (k0_off1 k) S48x2048.size (k0_off1_inb i k q0))) (View.ld x0 (Rect.unit (s := S1x2048) ![0, 0] S1x2048.size inb_S1x2048_S1x2048_0_0))
              (View.ld x2 (Rect.unit (s := S2x2048) ![0, 0] S1x2048.size inb_S2x2048_S1x2048_0_0)) (View.ld x2 (Rect.unit (s := S2x2048) ![1, 0] S1x2048.size inb_S2x2048_S1x2048_1_0)))
            (View.ld x1 (Rect.unit (s := S2x2048) ![1, 0] S1x2048.size inb_S2x2048_S1x2048_1_0)) (k0_pay7 v0 0#32 1#32 k)
            (k0_pay8 (View.ld x1 (Rect.unit (s := S2x2048) ![0, 0] S1x2048.size inb_S2x2048_S1x2048_0_0)))⟩] := by
  unfold tripL_k0_t1 trip_k0_t1
  dsimp only
  sl_unfold_words
  simp only [View.readAt_eq_ld, h2.read_unread, h3.read_unread, h4.read_unread, h9.read_unread]

theorem trip2 (v0 : BitVec 32) (q0 : k0_cond3 i = 1#1) (k : Fin k0_t2_loop.trips) (L : List (View.Piece (Elt Ideal) S1056x2048 .f32)) :
    tripL_k0_t2 (F := Ideal) Variants.none c none i a2 h2 a3 h3 a4 h4 a5 h5 a6 h6 a7 h7 a8 h8 a9 h9 a10 h10 a11 h11 v0 q0 (h7.unread x5) (h8.unread x6)
        (h9.unread x7) k (a10.view.writes (Elt Ideal) a10.view.junk L)
      = [⟨Rect.unit (s := S1056x2048) (k0_off2 k) S48x2048.size (k0_off2_inb i k q0),
          k0_pay4 (F := Ideal) v0 k (View.ld x7 (Rect.unit (s := S1056x2048) (k0_off2 k) S48x2048.size (k0_off2_inb i k q0)))
            (View.ld x6 (Rect.unit (s := S2x2048) ![0, 0] S1x2048.size inb_S2x2048_S1x2048_0_0)) (View.ld x6 (Rect.unit (s := S2x2048) ![1, 0] S1x2048.size inb_S2x2048_S1x2048_1_0))
            (View.ld (View.canon L) (Rect.unit (s := S1056x2048) (k0_off2 k) S48x2048.size (k0_off2_inb i k q0))) x5⟩] := by
  unfold tripL_k0_t2 trip_k0_t2
  dsimp only
  simp only [View.readAt_eq_ld, h7.read_unread, h8.read_unread, h9.read_unread, View.read_writes_junk_eq_canon]
  refine congrArg (fun z => [(⟨_, z⟩ : View.Piece (Elt Ideal) S1056x2048 .f32)]) ?_
  exact congrArg (fun z => k0_pay4 (F := Ideal) v0 k _ _ _ _ z) (Cert.Tiles.whole_row _ x5)

/-- The rows the trips before `n` have stored in the scratch: the modulated, normalized rows of the input. -/
theorem loop1 (a : Fin 8) (q0 : k0_cond1 i = 1#1) (n : ℕ) (hn : n ≤ k0_t1_loop.trips) (r : Fin 1056) (hr : r.val < 48 * n) (l : Fin 2048) :
    (View.canon (pb_k0_t1 (F := Ideal) Variants.none c none i a2 h2 a3 h3 a4 h4 a5 h5 a6 h6 a7 h7 a8 h8 a9 h9 a10 h10 a11 h11
        (Scalar.muli (BitVec.ofNat 32 a.val) 1056#32) q0 (h2.unread x0) (h3.unread x1) (h4.unread x2) (h9.unread x7) n) (ix2 r l) : EReal)
      = Mlp.modu (fun k => x7 (ix2 r k)) (fun k => x0 (ix2 0 k)) (fun k => if 1056 * a.val + r.val < 256 then x2 (ix2 0 k) else x2 (ix2 1 k))
          (fun k => if 1056 * a.val + r.val < 256 then x1 (ix2 0 k) else x1 (ix2 1 k)) l := by
  refine (Cert.Tiles.rows_loop (R := 1056) (m := 48) (C := 2048) (e := .bf16) k0_t1_loop.trips (fun n => pb_k0_t1 (F := Ideal) Variants.none c none i a2 h2 a3 h3 a4 h4 a5 h5 a6 h6 a7 h7 a8 h8 a9 h9 a10 h10 a11 h11
        (Scalar.muli (BitVec.ofNat 32 a.val) 1056#32) q0 (h2.unread x0) (h3.unread x1) (h4.unread x2) (h9.unread x7) n)
    (fun r l => Mlp.modu (fun k => x7 (ix2 r k)) (fun k => x0 (ix2 0 k)) (fun k => if 1056 * a.val + r.val < 256 then x2 (ix2 0 k) else x2 (ix2 1 k))
          (fun k => if 1056 * a.val + r.val < 256 then x1 (ix2 0 k) else x1 (ix2 1 k)) l)
    (fun r l => View.canon [] (ix2 r l)) (fun _ _ => rfl) (fun n hn => ?_) n hn r l).trans (if_pos hr)
  have e := pb_k0_t1_succ (F := Ideal) Variants.none c none i a2 h2 a3 h3 a4 h4 a5 h5 a6 h6 a7 h7 a8 h8 a9 h9 a10 h10 a11 h11
        (Scalar.muli (BitVec.ofNat 32 a.val) 1056#32) q0 (h2.unread x0) (h3.unread x1) (h4.unread x2) (h9.unread x7) ⟨n, hn⟩
  rw [trip1, List.singleton_append] at e
  refine ⟨k0_off1 ⟨n, hn⟩, k0_off1_inb i ⟨n, hn⟩ q0, _, off1_eq ⟨n, hn⟩, e, fun q r l hr _ => ?_⟩
  refine (pay_mod a ⟨n, hn⟩ _ _ _ _ _ _ q l).trans ?_
  refine Mlp.modu_congr l (fun k => Cert.Tiles.ld_rows (m := 48) (C := 2048) (e := .f32) n _ (off1_eq ⟨n, hn⟩) _ x7 q r hr k)
    (fun k => congrFun (Cert.Tiles.whole_row _ x0) _) (fun k => ?_) fun k => ?_
  · rw [hr, ← Nat.add_assoc]
    exact if_congr Iff.rfl (Cert.Tiles.ld_row 0 _ x2 k) (Cert.Tiles.ld_row 1 _ x2 k)
  · rw [hr, ← Nat.add_assoc]
    exact if_congr Iff.rfl (Cert.Tiles.ld_row 0 _ x1 k) (Cert.Tiles.ld_row 1 _ x1 k)

/-- The output while the last loop runs over it: the trips before `n` have turned their rows of the sum into the
    result's, the others hold the sum. -/
theorem loop2 (a : Fin 8) (q0 : k0_cond3 i = 1#1) (L : List (View.Piece (Elt Ideal) S1056x2048 .f32)) (n : ℕ) (hn : n ≤ k0_t2_loop.trips) (r : Fin 1056) (l : Fin 2048) :
    (View.canon (pb_k0_t2 (F := Ideal) Variants.none c none i a2 h2 a3 h3 a4 h4 a5 h5 a6 h6 a7 h7 a8 h8 a9 h9 a10 h10 a11 h11
        (Scalar.muli (BitVec.ofNat 32 a.val) 1056#32) q0 (h7.unread x5) (h8.unread x6) (h9.unread x7) (a10.view.writes (Elt Ideal) a10.view.junk L) n ++ L) (ix2 r l) : EReal)
      = if r.val < 48 * n then Mlp.resid (fun k => x7 (ix2 r k)) (fun k => View.canon L (ix2 r k)) (fun k => x5 (ix2 0 k))
            (fun k => if 1056 * a.val + r.val < 256 then x6 (ix2 0 k) else x6 (ix2 1 k)) l
        else View.canon L (ix2 r l) := by
  refine Cert.Tiles.rows_loop (R := 1056) (m := 48) (C := 2048) (e := .f32) k0_t2_loop.trips (fun n => pb_k0_t2 (F := Ideal) Variants.none c none i a2 h2 a3 h3 a4 h4 a5 h5 a6 h6 a7 h7 a8 h8 a9 h9 a10 h10 a11 h11
        (Scalar.muli (BitVec.ofNat 32 a.val) 1056#32) q0 (h7.unread x5) (h8.unread x6) (h9.unread x7) (a10.view.writes (Elt Ideal) a10.view.junk L) n ++ L)
    (fun r l => Mlp.resid (fun k => x7 (ix2 r k)) (fun k => View.canon L (ix2 r k)) (fun k => x5 (ix2 0 k))
            (fun k => if 1056 * a.val + r.val < 256 then x6 (ix2 0 k) else x6 (ix2 1 k)) l)
    (fun r l => View.canon L (ix2 r l)) (fun _ _ => rfl) (fun n hn => ?_) n hn r l
  have e := pb_k0_t2_succ (F := Ideal) Variants.none c none i a2 h2 a3 h3 a4 h4 a5 h5 a6 h6 a7 h7 a8 h8 a9 h9 a10 h10 a11 h11
        (Scalar.muli (BitVec.ofNat 32 a.val) 1056#32) q0 (h7.unread x5) (h8.unread x6) (h9.unread x7) (a10.view.writes (Elt Ideal) a10.view.junk L) ⟨n, hn⟩
  rw [← View.writes_append, trip2, List.singleton_append] at e
  refine ⟨k0_off2 ⟨n, hn⟩, k0_off2_inb i ⟨n, hn⟩ q0, _, off2_eq ⟨n, hn⟩, congrArg (· ++ L) e, fun q r l hr ih => ?_⟩
  refine (pay_res a ⟨n, hn⟩ _ _ _ _ _ q l).trans ?_
  refine Mlp.resid_congr l (fun k => Cert.Tiles.ld_rows (m := 48) (C := 2048) (e := .f32) n _ (off2_eq ⟨n, hn⟩) _ x7 q r hr k)
    (fun k => (Cert.Tiles.ld_rows (m := 48) (C := 2048) (e := .f32) n _ (off2_eq ⟨n, hn⟩) _ _ q r hr k).trans (ih k)) (fun _ => rfl) fun k => ?_
  rw [hr, ← Nat.add_assoc]
  exact if_congr Iff.rfl (Cert.Tiles.ld_row 0 _ x6 k) (Cert.Tiles.ld_row 1 _ x6 k)

/-- Row `r`, column `l` of what a point adds to the sum. -/
def step (a : FVec Ideal S1056x2048 .bf16) (w : FVec Ideal S1x2048x512 .f32) (d : FVec Ideal S1x512x2048 .f32) (r : Fin 1056) (l : Fin 2048) : EReal :=
  ∑ f : Fin 512, Mlp.hid (fun k => a (ix2 r k)) (fun k => w (ix3 0 k f)) * d (ix3 0 f l)

/-- The strip that starts at column `o`: when `v` holds its columns of `P`, the strip holds those of `P` plus the point's part. -/
theorem strip_at (a : FVec Ideal S1056x2048 .bf16) (v : FVec Ideal S1056x512 .f32) (P : Fin 1056 → Fin 2048 → EReal) (o : ℕ) (inb : ∀ a, (![0, 0, o] : Fin 3 → ℕ) a + S1x512x512.size a ≤ S1x512x2048.size a)
    (hv : ∀ (r : Fin 1056) (q : Fin 512) (l : Fin 2048), l.val = o + q.val → (v (ix2 r q) : EReal) = P r l) (r : Fin 1056) (q : Fin 512) (l : Fin 2048) (hl : l.val = o + q.val) :
    (k0_pay2 (F := Ideal) (k0_pay10 a x3) v (View.ld x4 (Rect.unit (s := S1x512x2048) ![0, 0, o] S1x512x512.size inb)) (ix2 r q) : EReal) = P r l + step a x3 x4 r l :=
  (acc_at a x3 v _ r q).trans (congrArg₂ (· + ·) (hv r q l hl) (Finset.sum_congr rfl fun f _ => congrArg (_ * ·) (Cert.Tiles.ld_down o inb x4 f q l hl)))

/-- The four column tiles in which a point adds its part to the sum. -/
def accL (xo : FVec Ideal S1056x2048 .f32) (xs : FVec Ideal S1056x2048 .bf16) (x3 : FVec Ideal S1x2048x512 .f32) (x4 : FVec Ideal S1x512x2048 .f32) :
    List (View.Piece (Elt Ideal) S1056x2048 .f32) :=
  [⟨Rect.unit (s := S1056x2048) ![0, 1536] S1056x512.size inb_S1056x2048_S1056x512_0_1536,
      k0_pay3 (F := Ideal) (k0_pay10 xs x3) (View.ld xo (Rect.unit (s := S1056x2048) ![0, 1536] S1056x512.size inb_S1056x2048_S1056x512_0_1536)) (View.ld x4 (Rect.unit (s := S1x512x2048) ![0, 0, 1536] S1x512x512.size inb_S1x512x2048_S1x512x512_0_0_1536))⟩,
    ⟨Rect.unit (s := S1056x2048) ![0, 1024] S1056x512.size inb_S1056x2048_S1056x512_0_1024,
      k0_pay2 (F := Ideal) (k0_pay10 xs x3) (View.ld xo (Rect.unit (s := S1056x2048) ![0, 1024] S1056x512.size inb_S1056x2048_S1056x512_0_1024)) (View.ld x4 (Rect.unit (s := S1x512x2048) ![0, 0, 1024] S1x512x512.size inb_S1x512x2048_S1x512x512_0_0_1024))⟩,
    ⟨Rect.unit (s := S1056x2048) ![0, 512] S1056x512.size inb_S1056x2048_S1056x512_0_512,
      k0_pay1 (F := Ideal) (k0_pay10 xs x3) (k0_pay13 (View.ld xo (Rect.unit (s := S1056x2048) ![0, 512] S1056x512.size inb_S1056x2048_S1056x512_0_512))) (k0_pay14 (View.ld x4 (Rect.unit (s := S1x512x2048) ![0, 0, 512] S1x512x512.size inb_S1x512x2048_S1x512x512_0_0_512))) (constant S1056x512 FTy.f32 0#32)⟩,
    ⟨Rect.unit (s := S1056x2048) ![0, 0] S1056x512.size inb_S1056x2048_S1056x512_0_0,
      k0_pay12 (F := Ideal) xs x3 (View.ld xo (Rect.unit (s := S1056x2048) ![0, 0] S1056x512.size inb_S1056x2048_S1056x512_0_0)) (View.ld x4 (Rect.unit (s := S1x512x2048) ![0, 0, 0] S1x512x512.size inb_S1x512x2048_S1x512x512_0_0_0))⟩]

theorem canon_acc (r : Fin 1056) (l : Fin 2048) : (View.canon (accL xo xs x3 x4) (ix2 r l) : EReal) = xo (ix2 r l) + step xs x3 x4 r l := by
  have h := fun o inb inb' => strip_at x3 x4 xs (View.ld (Val := Elt Ideal) (e' := .f32) xo (Rect.unit (s := S1056x2048) ![0, o] S1056x512.size inb)) (fun r l => xo (ix2 r l)) o inb' (Cert.Tiles.ld_cols o inb xo)
  exact Cert.Tiles.canon_strips _ _ _ _ (fun r l => xo (ix2 r l) + step xs x3 x4 r l) inb_S1056x2048_S1056x512_0_0 inb_S1056x2048_S1056x512_0_512 inb_S1056x2048_S1056x512_0_1024
    inb_S1056x2048_S1056x512_0_1536 (h 0 _ _) (h 512 _ _) (h 1024 _ _) (h 1536 _ _) [] r l

theorem out_B (q0 : ¬cond0_0 i) (q1 : ¬cond0_1 i) (q2 : ¬cond0_2 i) (r : Fin 1056) (l : Fin 2048) :
    (out0_B_8 (F := Ideal) c i a2 h2 a3 h3 a4 h4 a5 h5 a6 h6 a7 h7 a8 h8 a9 h9 a10 h10 a11 h11 q0 q1 q2 x0 x1 x2 x3 x4 x5 x6 x7 xo xs (ix2 r l) : EReal)
      = xo (ix2 r l) + step xs x3 x4 r l := by
  frame_out
  exact canon_acc x3 x4 xo xs r l

theorem out_C (q0 : ¬cond0_0 i) (q1 : ¬cond0_1 i) (q2 : cond0_2 i) (r : Fin 1056) (l : Fin 2048) :
    (out0_C_8 (F := Ideal) c i a2 h2 a3 h3 a4 h4 a5 h5 a6 h6 a7 h7 a8 h8 a9 h9 a10 h10 a11 h11 q0 q1 q2 x0 x1 x2 x3 x4 x5 x6 x7 xo xs (ix2 r l) : EReal)
      = Mlp.resid (fun k => x7 (ix2 r k)) (fun k => xo (ix2 r k) + step xs x3 x4 r k) (fun k => x5 (ix2 0 k))
          (fun k => if 1056 * (i 0).val + r.val < 256 then x6 (ix2 0 k) else x6 (ix2 1 k)) l := by
  frame_out
  refine (loop2 c i a2 h2 a3 h3 a4 h4 a5 h5 a6 h6 a7 h7 a8 h8 a9 h9 a10 h10 a11 h11 x5 x6 x7 (i 0) q2 (accL xo xs x3 x4) k0_t2_loop.trips le_rfl r l).trans ?_
  rw [if_pos (by show r.val < 48 * 22; omega)]
  exact Mlp.resid_congr l (fun _ => rfl) (fun k => canon_acc x3 x4 xo xs r k) (fun _ => rfl) fun _ => rfl

theorem sout_A (q0 : cond0_0 i) (q1 : cond0_1 i) (q2 : ¬cond0_2 i) (r : Fin 1056) (l : Fin 2048) :
    (sout0_A_0 (F := Ideal) c i a2 h2 a3 h3 a4 h4 a5 h5 a6 h6 a7 h7 a8 h8 a9 h9 a10 h10 a11 h11 q0 q1 q2 x0 x1 x2 x3 x4 x5 x6 x7 (ix2 r l) : EReal)
      = Mlp.modu (fun k => x7 (ix2 r k)) (fun k => x0 (ix2 0 k)) (fun k => if 1056 * (i 0).val + r.val < 256 then x2 (ix2 0 k) else x2 (ix2 1 k))
          (fun k => if 1056 * (i 0).val + r.val < 256 then x1 (ix2 0 k) else x1 (ix2 1 k)) l := by
  frame_out
  exact loop1 c i a2 h2 a3 h3 a4 h4 a5 h5 a6 h6 a7 h7 a8 h8 a9 h9 a10 h10 a11 h11 x0 x1 x2 x7 (i 0) q0 k0_t1_loop.trips le_rfl r (by show r.val < 48 * 22; omega) l

theorem canon_zero (r : Fin 1056) (l : Fin 2048) :
    (View.canon [(⟨Rect.unit (s := S1056x2048) ![0, 0] S1056x2048.size inb_S1056x2048_S1056x2048_0_0, k0_pay11 (F := Ideal)⟩ : View.Piece (Elt Ideal) S1056x2048 .f32)] (ix2 r l) : EReal) = 0 := by
  rw [View.canon_unit_zero (funext fun a => by fin_cases a <;> rfl)]
  pointwise [k0_pay11]

theorem out_A (q0 : cond0_0 i) (q1 : cond0_1 i) (q2 : ¬cond0_2 i) (r : Fin 1056) (l : Fin 2048) :
    (out0_A_8 (F := Ideal) c i a2 h2 a3 h3 a4 h4 a5 h5 a6 h6 a7 h7 a8 h8 a9 h9 a10 h10 a11 h11 q0 q1 q2 x0 x1 x2 x3 x4 x5 x6 x7 (ix2 r l) : EReal)
      = 0 + step (sout0_A_0 (F := Ideal) c i a2 h2 a3 h3 a4 h4 a5 h5 a6 h6 a7 h7 a8 h8 a9 h9 a10 h10 a11 h11 q0 q1 q2 x0 x1 x2 x3 x4 x5 x6 x7) x3 x4 r l := by
  frame_out
  have ha : ∀ L : List (View.Piece (Elt Ideal) S1056x2048 .bf16),
      a11.view.readCov L (Rect.unit (s := S1056x2048) ![0, 0] ![1056, 2048] inb_S1056x2048_S1056x2048_0_0).toLoadRect = View.canon L := fun L =>
    (View.readCov_eq_canon' a11.view L _).trans (View.ld_unit_lit (Val := Elt Ideal) (S := S1056x2048) (e := .bf16) (off := ![0, 0]) inb_S1056x2048_S1056x2048_0_0 (View.canon L) (by decide))
  simp only [ha]
  have h0 : ∀ (r : Fin 1056) (l : Fin 2048), 0 ≤ l.val → _ = (0 : EReal) := fun r l _ => canon_zero r l
  have h1 := fun w => Cert.Tiles.skip_zero 0 inb_S1056x2048_S1056x512_0_0 w _ h0
  have h2 := fun w w' => Cert.Tiles.skip_zero 512 inb_S1056x2048_S1056x512_0_512 w' _ (h1 w)
  have h3 := fun w w' w'' => Cert.Tiles.skip_zero 1024 inb_S1056x2048_S1056x512_0_1024 w'' _ (h2 w w')
  exact Cert.Tiles.canon_strips _ _ _ _ (fun r l => 0 + step _ x3 x4 r l) inb_S1056x2048_S1056x512_0_0 inb_S1056x2048_S1056x512_0_512 inb_S1056x2048_S1056x512_0_1024
    inb_S1056x2048_S1056x512_0_1536 (strip_at x3 x4 _ _ (fun _ _ => 0) 0 _ (Cert.Tiles.read_zero _ 0 _ _ h0)) (strip_at x3 x4 _ _ (fun _ _ => 0) 512 _ (Cert.Tiles.read_zero _ 512 _ _ (h1 _)))
    (strip_at x3 x4 _ _ (fun _ _ => 0) 1024 _ (Cert.Tiles.read_zero _ 1024 _ _ (h2 _ _))) (strip_at x3 x4 _ _ (fun _ _ => 0) 1536 _ (Cert.Tiles.read_zero _ 1536 _ _ (h3 _ _ _))) [_] r l

end Cert.MlpIdeal.Body

end
-- ==== Proof.Mlp.Ref.lean ====
module

public import proofs.«01_k».proof.Proof.Gen.MlpReferenceIdeal
public import proofs.«01_k».proof.Proof.Gen.MlpReferenceIdeal.Read
public import proofs.«01_k».proof.Proof.Math.Mlp
public import Idealize.ShloMosaic.Lib.Pointwise
public import Idealize.ShloMosaic.Lib.Pipeline.ValueKit

@[expose] public section

set_option maxRecDepth 16384

noncomputable section

namespace Cert.MlpReferenceIdeal.At

open Cert.MlpReferenceIdeal Cert.MlpReferenceIdeal.Gen Cert.MlpReferenceIdeal.Read
open Idealize.ShloMosaic Idealize.SL.Sem

/-! # The reference of the network, element by element -/

variable (H : FVec Ideal S8448x2048 .f32) (g : FVec Ideal S2048 .f32) (sh sc : FVec Ideal S2x2048 .f32)
  (U : FVec Ideal S4x2048x8192 .f32) (D : FVec Ideal S4x8192x2048 .f32) (go : FVec Ideal S2048 .f32) (gt : FVec Ideal S2x2048 .f32)

/-- The row of a modulation that a row of the array takes. -/
abbrev pick (t : FVec Ideal S2x2048 .f32) (r : Fin 8448) (c : Fin 2048) : EReal := if r.val < 256 then t (ix2 0 c) else t (ix2 1 c)

/-- The scale of an element. -/
theorem scale_at (r : Fin 8448) (c : Fin 2048) : (val_main_v19 (F := Ideal) sc (ix2 r c) : EReal) = pick sc r c := by
  pointwise [val_main_v19, val_main_v18, val_main_v17, val_main_v16, val_main_v15, val_main_v14, val_main_v13]
  rfl
/-- The shift of an element. -/
theorem shift_at (r : Fin 8448) (c : Fin 2048) : (val_main_v29 (F := Ideal) sh (ix2 r c) : EReal) = pick sh r c := by
  pointwise [val_main_v29, val_main_v28, val_main_v27, val_main_v26, val_main_v25, val_main_v24, val_main_v23]
  rfl
/-- The gate of an element. -/
theorem gate_at (r : Fin 8448) (c : Fin 2048) : (val_main_v45 (F := Ideal) gt (ix2 r c) : EReal) = pick gt r c := by
  pointwise [val_main_v45, val_main_v44, val_main_v43, val_main_v42, val_main_v41, val_main_v40, val_main_v39]
  rfl

/-- The normalized, modulated row. -/
theorem mod_at (r : Fin 8448) (c : Fin 2048) :
    (val_main_v30 (F := Ideal) H g sh sc (ix2 r c) : EReal)
      = Mlp.modu (fun c => H (ix2 r c)) (fun c => g (ix1 c)) (pick sc r) (pick sh r) c := by
  pointwise [val_main_v30, val_main_v22, val_main_v21, val_main_v20, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rw [scale_at, shift_at]
  rfl

/-- A hidden element. -/
theorem hid_at (r : Fin 8448) (f : Fin 8192) :
    (val_main_v35 (F := Ideal) H g sh sc U (ix2 r f) : EReal)
      = Mlp.hid (Mlp.modu (fun c => H (ix2 r c)) (fun c => g (ix1 c)) (pick sc r) (pick sh r)) (fun k => U (ix3 0 k f)) := by
  have h := mod_at H g sh sc r
  pointwise [val_main_v35, val_main_v34, val_main_v33, val_main_v32, val_main_v31, val_main_call0_v0, val_main_call0_cst]
  simp only [h]
  rfl

/-- The second product. -/
theorem down_at (r : Fin 8448) (c : Fin 2048) :
    (val_main_v38 (F := Ideal) H g sh sc U D (ix2 r c) : EReal)
      = ∑ f : Fin 8192, Mlp.hid (Mlp.modu (fun c => H (ix2 r c)) (fun c => g (ix1 c)) (pick sc r) (pick sh r)) (fun k => U (ix3 0 k f)) * D (ix3 0 f c) := by
  have h := hid_at H g sh sc U r
  pointwise [val_main_v38, val_main_v37, val_main_v36]
  simp only [h]

/-- The result. -/
theorem out_at (r : Fin 8448) (c : Fin 2048) :
    (val_main_v60 (F := Ideal) H g sh sc U D go gt (ix2 r c) : EReal)
      = Mlp.resid (fun c => H (ix2 r c)) (fun c => ∑ f : Fin 8192, Mlp.hid (Mlp.modu (fun c => H (ix2 r c)) (fun c => g (ix1 c)) (pick sc r) (pick sh r)) (fun k => U (ix3 0 k f)) * D (ix3 0 f c))
          (fun c => go (ix1 c)) (pick gt r) c := by
  pointwise [val_main_v60, val_main_v59, val_main_v58, val_main_v57, val_main_v56, val_main_v55, val_main_v54, val_main_v53, val_main_v52, val_main_v51, val_main_v50, val_main_v49, val_main_v48, val_main_v47, val_main_v46, val_main_cst_3, val_main_cst_4, val_main_cst_5]
  simp only [gate_at, down_at]
  rfl

end Cert.MlpReferenceIdeal.At

end
-- ==== Proof.Mlp.Equal.lean ====
module

public import proofs.«01_k».proof.Proof.Mlp.Body
public import proofs.«01_k».proof.Proof.Mlp.Ref

@[expose] public section

set_option maxRecDepth 16384

noncomputable section

namespace Cert.MlpIdeal.Result

open Cert.MlpIdeal Cert.MlpIdeal.Gen Cert.MlpIdeal.Body
open Idealize.ShloMosaic Idealize.ShloMosaic.TcCoe Idealize.SL.Sem

variable (m : (ℓ : Loc nD τ sig) → Buf (Elt Ideal) ℓ) (c : Dev nD)

/-! ## The blocks of the arguments -/

theorem coords : ∀ t : Fin cfg0.N, (grid0.coords t 0).val = t.val / 16 :=
  (by decide +kernel : ∀ t : Fin grid0.N, (grid0.coords t 0).val = t.val / 16)

theorem idx0 : ∀ t : Fin cfg0.N, win0_0.index t = ![0, 0] ∧ win0_1.index t = ![0, 0] ∧ win0_2.index t = ![0, 0] ∧ win0_5.index t = ![0, 0] ∧ win0_6.index t = ![0, 0] :=
  (by decide +kernel : ∀ t : Fin grid0.N, _)

theorem idx3 : ∀ t : Fin cfg0.N, win0_3.index t = ![0, 0, t.val % 16] := (by decide +kernel : ∀ t : Fin grid0.N, _)
theorem idx4 : ∀ t : Fin cfg0.N, win0_4.index t = ![0, t.val % 16, 0] := (by decide +kernel : ∀ t : Fin grid0.N, _)
theorem idx7 : ∀ t : Fin cfg0.N, win0_7.index t = ![t.val / 16, 0] := (by decide +kernel : ∀ t : Fin grid0.N, _)

/-- The arguments as arrays of extended reals. -/
abbrev aH : FVec Ideal S8448x2048 .f32 := m ((c : Thread nD τ).loc main_arg0)
abbrev aG : FVec Ideal S2048 .f32 := m ((c : Thread nD τ).loc main_arg1)
abbrev aSh : FVec Ideal S2x2048 .f32 := m ((c : Thread nD τ).loc main_arg2)
abbrev aSc : FVec Ideal S2x2048 .f32 := m ((c : Thread nD τ).loc main_arg3)
abbrev aU : FVec Ideal S4x2048x8192 .f32 := m ((c : Thread nD τ).loc main_arg4)
abbrev aD : FVec Ideal S4x8192x2048 .f32 := m ((c : Thread nD τ).loc main_arg5)
abbrev aGo : FVec Ideal S2048 .f32 := m ((c : Thread nD τ).loc main_arg6)
abbrev aGt : FVec Ideal S2x2048 .f32 := m ((c : Thread nD τ).loc main_arg7)

theorem v0_at (k : Fin 2048) : (V m c main_v0 : FVec Ideal S1x2048 .f32) (ix2 0 k) = aG m c (ix1 k) := by
  show (shapeCast S1x2048 (aG m c) shapeCasts_S2048_S1x2048 : FVec Ideal S1x2048 .f32) (ix2 0 k) = _
  pointwise

theorem v1_at (k : Fin 2048) : (V m c main_v1 : FVec Ideal S1x2048 .f32) (ix2 0 k) = aGo m c (ix1 k) := by
  show (shapeCast S1x2048 (aGo m c) shapeCasts_S2048_S1x2048 : FVec Ideal S1x2048 .f32) (ix2 0 k) = _
  pointwise

theorem g_at (t : Fin cfg0.N) (k : Fin 2048) : (iblk m c 0 t : FVec Ideal S1x2048 .f32) (ix2 0 k) = aG m c (ix1 k) := by
  refine Eq.trans ?_ (v0_at m c k)
  blk_point [iblk, idx0 t]

theorem sh_at (t : Fin cfg0.N) (b : Fin 2) (k : Fin 2048) : (iblk m c 1 t : FVec Ideal S2x2048 .f32) (ix2 b k) = aSh m c (ix2 b k) := by
  blk_point [iblk, V, idx0 t]

theorem sc_at (t : Fin cfg0.N) (b : Fin 2) (k : Fin 2048) : (iblk m c 2 t : FVec Ideal S2x2048 .f32) (ix2 b k) = aSc m c (ix2 b k) := by
  blk_point [iblk, V, idx0 t]

theorem up_at (t : Fin cfg0.N) (k : Fin 2048) (f : Fin 512) (n : Fin 8192) (hn : n.val = 512 * (t.val % 16) + f.val) :
    (iblk m c 3 t : FVec Ideal S1x2048x512 .f32) (ix3 0 k f) = aU m c (ix3 0 k n) := by
  blk_point [iblk, V, idx3 t]

theorem down_at (t : Fin cfg0.N) (k : Fin 2048) (f : Fin 512) (n : Fin 8192) (hn : n.val = 512 * (t.val % 16) + f.val) :
    (iblk m c 4 t : FVec Ideal S1x512x2048 .f32) (ix3 0 f k) = aD m c (ix3 0 n k) := by
  blk_point [iblk, V, idx4 t]

theorem go_at (t : Fin cfg0.N) (k : Fin 2048) : (iblk m c 5 t : FVec Ideal S1x2048 .f32) (ix2 0 k) = aGo m c (ix1 k) := by
  refine Eq.trans ?_ (v1_at m c k)
  blk_point [iblk, idx0 t]

theorem gt_at (t : Fin cfg0.N) (b : Fin 2) (k : Fin 2048) : (iblk m c 6 t : FVec Ideal S2x2048 .f32) (ix2 b k) = aGt m c (ix2 b k) := by
  blk_point [iblk, V, idx0 t]

theorem h_at (t : Fin cfg0.N) (r : Fin 1056) (k : Fin 2048) (R : Fin 8448) (hR : R.val = 1056 * (t.val / 16) + r.val) :
    (iblk m c 7 t : FVec Ideal S1056x2048 .f32) (ix2 r k) = aH m c (ix2 R k) := by
  blk_point [iblk, V, idx7 t]

/-! ## What the points of one block of rows leave -/

/-- A row's parameters: the first row of the table for the first 256 rows, the second after. -/
abbrev pick (t : FVec Ideal S2x2048 .f32) (r : Fin 8448) (k : Fin 2048) : EReal := if r.val < 256 then t (ix2 0 k) else t (ix2 1 k)

/-- Row `R` normalized, scaled and shifted. -/
def row (R : Fin 8448) : Fin 2048 → EReal :=
  Mlp.modu (fun k => aH m c (ix2 R k)) (fun k => aG m c (ix1 k)) (pick (aSc m c) R) (pick (aSh m c) R)

/-- The term of hidden element `n` in result `l` of row `R`. -/
def term (R : Fin 8448) (l : Fin 2048) (n : Fin 8192) : EReal :=
  Mlp.hid (row m c R) (fun k => aU m c (ix3 0 k n)) * aD m c (ix3 0 n l)

/-- The sum of the terms of block `j` of the hidden elements. -/
def part (R : Fin 8448) (l : Fin 2048) (j : ℕ) : EReal :=
  ∑ q : Fin 512, if h : 512 * j + q.val < 8192 then term m c R l ⟨512 * j + q.val, h⟩ else 0

theorem step_at (t : Fin cfg0.N) (a : FVec Ideal S1056x2048 .bf16) (r : Fin 1056) (R : Fin 8448)
    (ha : ∀ k, (a (ix2 r k) : EReal) = row m c R k) (l : Fin 2048) :
    step a (iblk m c 3 t : FVec Ideal S1x2048x512 .f32) (iblk m c 4 t : FVec Ideal S1x512x2048 .f32) r l = part m c R l (t.val % 16) := by
  unfold step part
  refine Finset.sum_congr rfl fun f _ => ?_
  have hn : 512 * (t.val % 16) + f.val < 8192 := by omega
  rw [dif_pos hn]
  unfold term
  rw [show (fun k => (a (ix2 r k) : EReal)) = row m c R from funext ha,
    show (fun k => ((iblk m c 3 t : FVec Ideal S1x2048x512 .f32) (ix3 0 k f) : EReal)) = fun k => aU m c (ix3 0 k ⟨_, hn⟩) from funext fun k => up_at m c t k f _ rfl,
    down_at m c t l f ⟨_, hn⟩ rfl]

/-- What the points up to `t` leave: the block's normalized rows, and the sums of the blocks so far. -/
theorem sweep (i j : ℕ) (hj : j < 15) (ht : 16 * i + j < cfg0.N) (r : Fin 1056) (R : Fin 8448) (hR : R.val = 1056 * i + r.val) :
    (∀ k, ((outsAt0 m c (16 * i + j) ht).2 (ix2 r k) : EReal) = row m c R k)
      ∧ ∀ l, ((outsAt0 m c (16 * i + j) ht).1 (ix2 r l) : EReal) = ∑ b ∈ Finset.range (j + 1), part m c R l b := by
  induction j with
  | zero =>
    have e := outsAt0_A m c ⟨16 * i + 0, ht⟩ (by show (16 * i + 0) % 16 = 0; omega) (by show (16 * i + 0) % 16 = 0; omega) (by show ¬(16 * i + 0) % 16 = 15; omega)
    have hi : (16 * i + 0) / 16 = i := by omega
    have hs : ∀ k, ((outsAt0 m c (16 * i + 0) ht).2 (ix2 r k) : EReal) = row m c R k := fun k => by
      refine (congrFun (congrArg Prod.snd e) (ix2 r k)).trans ?_
      refine (sout_A ..).trans ?_
      have hc : 1056 * (grid0.coords (⟨16 * i + 0, ht⟩ : Fin cfg0.N) 0).val + r.val = R.val := by rw [coords, hR]; show 1056 * ((16 * i + 0) / 16) + _ = _; rw [hi]
      rw [hc]
      refine Mlp.modu_congr k (fun k => h_at m c _ r k R ?_) (fun k => g_at m c _ k) (fun k => ?_) fun k => ?_
      · rw [hR]; show _ = 1056 * ((16 * i + 0) / 16) + _; rw [hi]
      · rw [sc_at, sc_at]
      · rw [sh_at, sh_at]
    refine ⟨hs, fun l => ?_⟩
    refine (congrFun (congrArg Prod.fst e) (ix2 r l)).trans ?_
    dsimp only
    rw [out_A, zero_add, Finset.sum_range_one]
    refine (step_at m c ⟨16 * i + 0, ht⟩ _ r R (fun k => ?_) l).trans ?_
    · exact (congrFun (congrArg Prod.snd e) (ix2 r k)).symm.trans (hs k)
    · exact congrArg (part m c R l) (by show (16 * i + 0) % 16 = 0; omega)
  | succ j ih =>
    obtain ⟨ih2, ih1⟩ := ih (by omega) (by omega)
    have e := outsAt0_B m c ⟨16 * i + (j + 1), ht⟩ (by show ¬(16 * i + (j + 1)) % 16 = 0; omega) (by show ¬(16 * i + (j + 1)) % 16 = 0; omega) (by show ¬(16 * i + (j + 1)) % 16 = 15; omega)
    refine ⟨fun k => (congrFun (congrArg Prod.snd e) (ix2 r k)).trans (ih2 k), fun l => ?_⟩
    refine (congrFun (congrArg Prod.fst e) (ix2 r l)).trans ?_
    dsimp only
    rw [out_B, Finset.sum_range_succ]
    refine congrArg₂ (· + ·) (ih1 l) ?_
    refine (step_at m c ⟨16 * i + (j + 1), ht⟩ _ r R (fun k => ih2 k) l).trans ?_
    exact congrArg (part m c R l) (by show (16 * i + (j + 1)) % 16 = j + 1; omega)

/-- What the last point of a block of rows leaves. -/
theorem last (i : ℕ) (ht : 16 * i + 15 < cfg0.N) (r : Fin 1056) (R : Fin 8448) (hR : R.val = 1056 * i + r.val) (l : Fin 2048) :
    ((outsAt0 m c (16 * i + 15) ht).1 (ix2 r l) : EReal)
      = Mlp.resid (fun k => aH m c (ix2 R k)) (fun k => ∑ n, term m c R k n) (fun k => aGo m c (ix1 k)) (pick (aGt m c) R) l := by
  obtain ⟨h2, h1⟩ := sweep m c i 14 (by omega) (by omega) r R hR
  have e := outsAt0_C m c ⟨16 * i + 15, ht⟩ (by show ¬(16 * i + 15) % 16 = 0; omega) (by show ¬(16 * i + 15) % 16 = 0; omega) (by show (16 * i + 15) % 16 = 15; omega)
  have hi : (16 * i + 15) / 16 = i := by omega
  refine (congrFun (congrArg Prod.fst e) (ix2 r l)).trans ?_
  dsimp only
  rw [out_C]
  have hc : 1056 * (grid0.coords (⟨16 * i + 15, ht⟩ : Fin cfg0.N) 0).val + r.val = R.val := by rw [coords, hR]; show 1056 * ((16 * i + 15) / 16) + _ = _; rw [hi]
  rw [hc]
  refine Mlp.resid_congr l (fun k => h_at m c _ r k R ?_) (fun k => ?_) (fun k => go_at m c _ k) fun k => ?_
  · rw [hR]; show _ = 1056 * ((16 * i + 15) / 16) + _; rw [hi]
  · rw [Mlp.sum_blocks, Finset.sum_range_succ]
    refine congrArg₂ (· + ·) (h1 k) ?_
    refine (step_at m c ⟨16 * i + 15, ht⟩ _ r R (fun k => h2 k) k).trans ?_
    exact congrArg (part m c R k) (by show (16 * i + 15) % 16 = 15; omega)
  · rw [gt_at, gt_at]

/-- What the result array ends holding. -/
theorem result (R : Fin 8448) (l : Fin 2048) :
    (Value.G8 m c (ix2 R l) : EReal)
      = Mlp.resid (fun k => aH m c (ix2 R k)) (fun k => ∑ n, term m c R k n) (fun k => aGo m c (ix1 k)) (pick (aGt m c) R) l := by
  have hN : cfg0.N = 128 := N_0
  have hp : Value.pt8Of (ix2 R l) = 16 * (R.val / 1056) + 15 := by
    show 16 * (1 * (R.val / 1056 - 0) + 1 * (l.val / 2048 - 0)) + 15 = _
    have := l.isLt
    omega
  have ht : 16 * (R.val / 1056) + 15 < cfg0.N := by have := R.isLt; omega
  unfold Value.G8
  rw [dif_pos (by rw [hp]; exact ht)]
  have hl : Value.loc8Of (ix2 R l) = ix2 (⟨R.val % 1056, Nat.mod_lt _ (by decide)⟩ : Fin 1056) l := by
    funext a
    fin_cases a
    · rfl
    · exact Fin.ext (Nat.mod_eq_of_lt l.isLt)
  rw [hl]
  refine Eq.trans ?_ (last m c (R.val / 1056) ht ⟨R.val % 1056, Nat.mod_lt _ (by decide)⟩ R (by show R.val = 1056 * (R.val / 1056) + R.val % 1056; omega) l)
  rw [Value.outsAt0_sweep]
  exact congrFun (congrArg Prod.fst (Value.fold0_congr m c _ _ _ _ hp)) _

/-- The result array is the reference's, on the same arguments. -/
theorem equal (H : FVec Ideal S8448x2048 .f32) (G : FVec Ideal S2048 .f32) (Sh Sc : FVec Ideal S2x2048 .f32) (U : FVec Ideal S4x2048x8192 .f32)
    (D : FVec Ideal S4x8192x2048 .f32) (Go : FVec Ideal S2048 .f32) (Gt : FVec Ideal S2x2048 .f32)
    (h0 : H = aH m c) (h1 : G = aG m c) (h2 : Sh = aSh m c) (h3 : Sc = aSc m c) (h4 : U = aU m c) (h5 : D = aD m c) (h6 : Go = aGo m c) (h7 : Gt = aGt m c) :
    Cert.MlpReferenceIdeal.Read.val_main_v60 (F := Ideal) H G Sh Sc U D Go Gt = (Value.G8 m c : FVec Ideal S8448x2048 .f32) := by
  subst h0 h1 h2 h3 h4 h5 h6 h7
  funext y
  obtain ⟨R, l, rfl⟩ : ∃ (R : Fin 8448) (l : Fin 2048), y = ix2 R l := ⟨y 0, y 1, by funext a; fin_cases a <;> rfl⟩
  exact (Cert.MlpReferenceIdeal.At.out_at _ _ _ _ _ _ _ _ R l).trans (result m c R l).symm

end Cert.MlpIdeal.Result

end
-- ==== Proof.InEven.Body.lean ====
module

public import proofs.«01_k».proof.Proof.Gen.InEvenIdeal.Value
public import proofs.«01_k».proof.Proof.Math.Mlp
public import proofs.«01_k».proof.Proof.Math.Tiles

@[expose] public section

set_option maxRecDepth 16384

noncomputable section

namespace Cert.InEvenIdeal.Body

open Cert.InEvenIdeal Cert.InEvenIdeal.Gen
open Idealize.ShloMosaic Idealize.ShloMosaic.TcCoe Idealize.SL.Sem

/-! # What one point of the attention's input projection leaves -/

variable (c : Dev nD) (i : grid0.Coords) (a2 : Memref sig .tc .vmem S1x2048 .f32) (h2 : a2.IsWhole) (a3 : Memref sig .tc .vmem S2112x2048 .f32) (h3 : a3.IsWhole)
  (a4 : Memref sig .tc .vmem S2x2048 .f32) (h4 : a4.IsWhole) (a5 : Memref sig .tc .vmem S2x2048 .f32) (h5 : a5.IsWhole)
  (a6 : Memref sig .tc .vmem S1x2048x512 .f32) (h6 : a6.IsWhole) (a7 : Memref sig .tc .vmem S2112x512 .f32) (h7 : a7.IsWhole)
  (a8 : Memref sig .tc .vmem S2112x2048 .bf16) (h8 : a8.IsWhole)
  (x0 : FVec Ideal S1x2048 .f32) (x1 : FVec Ideal S2112x2048 .f32) (x2 x3 : FVec Ideal S2x2048 .f32) (x4 : FVec Ideal S1x2048x512 .f32) (xs : FVec Ideal S2112x2048 .bf16)

/-- The product of a point. -/
theorem dot_at (a : FVec Ideal S2112x2048 .bf16) (w : FVec Ideal S1x2048x512 .f32) (r : Fin 2112) (f : Fin 512) :
    (k0_pay2 (F := Ideal) a w (ix2 r f) : EReal) = ∑ k : Fin 2048, a (ix2 r k) * w (ix3 0 k f) := by
  pointwise [k0_pay2]

theorem off1_eq (k : Fin k0_t1_loop.trips) : k0_off1 k = ![64 * k.val, 0] := by revert k; decide

/-- The rows a trip stores. -/
theorem pay_mod (a : Fin 4) (k : Fin k0_t1_loop.trips) (h : FVec Ideal S64x2048 .f32) (g s0 s1 b0 b1 : FVec Ideal S1x2048 .f32) (q : Fin 64) (l : Fin 2048) :
    (k0_pay1 (F := Ideal) (k0_pay4 (Scalar.muli (BitVec.ofNat 32 a.val) 2112#32) 0#32 1#32 k h g s0 s1) b1 (k0_pay5 (Scalar.muli (BitVec.ofNat 32 a.val) 2112#32) 0#32 1#32 k) (k0_pay6 b0) (ix2 q l) : EReal)
      = Mlp.modu (fun c => h (ix2 q c)) (fun c => g (ix2 0 c)) (fun c => if 2112 * a.val + 64 * k.val + q.val < 256 then s0 (ix2 0 c) else s1 (ix2 0 c))
          (fun c => if 2112 * a.val + 64 * k.val + q.val < 256 then b0 (ix2 0 c) else b1 (ix2 0 c)) l := by
  unfold Mlp.modu Mlp.rms
  pointwise [k0_pay1, k0_pay6, k0_pay5, k0_pay4, k0_pay3]
  have hk : k.val < 33 := k.isLt
  rw [Cert.Tiles.pick_word 2112 64 a.val k.val q.val (by omega), Cert.Tiles.pick_word 2112 64 a.val k.val q.val (by omega)]

theorem trip1 (v0 : BitVec 32) (q0 : k0_cond1 i = 1#1) (k : Fin k0_t1_loop.trips) :
    tripL_k0_t1 (F := Ideal) Variants.none c none i a2 h2 a3 h3 a4 h4 a5 h5 a6 h6 a7 h7 a8 h8 q0 v0 (h2.unread x0) (h3.unread x1) (h4.unread x2) (h5.unread x3) k
      = [⟨Rect.unit (s := S2112x2048) (k0_off1 k) S64x2048.size (k0_off1_inb i k q0),
          k0_pay1 (F := Ideal) (k0_pay4 v0 0#32 1#32 k (View.ld x1 (Rect.unit (s := S2112x2048) (k0_off1 k) S64x2048.size (k0_off1_inb i k q0))) (View.ld x0 (Rect.unit (s := S1x2048) ![0, 0] S1x2048.size inb_S1x2048_S1x2048_0_0))
              (View.ld x3 (Rect.unit (s := S2x2048) ![0, 0] S1x2048.size inb_S2x2048_S1x2048_0_0)) (View.ld x3 (Rect.unit (s := S2x2048) ![1, 0] S1x2048.size inb_S2x2048_S1x2048_1_0)))
            (View.ld x2 (Rect.unit (s := S2x2048) ![1, 0] S1x2048.size inb_S2x2048_S1x2048_1_0)) (k0_pay5 v0 0#32 1#32 k)
            (k0_pay6 (View.ld x2 (Rect.unit (s := S2x2048) ![0, 0] S1x2048.size inb_S2x2048_S1x2048_0_0)))⟩] := by
  unfold tripL_k0_t1 trip_k0_t1
  dsimp only
  sl_unfold_words
  simp only [View.readAt_eq_ld, h2.read_unread, h3.read_unread, h4.read_unread, h5.read_unread]

/-- Row `r` of a block of rows, normalized, scaled and shifted. -/
def row (a : Fin 4) (r : Fin 2112) : Fin 2048 → EReal :=
  Mlp.modu (fun k => x1 (ix2 r k)) (fun k => x0 (ix2 0 k)) (fun k => if 2112 * a.val + r.val < 256 then x3 (ix2 0 k) else x3 (ix2 1 k))
    (fun k => if 2112 * a.val + r.val < 256 then x2 (ix2 0 k) else x2 (ix2 1 k))

/-- The rows the loop has stored in the scratch. -/
theorem loop1 (a : Fin 4) (q0 : k0_cond1 i = 1#1) (r : Fin 2112) (l : Fin 2048) :
    (View.canon (pb_k0_t1 (F := Ideal) Variants.none c none i a2 h2 a3 h3 a4 h4 a5 h5 a6 h6 a7 h7 a8 h8 q0
        (Scalar.muli (BitVec.ofNat 32 a.val) 2112#32) (h2.unread x0) (h3.unread x1) (h4.unread x2) (h5.unread x3) k0_t1_loop.trips) (ix2 r l) : EReal)
      = row x0 x1 x2 x3 a r l := by
  refine (Cert.Tiles.rows_loop (R := 2112) (m := 64) (C := 2048) (e := .bf16) k0_t1_loop.trips
    (fun n => pb_k0_t1 (F := Ideal) Variants.none c none i a2 h2 a3 h3 a4 h4 a5 h5 a6 h6 a7 h7 a8 h8 q0
        (Scalar.muli (BitVec.ofNat 32 a.val) 2112#32) (h2.unread x0) (h3.unread x1) (h4.unread x2) (h5.unread x3) n)
    (row x0 x1 x2 x3 a) (fun r l => View.canon (Val := Elt Ideal) (e := .bf16) [] (ix2 r l)) (fun _ _ => rfl) (fun n hn => ?_) k0_t1_loop.trips le_rfl r l).trans
    (if_pos (by show r.val < 64 * 33; omega))
  have e := pb_k0_t1_succ (F := Ideal) Variants.none c none i a2 h2 a3 h3 a4 h4 a5 h5 a6 h6 a7 h7 a8 h8 q0
        (Scalar.muli (BitVec.ofNat 32 a.val) 2112#32) (h2.unread x0) (h3.unread x1) (h4.unread x2) (h5.unread x3) ⟨n, hn⟩
  rw [trip1, List.singleton_append] at e
  refine ⟨k0_off1 ⟨n, hn⟩, k0_off1_inb i ⟨n, hn⟩ q0, _, off1_eq ⟨n, hn⟩, e, fun q r l hr _ => ?_⟩
  refine (pay_mod a ⟨n, hn⟩ _ _ _ _ _ _ q l).trans ?_
  refine Mlp.modu_congr l (fun k => Cert.Tiles.ld_rows (m := 64) (C := 2048) (e := .f32) n _ (off1_eq ⟨n, hn⟩) _ x1 q r hr k)
    (fun k => congrFun (Cert.Tiles.whole_row _ x0) _) (fun k => ?_) fun k => ?_
  · rw [hr, ← Nat.add_assoc]
    exact if_congr Iff.rfl (Cert.Tiles.ld_row 0 _ x3 k) (Cert.Tiles.ld_row 1 _ x3 k)
  · rw [hr, ← Nat.add_assoc]
    exact if_congr Iff.rfl (Cert.Tiles.ld_row 0 _ x2 k) (Cert.Tiles.ld_row 1 _ x2 k)

/-- The scratch after the first point of a block of rows. -/
theorem sout_A (q0 : cond0_0 i) (r : Fin 2112) (l : Fin 2048) :
    (sout0_A_0 (F := Ideal) c i a2 h2 a3 h3 a4 h4 a5 h5 a6 h6 a7 h7 a8 h8 q0 x0 x1 x2 x3 x4 (ix2 r l) : EReal) = row x0 x1 x2 x3 (i 0) r l := by
  frame_out
  exact loop1 c i a2 h2 a3 h3 a4 h4 a5 h5 a6 h6 a7 h7 a8 h8 x0 x1 x2 x3 (i 0) q0 r l

/-- The product at the first point of a block of rows: of the rows it has just stored. -/
theorem out_A (q0 : cond0_0 i) (r : Fin 2112) (f : Fin 512) :
    (out0_A_5 (F := Ideal) c i a2 h2 a3 h3 a4 h4 a5 h5 a6 h6 a7 h7 a8 h8 q0 x0 x1 x2 x3 x4 (ix2 r f) : EReal)
      = ∑ k : Fin 2048, row x0 x1 x2 x3 (i 0) r k * x4 (ix3 0 k f) := by
  frame_out
  refine (dot_at _ x4 r f).trans (Finset.sum_congr rfl fun k _ => congrArg (· * _) ?_)
  refine Eq.trans ?_ (loop1 c i a2 h2 a3 h3 a4 h4 a5 h5 a6 h6 a7 h7 a8 h8 x0 x1 x2 x3 (i 0) q0 r k)
  exact congrFun ((View.readCov_eq_canon' a8.view _ _).trans
    (View.ld_unit_lit (Val := Elt Ideal) (S := S2112x2048) (e := .bf16) (off := ![0, 0]) inb_S2112x2048_S2112x2048_0_0 _ (by decide))) (ix2 r k)

/-- The product at the other points: of the rows the first point stored. -/
theorem out_B (q0 : ¬cond0_0 i) (r : Fin 2112) (f : Fin 512) :
    (out0_B_5 (F := Ideal) c i a2 h2 a3 h3 a4 h4 a5 h5 a6 h6 a7 h7 a8 h8 q0 x0 x1 x2 x3 x4 xs (ix2 r f) : EReal)
      = ∑ k : Fin 2048, xs (ix2 r k) * x4 (ix3 0 k f) := by
  frame_out
  exact dot_at xs x4 r f

end Cert.InEvenIdeal.Body

end
-- ==== Proof.InEven.Ref.lean ====
module

public import proofs.«01_k».proof.Proof.Gen.InEvenReferenceIdeal
public import proofs.«01_k».proof.Proof.Gen.InEvenReferenceIdeal.Read
public import proofs.«01_k».proof.Proof.Math.Mlp
public import Idealize.ShloMosaic.Lib.Pointwise
public import Idealize.ShloMosaic.Lib.Pipeline.ValueKit

@[expose] public section

set_option maxRecDepth 16384

noncomputable section

namespace Cert.InEvenReferenceIdeal.At

open Cert.InEvenReferenceIdeal Cert.InEvenReferenceIdeal.Gen Cert.InEvenReferenceIdeal.Read
open Idealize.ShloMosaic Idealize.SL.Sem

/-! # The reference of the attention's input projection, element by element -/

variable (H : FVec Ideal S8448x2048 .f32) (g : FVec Ideal S2048 .f32) (sh sc : FVec Ideal S2x2048 .f32) (W : FVec Ideal S2x2048x4096 .f32)

/-- The row of a modulation that a row of the array takes. -/
abbrev pick (t : FVec Ideal S2x2048 .f32) (r : Fin 8448) (c : Fin 2048) : EReal := if r.val < 256 then t (ix2 0 c) else t (ix2 1 c)

/-- The scale of an element. -/
theorem scale_at (r : Fin 8448) (c : Fin 2048) : (val_main_v19 (F := Ideal) sc (ix2 r c) : EReal) = pick sc r c := by
  pointwise [val_main_v19, val_main_v18, val_main_v17, val_main_v16, val_main_v15, val_main_v14, val_main_v13]
  rfl

/-- The shift is read as the scale is. -/
theorem shift_at (r : Fin 8448) (c : Fin 2048) : (val_main_v29 (F := Ideal) sh (ix2 r c) : EReal) = pick sh r c := scale_at sh r c

/-- The normalized, modulated row. -/
theorem mod_at (r : Fin 8448) (c : Fin 2048) :
    (val_main_v30 (F := Ideal) H g sh sc (ix2 r c) : EReal)
      = Mlp.modu (fun c => H (ix2 r c)) (fun c => g (ix1 c)) (pick sc r) (pick sh r) c := by
  pointwise [val_main_v30, val_main_v22, val_main_v21, val_main_v20, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rw [scale_at, shift_at]
  rfl

/-- The result. -/
theorem out_at (r : Fin 8448) (n : Fin 4096) :
    (val_main_v33 (F := Ideal) H g sh sc W (ix2 r n) : EReal)
      = ∑ k : Fin 2048, Mlp.modu (fun c => H (ix2 r c)) (fun c => g (ix1 c)) (pick sc r) (pick sh r) k * W (ix3 0 k n) := by
  have h := mod_at H g sh sc r
  pointwise [val_main_v33, val_main_v32, val_main_v31]
  simp only [h]

end Cert.InEvenReferenceIdeal.At

end
-- ==== Proof.InEven.Equal.lean ====
module

public import proofs.«01_k».proof.Proof.InEven.Body
public import proofs.«01_k».proof.Proof.InEven.Ref

@[expose] public section

set_option maxRecDepth 16384

noncomputable section

namespace Cert.InEvenIdeal.Result

open Cert.InEvenIdeal Cert.InEvenIdeal.Gen Cert.InEvenIdeal.Body
open Idealize.ShloMosaic Idealize.ShloMosaic.TcCoe Idealize.SL.Sem

variable (m : (ℓ : Loc nD τ sig) → Buf (Elt Ideal) ℓ) (c : Dev nD)

/-! ## The blocks of the arguments -/

theorem coords : ∀ t : Fin cfg0.N, (grid0.coords t 0).val = t.val / 8 :=
  (by decide +kernel : ∀ t : Fin grid0.N, (grid0.coords t 0).val = t.val / 8)

theorem idx0 : ∀ t : Fin cfg0.N, win0_0.index t = ![0, 0] ∧ win0_1.index t = ![t.val / 8, 0] ∧ win0_2.index t = ![0, 0] ∧ win0_3.index t = ![0, 0] :=
  (by decide +kernel : ∀ t : Fin grid0.N, _)

theorem idx4 : ∀ t : Fin cfg0.N, win0_4.index t = ![0, 0, t.val % 8] := (by decide +kernel : ∀ t : Fin grid0.N, _)

/-- The arguments as arrays of extended reals. -/
abbrev aH : FVec Ideal S8448x2048 .f32 := m ((c : Thread nD τ).loc main_arg0)
abbrev aG : FVec Ideal S2048 .f32 := m ((c : Thread nD τ).loc main_arg1)
abbrev aSh : FVec Ideal S2x2048 .f32 := m ((c : Thread nD τ).loc main_arg2)
abbrev aSc : FVec Ideal S2x2048 .f32 := m ((c : Thread nD τ).loc main_arg3)
abbrev aW : FVec Ideal S2x2048x4096 .f32 := m ((c : Thread nD τ).loc main_arg4)

theorem v0_at (k : Fin 2048) : (V m c main_v0 : FVec Ideal S1x2048 .f32) (ix2 0 k) = aG m c (ix1 k) := by
  show (shapeCast S1x2048 (aG m c) shapeCasts_S2048_S1x2048 : FVec Ideal S1x2048 .f32) (ix2 0 k) = _
  pointwise

theorem g_at (t : Fin cfg0.N) (k : Fin 2048) : (iblk m c 0 t : FVec Ideal S1x2048 .f32) (ix2 0 k) = aG m c (ix1 k) := by
  refine Eq.trans ?_ (v0_at m c k)
  blk_point [iblk, idx0 t]

theorem h_at (t : Fin cfg0.N) (r : Fin 2112) (k : Fin 2048) (R : Fin 8448) (hR : R.val = 2112 * (t.val / 8) + r.val) :
    (iblk m c 1 t : FVec Ideal S2112x2048 .f32) (ix2 r k) = aH m c (ix2 R k) := by
  blk_point [iblk, V, idx0 t]

theorem sh_at (t : Fin cfg0.N) (b : Fin 2) (k : Fin 2048) : (iblk m c 2 t : FVec Ideal S2x2048 .f32) (ix2 b k) = aSh m c (ix2 b k) := by
  blk_point [iblk, V, idx0 t]

theorem sc_at (t : Fin cfg0.N) (b : Fin 2) (k : Fin 2048) : (iblk m c 3 t : FVec Ideal S2x2048 .f32) (ix2 b k) = aSc m c (ix2 b k) := by
  blk_point [iblk, V, idx0 t]

theorem w_at (t : Fin cfg0.N) (k : Fin 2048) (f : Fin 512) (n : Fin 4096) (hn : n.val = 512 * (t.val % 8) + f.val) :
    (iblk m c 4 t : FVec Ideal S1x2048x512 .f32) (ix3 0 k f) = aW m c (ix3 0 k n) := by
  blk_point [iblk, V, idx4 t]

/-! ## What the points of one block of rows leave -/

/-- A row's parameters: the first row of the table for the first 256 rows, the second after. -/
abbrev pick (t : FVec Ideal S2x2048 .f32) (r : Fin 8448) (k : Fin 2048) : EReal := if r.val < 256 then t (ix2 0 k) else t (ix2 1 k)

/-- Row `R` of the array normalized, scaled and shifted. -/
def full (R : Fin 8448) : Fin 2048 → EReal :=
  Mlp.modu (fun k => aH m c (ix2 R k)) (fun k => aG m c (ix1 k)) (pick (aSc m c) R) (pick (aSh m c) R)

/-- Element `n` of row `R` of the product. -/
def prod (R : Fin 8448) (n : Fin 4096) : EReal := ∑ k : Fin 2048, full m c R k * aW m c (ix3 0 k n)

/-- A row of the block of a point is a row of the array. -/
theorem row_at (t : Fin cfg0.N) (r : Fin 2112) (R : Fin 8448) (hR : R.val = 2112 * (t.val / 8) + r.val) (k : Fin 2048) :
    row (iblk m c 0 t : FVec Ideal S1x2048 .f32) (iblk m c 1 t : FVec Ideal S2112x2048 .f32) (iblk m c 2 t : FVec Ideal S2x2048 .f32)
      (iblk m c 3 t : FVec Ideal S2x2048 .f32) (grid0.coords t 0) r k = full m c R k := by
  unfold row full
  rw [coords, ← hR]
  refine Mlp.modu_congr k (fun k => h_at m c t r k R hR) (fun k => g_at m c t k) (fun k => ?_) fun k => ?_
  · rw [sc_at, sc_at]
  · rw [sh_at, sh_at]

/-- A block of the product: rows `a` by the point's columns of the weights. -/
theorem dot_full (t : Fin cfg0.N) (a : Fin 2048 → EReal) (R : Fin 8448) (ha : ∀ k, a k = full m c R k) (f : Fin 512) (n : Fin 4096) (hn : n.val = 512 * (t.val % 8) + f.val) :
    ∑ k : Fin 2048, a k * (iblk m c 4 t : FVec Ideal S1x2048x512 .f32) (ix3 0 k f) = prod m c R n :=
  Finset.sum_congr rfl fun k _ => congrArg₂ (· * ·) (ha k) (w_at m c t k f n hn)

/-- What point `j` of block `i` of the rows leaves: the block's rows, and its columns of the product. -/
theorem sweep (i j : ℕ) (hj : j < 8) (ht : 8 * i + j < cfg0.N) (r : Fin 2112) (R : Fin 8448) (hR : R.val = 2112 * i + r.val) :
    (∀ k, ((outsAt0 m c (8 * i + j) ht).2 (ix2 r k) : EReal) = full m c R k)
      ∧ ∀ (f : Fin 512) (n : Fin 4096), n.val = 512 * j + f.val → ((outsAt0 m c (8 * i + j) ht).1 (ix2 r f) : EReal) = prod m c R n := by
  induction j with
  | zero =>
    have e := outsAt0_A m c ⟨8 * i + 0, ht⟩ (by show (8 * i + 0) % 8 = 0; omega)
    have hr := row_at m c ⟨8 * i + 0, ht⟩ r R (by rw [hR]; show _ = 2112 * ((8 * i + 0) / 8) + _; omega)
    refine ⟨fun k => ?_, fun f n hn => ?_⟩
    · refine (congrFun (congrArg Prod.snd e) (ix2 r k)).trans ?_
      exact (sout_A ..).trans (hr k)
    · refine (congrFun (congrArg Prod.fst e) (ix2 r f)).trans ?_
      dsimp only
      rw [out_A]
      exact dot_full m c ⟨8 * i + 0, ht⟩ _ R hr f n (by rw [hn]; show _ = 512 * ((8 * i + 0) % 8) + _; omega)
  | succ j ih =>
    obtain ⟨ih2, -⟩ := ih (by omega) (by omega)
    have e := outsAt0_B m c ⟨8 * i + (j + 1), ht⟩ (by show ¬(8 * i + (j + 1)) % 8 = 0; omega)
    refine ⟨fun k => (congrFun (congrArg Prod.snd e) (ix2 r k)).trans (ih2 k), fun f n hn => ?_⟩
    refine (congrFun (congrArg Prod.fst e) (ix2 r f)).trans ?_
    dsimp only
    rw [out_B]
    exact dot_full m c ⟨8 * i + (j + 1), ht⟩ _ R (fun k => ih2 k) f n (by rw [hn]; show _ = 512 * ((8 * i + (j + 1)) % 8) + _; omega)

/-- What the result array ends holding. -/
theorem result (R : Fin 8448) (n : Fin 4096) : (Value.G5 m c (ix2 R n) : EReal) = prod m c R n := by
  have hN : cfg0.N = 32 := N_0
  have hp : Value.pt5Of (ix2 R n) = 8 * (R.val / 2112) + n.val / 512 := by
    show 8 * (R.val / 2112 - 0) + 1 * (n.val / 512 - 0) = _
    omega
  have ht : 8 * (R.val / 2112) + n.val / 512 < cfg0.N := by have := R.isLt; have := n.isLt; omega
  unfold Value.G5
  rw [dif_pos (by rw [hp]; exact ht)]
  have hl : Value.loc5Of (ix2 R n) = ix2 (⟨R.val % 2112, Nat.mod_lt _ (by decide)⟩ : Fin 2112) (⟨n.val % 512, Nat.mod_lt _ (by decide)⟩ : Fin 512) := by
    funext a
    fin_cases a <;> rfl
  rw [hl]
  refine Eq.trans ?_ ((sweep m c (R.val / 2112) (n.val / 512) (by have := n.isLt; omega) ht ⟨R.val % 2112, Nat.mod_lt _ (by decide)⟩ R
    (by show R.val = 2112 * (R.val / 2112) + R.val % 2112; omega)).2 ⟨n.val % 512, Nat.mod_lt _ (by decide)⟩ n (by show n.val = 512 * (n.val / 512) + n.val % 512; omega))
  rw [Value.outsAt0_sweep]
  exact congrFun (congrArg Prod.fst (Value.fold0_congr m c _ _ _ _ hp)) _

/-- The result array is the reference's, on the same arguments. -/
theorem equal (H : FVec Ideal S8448x2048 .f32) (G : FVec Ideal S2048 .f32) (Sh Sc : FVec Ideal S2x2048 .f32) (W : FVec Ideal S2x2048x4096 .f32)
    (h0 : H = aH m c) (h1 : G = aG m c) (h2 : Sh = aSh m c) (h3 : Sc = aSc m c) (h4 : W = aW m c) :
    Cert.InEvenReferenceIdeal.Read.val_main_v33 (F := Ideal) H G Sh Sc W = (Value.G5 m c : FVec Ideal S8448x4096 .f32) := by
  subst h0 h1 h2 h3 h4
  funext y
  obtain ⟨R, l, rfl⟩ : ∃ (R : Fin 8448) (l : Fin 4096), y = ix2 R l := ⟨y 0, y 1, by funext a; fin_cases a <;> rfl⟩
  exact (Cert.InEvenReferenceIdeal.At.out_at _ _ _ _ _ R l).trans (result m c R l).symm

end Cert.InEvenIdeal.Result

end
-- ==== Proof.OutOdd.Body.lean ====
module

public import proofs.«01_k».proof.Proof.Gen.OutOddIdeal.Value
public import proofs.«01_k».proof.Proof.Math.Mlp
public import proofs.«01_k».proof.Proof.Math.Tiles

@[expose] public section

set_option maxRecDepth 16384

noncomputable section

namespace Cert.OutOddIdeal.Body

open Cert.OutOddIdeal Cert.OutOddIdeal.Gen
open Idealize.ShloMosaic Idealize.ShloMosaic.TcCoe Idealize.SL.Sem

/-! # What one point of the output projection leaves -/

variable (c : Dev nD) (i : grid0.Coords) (a2 : Memref sig .tc .vmem S1056x512 .bf16) (h2 : a2.IsWhole) (a3 : Memref sig .tc .vmem S1x512x2048 .f32) (h3 : a3.IsWhole)
  (a4 : Memref sig .tc .vmem S1056x2048 .f32) (h4 : a4.IsWhole) (a5 : Memref sig .tc .vmem S1x2048 .f32) (h5 : a5.IsWhole)
  (a6 : Memref sig .tc .vmem S2x2048 .f32) (h6 : a6.IsWhole) (a7 : Memref sig .tc .vmem S1056x2048 .f32) (h7 : a7.IsWhole)
  (x0 : FVec Ideal S1056x512 .bf16) (x1 : FVec Ideal S1x512x2048 .f32) (x2 : FVec Ideal S1056x2048 .f32) (x3 : FVec Ideal S1x2048 .f32)
  (x4 : FVec Ideal S2x2048 .f32) (xo : FVec Ideal S1056x2048 .f32)

/-- Row `r`, column `l` of what a point adds to the sum. -/
def step (a : FVec Ideal S1056x512 .bf16) (d : FVec Ideal S1x512x2048 .f32) (r : Fin 1056) (l : Fin 2048) : EReal :=
  ∑ f : Fin 512, a (ix2 r f) * d (ix3 0 f l)

/-- One strip of columns of the sum, with the point's product added. -/
theorem acc_at (a : FVec Ideal S1056x512 .bf16) (v : FVec Ideal S1056x512 .f32) (d : FVec Ideal S1x512x512 .f32) (r : Fin 1056) (q : Fin 512) :
    (k0_pay1 (F := Ideal) a v d (ix2 r q) : EReal) = v (ix2 r q) + ∑ f : Fin 512, a (ix2 r f) * d (ix3 0 f q) := by
  pointwise [k0_pay1]

/-- The strip that starts at column `o`: when `v` holds its columns of `P`, the strip holds those of `P` plus the point's part. -/
theorem strip_at (v : FVec Ideal S1056x512 .f32) (P : Fin 1056 → Fin 2048 → EReal) (o : ℕ) (inb : ∀ a, (![0, 0, o] : Fin 3 → ℕ) a + S1x512x512.size a ≤ S1x512x2048.size a)
    (hv : ∀ (r : Fin 1056) (q : Fin 512) (l : Fin 2048), l.val = o + q.val → (v (ix2 r q) : EReal) = P r l) (r : Fin 1056) (q : Fin 512) (l : Fin 2048) (hl : l.val = o + q.val) :
    (k0_pay1 (F := Ideal) x0 v (View.ld x1 (Rect.unit (s := S1x512x2048) ![0, 0, o] S1x512x512.size inb)) (ix2 r q) : EReal) = P r l + step x0 x1 r l :=
  (acc_at x0 v _ r q).trans (congrArg₂ (· + ·) (hv r q l hl) (Finset.sum_congr rfl fun f _ => congrArg (_ * ·) (Cert.Tiles.ld_down o inb x1 f q l hl)))

theorem off1_eq (k : Fin k0_t1_loop.trips) : k0_off1 k = ![48 * k.val, 0] := by revert k; decide

theorem pay_res (a : Fin 8) (k : Fin k0_t1_loop.trips) (h y : FVec Ideal S48x2048 .f32) (g s0 s1 : FVec Ideal S1x2048 .f32) (q : Fin 48) (l : Fin 2048) :
    (k0_pay2 (F := Ideal) (BitVec.ofNat 32 a.val) k h s0 s1 y g (ix2 q l) : EReal)
      = Mlp.resid (fun c => h (ix2 q c)) (fun c => y (ix2 q c)) (fun c => g (ix2 0 c)) (fun c => if 1056 * a.val + 48 * k.val + q.val < 256 then s0 (ix2 0 c) else s1 (ix2 0 c)) l := by
  unfold Mlp.resid Mlp.rms
  pointwise [k0_pay2]
  have hk : k.val < 22 := k.isLt
  rw [Cert.Tiles.pick_word 1056 48 a.val k.val q.val (by omega)]

theorem trip1 (v0 : BitVec 32) (q0 : k0_cond2 i = 1#1) (k : Fin k0_t1_loop.trips) (L : List (View.Piece (Elt Ideal) S1056x2048 .f32)) :
    tripL_k0_t1 (F := Ideal) Variants.none c none i a2 h2 a3 h3 a4 h4 a5 h5 a6 h6 a7 h7 v0 q0 (h4.unread x2) (h5.unread x3)
        (h6.unread x4) k (a7.view.writes (Elt Ideal) a7.view.junk L)
      = [⟨Rect.unit (s := S1056x2048) (k0_off1 k) S48x2048.size (k0_off1_inb i k q0),
          k0_pay2 (F := Ideal) v0 k (View.ld x2 (Rect.unit (s := S1056x2048) (k0_off1 k) S48x2048.size (k0_off1_inb i k q0)))
            (View.ld x4 (Rect.unit (s := S2x2048) ![0, 0] S1x2048.size inb_S2x2048_S1x2048_0_0)) (View.ld x4 (Rect.unit (s := S2x2048) ![1, 0] S1x2048.size inb_S2x2048_S1x2048_1_0))
            (View.ld (View.canon L) (Rect.unit (s := S1056x2048) (k0_off1 k) S48x2048.size (k0_off1_inb i k q0))) x3⟩] := by
  unfold tripL_k0_t1 trip_k0_t1
  dsimp only
  simp only [View.readAt_eq_ld, h4.read_unread, h5.read_unread, h6.read_unread, View.read_writes_junk_eq_canon]
  refine congrArg (fun z => [(⟨_, z⟩ : View.Piece (Elt Ideal) S1056x2048 .f32)]) ?_
  exact congrArg (fun z => k0_pay2 (F := Ideal) v0 k _ _ _ _ z) (Cert.Tiles.whole_row _ x3)

/-- The output while the last loop runs over it: the trips before `n` have turned their rows of the sum into the
    result's, the others hold the sum. -/
theorem loop1 (a : Fin 8) (q0 : k0_cond2 i = 1#1) (L : List (View.Piece (Elt Ideal) S1056x2048 .f32)) (n : ℕ) (hn : n ≤ k0_t1_loop.trips) (r : Fin 1056) (l : Fin 2048) :
    (View.canon (pb_k0_t1 (F := Ideal) Variants.none c none i a2 h2 a3 h3 a4 h4 a5 h5 a6 h6 a7 h7
        (BitVec.ofNat 32 a.val) q0 (h4.unread x2) (h5.unread x3) (h6.unread x4) (a7.view.writes (Elt Ideal) a7.view.junk L) n ++ L) (ix2 r l) : EReal)
      = if r.val < 48 * n then Mlp.resid (fun k => x2 (ix2 r k)) (fun k => View.canon L (ix2 r k)) (fun k => x3 (ix2 0 k))
            (fun k => if 1056 * a.val + r.val < 256 then x4 (ix2 0 k) else x4 (ix2 1 k)) l
        else View.canon L (ix2 r l) := by
  refine Cert.Tiles.rows_loop (R := 1056) (m := 48) (C := 2048) (e := .f32) k0_t1_loop.trips (fun n => pb_k0_t1 (F := Ideal) Variants.none c none i a2 h2 a3 h3 a4 h4 a5 h5 a6 h6 a7 h7
        (BitVec.ofNat 32 a.val) q0 (h4.unread x2) (h5.unread x3) (h6.unread x4) (a7.view.writes (Elt Ideal) a7.view.junk L) n ++ L)
    (fun r l => Mlp.resid (fun k => x2 (ix2 r k)) (fun k => View.canon L (ix2 r k)) (fun k => x3 (ix2 0 k))
            (fun k => if 1056 * a.val + r.val < 256 then x4 (ix2 0 k) else x4 (ix2 1 k)) l)
    (fun r l => View.canon L (ix2 r l)) (fun _ _ => rfl) (fun n hn => ?_) n hn r l
  have e := pb_k0_t1_succ (F := Ideal) Variants.none c none i a2 h2 a3 h3 a4 h4 a5 h5 a6 h6 a7 h7
        (BitVec.ofNat 32 a.val) q0 (h4.unread x2) (h5.unread x3) (h6.unread x4) (a7.view.writes (Elt Ideal) a7.view.junk L) ⟨n, hn⟩
  rw [← View.writes_append, trip1, List.singleton_append] at e
  refine ⟨k0_off1 ⟨n, hn⟩, k0_off1_inb i ⟨n, hn⟩ q0, _, off1_eq ⟨n, hn⟩, congrArg (· ++ L) e, fun q r l hr ih => ?_⟩
  refine (pay_res a ⟨n, hn⟩ _ _ _ _ _ q l).trans ?_
  refine Mlp.resid_congr l (fun k => Cert.Tiles.ld_rows (m := 48) (C := 2048) (e := .f32) n _ (off1_eq ⟨n, hn⟩) _ x2 q r hr k)
    (fun k => (Cert.Tiles.ld_rows (m := 48) (C := 2048) (e := .f32) n _ (off1_eq ⟨n, hn⟩) _ _ q r hr k).trans (ih k)) (fun _ => rfl) fun k => ?_
  rw [hr, ← Nat.add_assoc]
  exact if_congr Iff.rfl (Cert.Tiles.ld_row 0 _ x4 k) (Cert.Tiles.ld_row 1 _ x4 k)

/-- The four column tiles in which a point adds its part to the sum. -/
def accL : List (View.Piece (Elt Ideal) S1056x2048 .f32) :=
  [⟨Rect.unit (s := S1056x2048) ![0, 1536] S1056x512.size inb_S1056x2048_S1056x512_0_1536,
        k0_pay1 (F := Ideal) x0 (View.ld xo (Rect.unit (s := S1056x2048) ![0, 1536] S1056x512.size inb_S1056x2048_S1056x512_0_1536)) (View.ld x1 (Rect.unit (s := S1x512x2048) ![0, 0, 1536] S1x512x512.size inb_S1x512x2048_S1x512x512_0_0_1536))⟩,
    ⟨Rect.unit (s := S1056x2048) ![0, 1024] S1056x512.size inb_S1056x2048_S1056x512_0_1024,
        k0_pay6 (F := Ideal) x0 (View.ld xo (Rect.unit (s := S1056x2048) ![0, 1024] S1056x512.size inb_S1056x2048_S1056x512_0_1024)) (View.ld x1 (Rect.unit (s := S1x512x2048) ![0, 0, 1024] S1x512x512.size inb_S1x512x2048_S1x512x512_0_0_1024))⟩,
    ⟨Rect.unit (s := S1056x2048) ![0, 512] S1056x512.size inb_S1056x2048_S1056x512_0_512,
        k0_pay5 (F := Ideal) x0 (View.ld xo (Rect.unit (s := S1056x2048) ![0, 512] S1056x512.size inb_S1056x2048_S1056x512_0_512)) (View.ld x1 (Rect.unit (s := S1x512x2048) ![0, 0, 512] S1x512x512.size inb_S1x512x2048_S1x512x512_0_0_512))⟩,
    ⟨Rect.unit (s := S1056x2048) ![0, 0] S1056x512.size inb_S1056x2048_S1056x512_0_0,
        k0_pay4 (F := Ideal) x0 (View.ld xo (Rect.unit (s := S1056x2048) ![0, 0] S1056x512.size inb_S1056x2048_S1056x512_0_0)) (View.ld x1 (Rect.unit (s := S1x512x2048) ![0, 0, 0] S1x512x512.size inb_S1x512x2048_S1x512x512_0_0_0))⟩]

theorem canon_acc (r : Fin 1056) (l : Fin 2048) : (View.canon (accL x0 x1 xo) (ix2 r l) : EReal) = xo (ix2 r l) + step x0 x1 r l := by
  have h := fun o inb inb' => strip_at x0 x1 (View.ld (Val := Elt Ideal) (e' := .f32) xo (Rect.unit (s := S1056x2048) ![0, o] S1056x512.size inb)) (fun r l => xo (ix2 r l)) o inb' (Cert.Tiles.ld_cols o inb xo)
  exact Cert.Tiles.canon_strips _ _ _ _ (fun r l => xo (ix2 r l) + step x0 x1 r l) inb_S1056x2048_S1056x512_0_0 inb_S1056x2048_S1056x512_0_512 inb_S1056x2048_S1056x512_0_1024
    inb_S1056x2048_S1056x512_0_1536 (h 0 _ _) (h 512 _ _) (h 1024 _ _) (h 1536 _ _) [] r l

theorem out_B (q0 : ¬cond0_0 i) (q1 : ¬cond0_1 i) (r : Fin 1056) (l : Fin 2048) :
    (out0_B_5 (F := Ideal) c i a2 h2 a3 h3 a4 h4 a5 h5 a6 h6 a7 h7 q0 q1 x0 x1 x2 x3 x4 xo (ix2 r l) : EReal) = xo (ix2 r l) + step x0 x1 r l := by
  frame_out
  exact canon_acc x0 x1 xo r l

theorem out_C (q0 : ¬cond0_0 i) (q1 : cond0_1 i) (r : Fin 1056) (l : Fin 2048) :
    (out0_C_5 (F := Ideal) c i a2 h2 a3 h3 a4 h4 a5 h5 a6 h6 a7 h7 q0 q1 x0 x1 x2 x3 x4 xo (ix2 r l) : EReal)
      = Mlp.resid (fun k => x2 (ix2 r k)) (fun k => xo (ix2 r k) + step x0 x1 r k) (fun k => x3 (ix2 0 k))
          (fun k => if 1056 * (i 0).val + r.val < 256 then x4 (ix2 0 k) else x4 (ix2 1 k)) l := by
  frame_out
  refine (loop1 c i a2 h2 a3 h3 a4 h4 a5 h5 a6 h6 a7 h7 x2 x3 x4 (i 0) q1 (accL x0 x1 xo) k0_t1_loop.trips le_rfl r l).trans ?_
  rw [if_pos (by show r.val < 48 * 22; omega)]
  exact Mlp.resid_congr l (fun _ => rfl) (fun k => canon_acc x0 x1 xo r k) (fun _ => rfl) fun _ => rfl

theorem canon_zero (r : Fin 1056) (l : Fin 2048) :
    (View.canon [(⟨Rect.unit (s := S1056x2048) ![0, 0] S1056x2048.size inb_S1056x2048_S1056x2048_0_0, k0_pay3 (F := Ideal)⟩ : View.Piece (Elt Ideal) S1056x2048 .f32)] (ix2 r l) : EReal) = 0 := by
  rw [View.canon_unit_zero (funext fun a => by fin_cases a <;> rfl)]
  pointwise [k0_pay3]

theorem out_A (q0 : cond0_0 i) (q1 : ¬cond0_1 i) (r : Fin 1056) (l : Fin 2048) :
    (out0_A_5 (F := Ideal) c i a2 h2 a3 h3 a4 h4 a5 h5 a6 h6 a7 h7 q0 q1 x0 x1 x2 x3 x4 (ix2 r l) : EReal) = 0 + step x0 x1 r l := by
  frame_out
  have h0 : ∀ (r : Fin 1056) (l : Fin 2048), 0 ≤ l.val → _ = (0 : EReal) := fun r l _ => canon_zero r l
  have h1 := fun w => Cert.Tiles.skip_zero 0 inb_S1056x2048_S1056x512_0_0 w _ h0
  have h2 := fun w w' => Cert.Tiles.skip_zero 512 inb_S1056x2048_S1056x512_0_512 w' _ (h1 w)
  have h3 := fun w w' w'' => Cert.Tiles.skip_zero 1024 inb_S1056x2048_S1056x512_0_1024 w'' _ (h2 w w')
  exact Cert.Tiles.canon_strips _ _ _ _ (fun r l => 0 + step x0 x1 r l) inb_S1056x2048_S1056x512_0_0 inb_S1056x2048_S1056x512_0_512 inb_S1056x2048_S1056x512_0_1024
    inb_S1056x2048_S1056x512_0_1536 (strip_at x0 x1 _ (fun _ _ => 0) 0 _ (Cert.Tiles.read_zero _ 0 _ _ h0)) (strip_at x0 x1 _ (fun _ _ => 0) 512 _ (Cert.Tiles.read_zero _ 512 _ _ (h1 _)))
    (strip_at x0 x1 _ (fun _ _ => 0) 1024 _ (Cert.Tiles.read_zero _ 1024 _ _ (h2 _ _))) (strip_at x0 x1 _ (fun _ _ => 0) 1536 _ (Cert.Tiles.read_zero _ 1536 _ _ (h3 _ _ _))) [_] r l

end Cert.OutOddIdeal.Body

end
-- ==== Proof.OutOdd.Ref.lean ====
module

public import proofs.«01_k».proof.Proof.Gen.OutOddReferenceIdeal
public import proofs.«01_k».proof.Proof.Gen.OutOddReferenceIdeal.Read
public import proofs.«01_k».proof.Proof.Math.Mlp
public import Idealize.ShloMosaic.Lib.Pointwise
public import Idealize.ShloMosaic.Lib.Pipeline.ValueKit

@[expose] public section

set_option maxRecDepth 16384

noncomputable section

namespace Cert.OutOddReferenceIdeal.At

open Cert.OutOddReferenceIdeal Cert.OutOddReferenceIdeal.Gen Cert.OutOddReferenceIdeal.Read
open Idealize.ShloMosaic Idealize.SL.Sem

/-! # The reference of the output projection, element by element -/

variable (X : FVec Ideal S8448x4096 .bf16) (W : FVec Ideal S2x4096x2048 .f32) (H : FVec Ideal S8448x2048 .f32) (g : FVec Ideal S2048 .f32) (gt : FVec Ideal S2x2048 .f32)

/-- The row of the gates that a row of the array takes. -/
abbrev pick (t : FVec Ideal S2x2048 .f32) (r : Fin 8448) (c : Fin 2048) : EReal := if r.val < 256 then t (ix2 0 c) else t (ix2 1 c)

/-- The gate of an element. -/
theorem gate_at (r : Fin 8448) (c : Fin 2048) : (val_main_v6 (F := Ideal) gt (ix2 r c) : EReal) = pick gt r c := by
  pointwise [val_main_v6, val_main_v5, val_main_v4, val_main_v3, val_main_v2, val_main_v1, val_main_v0]
  rfl

/-- The product. -/
theorem dot_at (r : Fin 8448) (c : Fin 2048) :
    (val_main_v10 (F := Ideal) X W (ix2 r c) : EReal) = ∑ f : Fin 4096, X (ix2 r f) * W (ix3 0 f c) := by
  pointwise [val_main_v10, val_main_v9, val_main_v8, val_main_v7]

/-- The result. -/
theorem out_at (r : Fin 8448) (c : Fin 2048) :
    (val_main_v25 (F := Ideal) X W H g gt (ix2 r c) : EReal)
      = Mlp.resid (fun c => H (ix2 r c)) (fun c => ∑ f : Fin 4096, X (ix2 r f) * W (ix3 0 f c)) (fun c => g (ix1 c)) (pick gt r) c := by
  pointwise [val_main_v25, val_main_v24, val_main_v23, val_main_v22, val_main_v21, val_main_v20, val_main_v19, val_main_v18, val_main_v17, val_main_v16, val_main_v15, val_main_v14, val_main_v13, val_main_v12, val_main_v11, val_main_cst, val_main_cst_0, val_main_cst_1]
  simp only [gate_at, dot_at]
  rfl

end Cert.OutOddReferenceIdeal.At

end
-- ==== Proof.OutOdd.Equal.lean ====
module

public import proofs.«01_k».proof.Proof.OutOdd.Body
public import proofs.«01_k».proof.Proof.OutOdd.Ref

@[expose] public section

set_option maxRecDepth 16384

noncomputable section

namespace Cert.OutOddIdeal.Result

open Cert.OutOddIdeal Cert.OutOddIdeal.Gen Cert.OutOddIdeal.Body
open Idealize.ShloMosaic Idealize.ShloMosaic.TcCoe Idealize.SL.Sem

variable (m : (ℓ : Loc nD τ sig) → Buf (Elt Ideal) ℓ) (c : Dev nD)

/-! ## The blocks of the arguments -/

theorem coords : ∀ t : Fin cfg0.N, (grid0.coords t 0).val = t.val / 8 :=
  (by decide +kernel : ∀ t : Fin grid0.N, (grid0.coords t 0).val = t.val / 8)

theorem idx0 : ∀ t : Fin cfg0.N, win0_0.index t = ![t.val / 8, t.val % 8] ∧ win0_2.index t = ![t.val / 8, 0] ∧ win0_3.index t = ![0, 0] ∧ win0_4.index t = ![0, 0]
    ∧ win0_5.index t = ![t.val / 8, 0] :=
  (by decide +kernel : ∀ t : Fin grid0.N, _)

theorem idx1 : ∀ t : Fin cfg0.N, win0_1.index t = ![0, t.val % 8, 0] := (by decide +kernel : ∀ t : Fin grid0.N, _)

/-- A block of rows is written back at its last point. -/
theorem flush5 : ∀ t : Fin cfg0.N, (cfg0.win 5).flush t = true → t.val % 8 = 7 :=
  (by decide +kernel : ∀ t : Fin grid0.N, win0_5.flush t = true → t.val % 8 = 7)

/-- The arguments as arrays of extended reals. -/
abbrev aX : FVec Ideal S8448x4096 .bf16 := m ((c : Thread nD τ).loc main_arg0)
abbrev aW : FVec Ideal S2x4096x2048 .f32 := m ((c : Thread nD τ).loc main_arg1)
abbrev aH : FVec Ideal S8448x2048 .f32 := m ((c : Thread nD τ).loc main_arg2)
abbrev aG : FVec Ideal S2048 .f32 := m ((c : Thread nD τ).loc main_arg3)
abbrev aGt : FVec Ideal S2x2048 .f32 := m ((c : Thread nD τ).loc main_arg4)

theorem v0_at (k : Fin 2048) : (V m c main_v0 : FVec Ideal S1x2048 .f32) (ix2 0 k) = aG m c (ix1 k) := by
  show (shapeCast S1x2048 (aG m c) shapeCasts_S2048_S1x2048 : FVec Ideal S1x2048 .f32) (ix2 0 k) = _
  pointwise

theorem x_at (t : Fin cfg0.N) (r : Fin 1056) (f : Fin 512) (R : Fin 8448) (hR : R.val = 1056 * (t.val / 8) + r.val) (n : Fin 4096) (hn : n.val = 512 * (t.val % 8) + f.val) :
    (iblk m c 0 t : FVec Ideal S1056x512 .bf16) (ix2 r f) = aX m c (ix2 R n) := by
  blk_point [iblk, V, idx0 t]

theorem w_at (t : Fin cfg0.N) (k : Fin 2048) (f : Fin 512) (n : Fin 4096) (hn : n.val = 512 * (t.val % 8) + f.val) :
    (iblk m c 1 t : FVec Ideal S1x512x2048 .f32) (ix3 0 f k) = aW m c (ix3 0 n k) := by
  blk_point [iblk, V, idx1 t]

theorem h_at (t : Fin cfg0.N) (r : Fin 1056) (k : Fin 2048) (R : Fin 8448) (hR : R.val = 1056 * (t.val / 8) + r.val) :
    (iblk m c 2 t : FVec Ideal S1056x2048 .f32) (ix2 r k) = aH m c (ix2 R k) := by
  blk_point [iblk, V, idx0 t]

theorem g_at (t : Fin cfg0.N) (k : Fin 2048) : (iblk m c 3 t : FVec Ideal S1x2048 .f32) (ix2 0 k) = aG m c (ix1 k) := by
  refine Eq.trans ?_ (v0_at m c k)
  blk_point [iblk, idx0 t]

theorem gt_at (t : Fin cfg0.N) (b : Fin 2) (k : Fin 2048) : (iblk m c 4 t : FVec Ideal S2x2048 .f32) (ix2 b k) = aGt m c (ix2 b k) := by
  blk_point [iblk, V, idx0 t]

/-! ## What the points of one block of rows leave -/

/-- A row's gates: the first row of the table for the first 256 rows, the second after. -/
abbrev pick (t : FVec Ideal S2x2048 .f32) (r : Fin 8448) (k : Fin 2048) : EReal := if r.val < 256 then t (ix2 0 k) else t (ix2 1 k)

/-- Term `n` of element `l` of row `R` of the product. -/
def term (R : Fin 8448) (l : Fin 2048) (n : Fin 4096) : EReal := aX m c (ix2 R n) * aW m c (ix3 0 n l)

/-- The sum of the terms of block `j`. -/
def part (R : Fin 8448) (l : Fin 2048) (j : ℕ) : EReal :=
  ∑ q : Fin 512, if h : 512 * j + q.val < 4096 then term m c R l ⟨512 * j + q.val, h⟩ else 0

theorem step_at (t : Fin cfg0.N) (r : Fin 1056) (R : Fin 8448) (hR : R.val = 1056 * (t.val / 8) + r.val) (l : Fin 2048) :
    step (iblk m c 0 t : FVec Ideal S1056x512 .bf16) (iblk m c 1 t : FVec Ideal S1x512x2048 .f32) r l = part m c R l (t.val % 8) := by
  unfold step part
  refine Finset.sum_congr rfl fun f _ => ?_
  have hn : 512 * (t.val % 8) + f.val < 4096 := by omega
  rw [dif_pos hn]
  unfold term
  rw [x_at m c t r f R hR ⟨_, hn⟩ rfl, w_at m c t l f ⟨_, hn⟩ rfl]

/-- What the points up to `j` of block `i` of the rows leave: the sums of the blocks so far. -/
theorem sweep (i j : ℕ) (hj : j < 7) (ht : 8 * i + j < cfg0.N) (r : Fin 1056) (R : Fin 8448) (hR : R.val = 1056 * i + r.val) (l : Fin 2048) :
    (outsAt0 m c (8 * i + j) ht (ix2 r l) : EReal) = ∑ b ∈ Finset.range (j + 1), part m c R l b := by
  induction j with
  | zero =>
    have e := outsAt0_A m c ⟨8 * i + 0, ht⟩ (by show (8 * i + 0) % 8 = 0; omega) (by show ¬(8 * i + 0) % 8 = 7; omega)
    refine (congrFun e (ix2 r l)).trans ?_
    rw [out_A, zero_add, Finset.sum_range_one]
    refine (step_at m c ⟨8 * i + 0, ht⟩ r R (by rw [hR]; show _ = 1056 * ((8 * i + 0) / 8) + _; omega) l).trans ?_
    exact congrArg (part m c R l) (by show (8 * i + 0) % 8 = 0; omega)
  | succ j ih =>
    have e := outsAt0_B m c ⟨8 * i + (j + 1), ht⟩ (by show ¬(8 * i + (j + 1)) % 8 = 0; omega) (by show ¬(8 * i + (j + 1)) % 8 = 7; omega)
    refine (congrFun e (ix2 r l)).trans ?_
    rw [out_B, Finset.sum_range_succ]
    refine congrArg₂ (· + ·) (ih (by omega) (by omega)) ?_
    refine (step_at m c ⟨8 * i + (j + 1), ht⟩ r R (by rw [hR]; show _ = 1056 * ((8 * i + (j + 1)) / 8) + _; omega) l).trans ?_
    exact congrArg (part m c R l) (by show (8 * i + (j + 1)) % 8 = j + 1; omega)

/-- Row `R` of the result. -/
def res (R : Fin 8448) : Fin 2048 → EReal :=
  Mlp.resid (fun k => aH m c (ix2 R k)) (fun k => ∑ n, term m c R k n) (fun k => aG m c (ix1 k)) (pick (aGt m c) R)

/-- What the last point of a block of rows leaves. -/
theorem last (i : ℕ) (ht : 8 * i + 7 < cfg0.N) (r : Fin 1056) (R : Fin 8448) (hR : R.val = 1056 * i + r.val) (l : Fin 2048) :
    (outsAt0 m c (8 * i + 7) ht (ix2 r l) : EReal) = res m c R l := by
  have e := outsAt0_C m c ⟨8 * i + 7, ht⟩ (by show ¬(8 * i + 7) % 8 = 0; omega) (by show (8 * i + 7) % 8 = 7; omega)
  have hi : (8 * i + 7) / 8 = i := by omega
  have hR' : R.val = 1056 * ((8 * i + 7) / 8) + r.val := by rw [hR, hi]
  refine (congrFun e (ix2 r l)).trans ?_
  rw [out_C]
  have hc : 1056 * (grid0.coords (⟨8 * i + 7, ht⟩ : Fin cfg0.N) 0).val + r.val = R.val := by rw [coords]; exact hR'.symm
  rw [hc]
  refine Mlp.resid_congr l (fun k => h_at m c ⟨8 * i + 7, ht⟩ r k R hR') (fun k => ?_) (fun k => g_at m c _ k) fun k => ?_
  · rw [Cert.Tiles.sum_blocks 8 512 rfl, Finset.sum_range_succ]
    refine congrArg₂ (· + ·) (sweep m c i 6 (by omega) (by omega) r R hR k) ?_
    refine (step_at m c ⟨8 * i + 7, ht⟩ r R hR' k).trans ?_
    exact congrArg (part m c R k) (by show (8 * i + 7) % 8 = 7; omega)
  · rw [gt_at, gt_at]

/-- The result array holds any `G` whose rows are the rows of the result. -/
theorem final (G : FVec Ideal S8448x2048 .f32) (hG : ∀ R l, (G (ix2 R l) : EReal) = res m c R l) : (dats m 0 c).arrAt 5 cfg0.N = G := by
  refine (dats m 0 c).arrAt_eq_of_covers 5 G (by decide +kernel) fun t hf y => ?_
  have h7 := flush5 t hf
  have hN : cfg0.N = 64 := N_0
  obtain ⟨r, l, rfl⟩ : ∃ (r : Fin 1056) (l : Fin 2048), y = ix2 r l := ⟨y 0, y 1, by funext a; fin_cases a <;> rfl⟩
  have ht := t.isLt
  have hR : 1056 * (t.val / 8) + r.val < 8448 := by omega
  have e : (((cfg0.win 5).blk t).view.emb (ix2 r l) : S8448x2048.Idx) = ix2 ⟨1056 * (t.val / 8) + r.val, hR⟩ l := by blk_ext [idx0 t]
  refine Eq.trans ?_ (congrArg G e).symm
  refine Eq.trans ?_ (hG _ l).symm
  have h8 : t.val = 8 * (t.val / 8) + 7 := by omega
  blk_simp
  rw [after0_5]
  refine Eq.trans ?_ (last m c (t.val / 8) (by omega) r ⟨_, hR⟩ rfl l)
  have key : ∀ (n n' : ℕ) (hn : n < cfg0.N) (hn' : n' < cfg0.N), n = n' → outsAt0 m c n hn = outsAt0 m c n' hn' := fun n n' hn hn' e => by subst e; rfl
  exact congrFun (key _ _ _ _ h8) _

/-- The result array is the reference's, on the same arguments. -/
theorem equal (X : FVec Ideal S8448x4096 .bf16) (W : FVec Ideal S2x4096x2048 .f32) (H : FVec Ideal S8448x2048 .f32) (G : FVec Ideal S2048 .f32) (Gt : FVec Ideal S2x2048 .f32)
    (h0 : X = aX m c) (h1 : W = aW m c) (h2 : H = aH m c) (h3 : G = aG m c) (h4 : Gt = aGt m c) :
    Cert.OutOddReferenceIdeal.Read.val_main_v25 (F := Ideal) X W H G Gt = ((dats m 0 c).arrAt 5 cfg0.N : FVec Ideal S8448x2048 .f32) := by
  subst h0 h1 h2 h3 h4
  exact (final m c _ fun R l => Cert.OutOddReferenceIdeal.At.out_at _ _ _ _ _ R l).symm

end Cert.OutOddIdeal.Result

end
-- ==== Proof.OutEven.Body.lean ====
module

public import proofs.«01_k».proof.Proof.Gen.OutEvenIdeal.Value
public import proofs.«01_k».proof.Proof.OutOdd.Body

@[expose] public section

set_option maxRecDepth 16384

noncomputable section

namespace Cert.OutEvenIdeal.Body

open Cert.OutEvenIdeal Cert.OutEvenIdeal.Gen
open Idealize.ShloMosaic Idealize.ShloMosaic.TcCoe Idealize.SL.Sem
open Cert.OutOddIdeal.Body (step strip_at)

/-! # What one point of the output projection leaves, the mixer's output in two parts

The payloads are the ones of the projection with one part, applied to the part of the point, so its facts serve here. -/

variable (c : Dev nD) (i : grid0.Coords) (a2 : Memref sig .tc .vmem S1056x512 .bf16) (h2 : a2.IsWhole) (a3 : Memref sig .tc .vmem S1056x512 .bf16) (h3 : a3.IsWhole)
  (a4 : Memref sig .tc .vmem S1x512x2048 .f32) (h4 : a4.IsWhole) (a5 : Memref sig .tc .vmem S1056x2048 .f32) (h5 : a5.IsWhole)
  (a6 : Memref sig .tc .vmem S1x2048 .f32) (h6 : a6.IsWhole) (a7 : Memref sig .tc .vmem S2x2048 .f32) (h7 : a7.IsWhole) (a8 : Memref sig .tc .vmem S1056x2048 .f32) (h8 : a8.IsWhole)
  (x0 x1 : FVec Ideal S1056x512 .bf16) (x2 : FVec Ideal S1x512x2048 .f32) (x3 : FVec Ideal S1056x2048 .f32) (x4 : FVec Ideal S1x2048 .f32)
  (x5 : FVec Ideal S2x2048 .f32) (xo : FVec Ideal S1056x2048 .f32)

/-- The part a point reads: the first for its first two blocks, the second after. -/
theorem part_eq : k0_pay4 (F := Ideal) i x0 x1 = if (i 1).val < 2 then x0 else x1 := by
  have hi : (i 1).val < 4 := (i 1).isLt
  unfold k0_pay4
  rcases (by omega : (i 1).val = 0 ∨ (i 1).val = 1 ∨ (i 1).val = 2 ∨ (i 1).val = 3) with h | h | h | h <;> simp only [h] <;> rfl

theorem off1_eq (k : Fin k0_t1_loop.trips) : k0_off1 k = ![48 * k.val, 0] := by revert k; decide

theorem trip1 (v0 : BitVec 32) (q0 : k0_cond2 i = 1#1) (k : Fin k0_t1_loop.trips) (L : List (View.Piece (Elt Ideal) S1056x2048 .f32)) :
    tripL_k0_t1 (F := Ideal) Variants.none c none i a2 h2 a3 h3 a4 h4 a5 h5 a6 h6 a7 h7 a8 h8 v0 q0 (h5.unread x3) (h6.unread x4)
        (h7.unread x5) k (a8.view.writes (Elt Ideal) a8.view.junk L)
      = [⟨Rect.unit (s := S1056x2048) (k0_off1 k) S48x2048.size (k0_off1_inb i k q0),
          k0_pay3 (F := Ideal) v0 k (View.ld x3 (Rect.unit (s := S1056x2048) (k0_off1 k) S48x2048.size (k0_off1_inb i k q0)))
            (View.ld x5 (Rect.unit (s := S2x2048) ![0, 0] S1x2048.size inb_S2x2048_S1x2048_0_0)) (View.ld x5 (Rect.unit (s := S2x2048) ![1, 0] S1x2048.size inb_S2x2048_S1x2048_1_0))
            (View.ld (View.canon L) (Rect.unit (s := S1056x2048) (k0_off1 k) S48x2048.size (k0_off1_inb i k q0))) x4⟩] := by
  unfold tripL_k0_t1 trip_k0_t1
  dsimp only
  simp only [View.readAt_eq_ld, h5.read_unread, h6.read_unread, h7.read_unread, View.read_writes_junk_eq_canon]
  refine congrArg (fun z => [(⟨_, z⟩ : View.Piece (Elt Ideal) S1056x2048 .f32)]) ?_
  exact congrArg (fun z => k0_pay3 (F := Ideal) v0 k _ _ _ _ z) (Cert.Tiles.whole_row _ x4)

/-- The output while the last loop runs over it: the trips before `n` have turned their rows of the sum into the
    result's, the others hold the sum. -/
theorem loop1 (a : Fin 8) (q0 : k0_cond2 i = 1#1) (L : List (View.Piece (Elt Ideal) S1056x2048 .f32)) (n : ℕ) (hn : n ≤ k0_t1_loop.trips) (r : Fin 1056) (l : Fin 2048) :
    (View.canon (pb_k0_t1 (F := Ideal) Variants.none c none i a2 h2 a3 h3 a4 h4 a5 h5 a6 h6 a7 h7 a8 h8
        (BitVec.ofNat 32 a.val) q0 (h5.unread x3) (h6.unread x4) (h7.unread x5) (a8.view.writes (Elt Ideal) a8.view.junk L) n ++ L) (ix2 r l) : EReal)
      = if r.val < 48 * n then Mlp.resid (fun k => x3 (ix2 r k)) (fun k => View.canon L (ix2 r k)) (fun k => x4 (ix2 0 k))
            (fun k => if 1056 * a.val + r.val < 256 then x5 (ix2 0 k) else x5 (ix2 1 k)) l
        else View.canon L (ix2 r l) := by
  refine Cert.Tiles.rows_loop (R := 1056) (m := 48) (C := 2048) (e := .f32) k0_t1_loop.trips (fun n => pb_k0_t1 (F := Ideal) Variants.none c none i a2 h2 a3 h3 a4 h4 a5 h5 a6 h6 a7 h7 a8 h8
        (BitVec.ofNat 32 a.val) q0 (h5.unread x3) (h6.unread x4) (h7.unread x5) (a8.view.writes (Elt Ideal) a8.view.junk L) n ++ L)
    (fun r l => Mlp.resid (fun k => x3 (ix2 r k)) (fun k => View.canon L (ix2 r k)) (fun k => x4 (ix2 0 k))
            (fun k => if 1056 * a.val + r.val < 256 then x5 (ix2 0 k) else x5 (ix2 1 k)) l)
    (fun r l => View.canon L (ix2 r l)) (fun _ _ => rfl) (fun n hn => ?_) n hn r l
  have e := pb_k0_t1_succ (F := Ideal) Variants.none c none i a2 h2 a3 h3 a4 h4 a5 h5 a6 h6 a7 h7 a8 h8
        (BitVec.ofNat 32 a.val) q0 (h5.unread x3) (h6.unread x4) (h7.unread x5) (a8.view.writes (Elt Ideal) a8.view.junk L) ⟨n, hn⟩
  rw [← View.writes_append, trip1, List.singleton_append] at e
  refine ⟨k0_off1 ⟨n, hn⟩, k0_off1_inb i ⟨n, hn⟩ q0, _, off1_eq ⟨n, hn⟩, congrArg (· ++ L) e, fun q r l hr ih => ?_⟩
  refine (Cert.OutOddIdeal.Body.pay_res a ⟨n, hn⟩ _ _ _ _ _ q l).trans ?_
  refine Mlp.resid_congr l (fun k => Cert.Tiles.ld_rows (m := 48) (C := 2048) (e := .f32) n _ (off1_eq ⟨n, hn⟩) _ x3 q r hr k)
    (fun k => (Cert.Tiles.ld_rows (m := 48) (C := 2048) (e := .f32) n _ (off1_eq ⟨n, hn⟩) _ _ q r hr k).trans (ih k)) (fun _ => rfl) fun k => ?_
  rw [hr, ← Nat.add_assoc]
  exact if_congr Iff.rfl (Cert.Tiles.ld_row 0 _ x5 k) (Cert.Tiles.ld_row 1 _ x5 k)

/-- The four column tiles in which a point adds its part to the sum. -/
def accL : List (View.Piece (Elt Ideal) S1056x2048 .f32) :=
  [⟨Rect.unit (s := S1056x2048) ![0, 1536] S1056x512.size inb_S1056x2048_S1056x512_0_1536,
        k0_pay2 (F := Ideal) (k0_pay4 i x0 x1) (View.ld xo (Rect.unit (s := S1056x2048) ![0, 1536] S1056x512.size inb_S1056x2048_S1056x512_0_1536)) (View.ld x2 (Rect.unit (s := S1x512x2048) ![0, 0, 1536] S1x512x512.size inb_S1x512x2048_S1x512x512_0_0_1536))⟩,
    ⟨Rect.unit (s := S1056x2048) ![0, 1024] S1056x512.size inb_S1056x2048_S1056x512_0_1024,
        k0_pay1 (F := Ideal) (k0_pay4 i x0 x1) (k0_pay8 (View.ld xo (Rect.unit (s := S1056x2048) ![0, 1024] S1056x512.size inb_S1056x2048_S1056x512_0_1024))) (k0_pay9 (View.ld x2 (Rect.unit (s := S1x512x2048) ![0, 0, 1024] S1x512x512.size inb_S1x512x2048_S1x512x512_0_0_1024)))⟩,
    ⟨Rect.unit (s := S1056x2048) ![0, 512] S1056x512.size inb_S1056x2048_S1056x512_0_512,
        k0_pay7 (F := Ideal) i x0 x1 (View.ld xo (Rect.unit (s := S1056x2048) ![0, 512] S1056x512.size inb_S1056x2048_S1056x512_0_512)) (View.ld x2 (Rect.unit (s := S1x512x2048) ![0, 0, 512] S1x512x512.size inb_S1x512x2048_S1x512x512_0_0_512))⟩,
    ⟨Rect.unit (s := S1056x2048) ![0, 0] S1056x512.size inb_S1056x2048_S1056x512_0_0,
        k0_pay6 (F := Ideal) i x0 x1 (View.ld xo (Rect.unit (s := S1056x2048) ![0, 0] S1056x512.size inb_S1056x2048_S1056x512_0_0)) (View.ld x2 (Rect.unit (s := S1x512x2048) ![0, 0, 0] S1x512x512.size inb_S1x512x2048_S1x512x512_0_0_0))⟩]

theorem canon_acc (r : Fin 1056) (l : Fin 2048) : (View.canon (accL i x0 x1 x2 xo) (ix2 r l) : EReal) = xo (ix2 r l) + step (k0_pay4 (F := Ideal) i x0 x1) x2 r l := by
  have h := fun o inb inb' => strip_at (k0_pay4 (F := Ideal) i x0 x1) x2 (View.ld (Val := Elt Ideal) (e' := .f32) xo (Rect.unit (s := S1056x2048) ![0, o] S1056x512.size inb)) (fun r l => xo (ix2 r l)) o inb' (Cert.Tiles.ld_cols o inb xo)
  exact Cert.Tiles.canon_strips _ _ _ _ (fun r l => xo (ix2 r l) + step (k0_pay4 (F := Ideal) i x0 x1) x2 r l) inb_S1056x2048_S1056x512_0_0 inb_S1056x2048_S1056x512_0_512 inb_S1056x2048_S1056x512_0_1024
    inb_S1056x2048_S1056x512_0_1536 (h 0 _ _) (h 512 _ _) (h 1024 _ _) (h 1536 _ _) [] r l

theorem out_B (q0 : ¬cond0_0 i) (q1 : ¬cond0_1 i) (r : Fin 1056) (l : Fin 2048) :
    (out0_B_6 (F := Ideal) c i a2 h2 a3 h3 a4 h4 a5 h5 a6 h6 a7 h7 a8 h8 q0 q1 x0 x1 x2 x3 x4 x5 xo (ix2 r l) : EReal) = xo (ix2 r l) + step (k0_pay4 (F := Ideal) i x0 x1) x2 r l := by
  frame_out
  exact canon_acc i x0 x1 x2 xo r l

theorem out_C (q0 : ¬cond0_0 i) (q1 : cond0_1 i) (r : Fin 1056) (l : Fin 2048) :
    (out0_C_6 (F := Ideal) c i a2 h2 a3 h3 a4 h4 a5 h5 a6 h6 a7 h7 a8 h8 q0 q1 x0 x1 x2 x3 x4 x5 xo (ix2 r l) : EReal)
      = Mlp.resid (fun k => x3 (ix2 r k)) (fun k => xo (ix2 r k) + step (k0_pay4 (F := Ideal) i x0 x1) x2 r k) (fun k => x4 (ix2 0 k))
          (fun k => if 1056 * (i 0).val + r.val < 256 then x5 (ix2 0 k) else x5 (ix2 1 k)) l := by
  frame_out
  refine (loop1 c i a2 h2 a3 h3 a4 h4 a5 h5 a6 h6 a7 h7 a8 h8 x3 x4 x5 (i 0) q1 (accL i x0 x1 x2 xo) k0_t1_loop.trips le_rfl r l).trans ?_
  rw [if_pos (by show r.val < 48 * 22; omega)]
  exact Mlp.resid_congr l (fun _ => rfl) (fun k => canon_acc i x0 x1 x2 xo r k) (fun _ => rfl) fun _ => rfl

theorem out_A (q0 : cond0_0 i) (q1 : ¬cond0_1 i) (r : Fin 1056) (l : Fin 2048) :
    (out0_A_6 (F := Ideal) c i a2 h2 a3 h3 a4 h4 a5 h5 a6 h6 a7 h7 a8 h8 q0 q1 x0 x1 x2 x3 x4 x5 (ix2 r l) : EReal) = 0 + step (k0_pay4 (F := Ideal) i x0 x1) x2 r l := by
  frame_out
  have h0 : ∀ (r : Fin 1056) (l : Fin 2048), 0 ≤ l.val → _ = (0 : EReal) := fun r l _ => Cert.OutOddIdeal.Body.canon_zero r l
  have h1 := fun w => Cert.Tiles.skip_zero 0 inb_S1056x2048_S1056x512_0_0 w _ h0
  have h2 := fun w w' => Cert.Tiles.skip_zero 512 inb_S1056x2048_S1056x512_0_512 w' _ (h1 w)
  have h3 := fun w w' w'' => Cert.Tiles.skip_zero 1024 inb_S1056x2048_S1056x512_0_1024 w'' _ (h2 w w')
  exact Cert.Tiles.canon_strips _ _ _ _ (fun r l => 0 + step (k0_pay4 (F := Ideal) i x0 x1) x2 r l) inb_S1056x2048_S1056x512_0_0 inb_S1056x2048_S1056x512_0_512 inb_S1056x2048_S1056x512_0_1024
    inb_S1056x2048_S1056x512_0_1536 (strip_at (k0_pay4 (F := Ideal) i x0 x1) x2 _ (fun _ _ => 0) 0 _ (Cert.Tiles.read_zero _ 0 _ _ h0)) (strip_at (k0_pay4 (F := Ideal) i x0 x1) x2 _ (fun _ _ => 0) 512 _ (Cert.Tiles.read_zero _ 512 _ _ (h1 _)))
    (strip_at (k0_pay4 (F := Ideal) i x0 x1) x2 _ (fun _ _ => 0) 1024 _ (Cert.Tiles.read_zero _ 1024 _ _ (h2 _ _))) (strip_at (k0_pay4 (F := Ideal) i x0 x1) x2 _ (fun _ _ => 0) 1536 _ (Cert.Tiles.read_zero _ 1536 _ _ (h3 _ _ _))) [_] r l

end Cert.OutEvenIdeal.Body

end
-- ==== Proof.OutEven.Ref.lean ====
module

public import proofs.«01_k».proof.Proof.Gen.OutEvenReferenceIdeal
public import proofs.«01_k».proof.Proof.Gen.OutEvenReferenceIdeal.Read
public import proofs.«01_k».proof.Proof.OutOdd.Ref

@[expose] public section

set_option maxRecDepth 16384

noncomputable section

namespace Cert.OutEvenReferenceIdeal.At

open Cert.OutEvenReferenceIdeal Cert.OutEvenReferenceIdeal.Gen Cert.OutEvenReferenceIdeal.Read
open Idealize.ShloMosaic Idealize.SL.Sem
open Cert.OutOddReferenceIdeal.At (pick gate_at)

/-! # The reference of the output projection, the mixer's output in two parts, element by element -/

variable (X Y : FVec Ideal S8448x1024 .bf16) (W : FVec Ideal S2x2048x2048 .f32) (H : FVec Ideal S8448x2048 .f32) (g : FVec Ideal S2048 .f32) (gt : FVec Ideal S2x2048 .f32)

/-- The two parts side by side. -/
def both (r : Fin 8448) (n : Fin 2048) : EReal := if h : n.val < 1024 then X (ix2 r ⟨n.val, h⟩) else Y (ix2 r ⟨n.val - 1024, by omega⟩)

theorem both_at (r : Fin 8448) (n : Fin 2048) : (val_main_v8 (F := Ideal) X Y (ix2 r n) : EReal) = both X Y r n := by
  unfold both
  pointwise [val_main_v8, val_main_v7]

/-- The product. -/
theorem dot_at (r : Fin 8448) (c : Fin 2048) :
    (val_main_v11 (F := Ideal) X Y W (ix2 r c) : EReal) = ∑ f : Fin 2048, both X Y r f * W (ix3 0 f c) := by
  pointwise [val_main_v11, val_main_v10, val_main_v9]
  exact Finset.sum_congr rfl fun f _ => congrArg (· * _) (both_at X Y r f)

/-- The result. -/
theorem out_at (r : Fin 8448) (c : Fin 2048) :
    (val_main_v26 (F := Ideal) X Y W H g gt (ix2 r c) : EReal)
      = Mlp.resid (fun c => H (ix2 r c)) (fun c => ∑ f : Fin 2048, both X Y r f * W (ix3 0 f c)) (fun c => g (ix1 c)) (pick gt r) c := by
  have hg : ∀ r c, (val_main_v6 (F := Ideal) gt (ix2 r c) : EReal) = pick gt r c := gate_at gt
  pointwise [val_main_v26, val_main_v25, val_main_v24, val_main_v23, val_main_v22, val_main_v21, val_main_v20, val_main_v19, val_main_v18, val_main_v17, val_main_v16, val_main_v15, val_main_v14, val_main_v13, val_main_v12, val_main_cst, val_main_cst_0, val_main_cst_1]
  simp only [hg, dot_at]
  rfl

end Cert.OutEvenReferenceIdeal.At

end
-- ==== Proof.OutEven.Equal.lean ====
module

public import proofs.«01_k».proof.Proof.OutEven.Body
public import proofs.«01_k».proof.Proof.OutEven.Ref

@[expose] public section

set_option maxRecDepth 16384

noncomputable section

namespace Cert.OutEvenIdeal.Result

open Cert.OutEvenIdeal Cert.OutEvenIdeal.Gen Cert.OutEvenIdeal.Body
open Idealize.ShloMosaic Idealize.ShloMosaic.TcCoe Idealize.SL.Sem
open Cert.OutOddIdeal.Body (step)
open Cert.OutEvenReferenceIdeal.At (both)
open Cert.OutOddReferenceIdeal.At (pick)

variable (m : (ℓ : Loc nD τ sig) → Buf (Elt Ideal) ℓ) (c : Dev nD)

/-! ## The blocks of the arguments -/

theorem coords : ∀ t : Fin cfg0.N, (grid0.coords t 0).val = t.val / 4 ∧ (grid0.coords t 1).val = t.val % 4 :=
  (by decide +kernel : ∀ t : Fin grid0.N, (grid0.coords t 0).val = t.val / 4 ∧ (grid0.coords t 1).val = t.val % 4)

theorem idx0 : ∀ t : Fin cfg0.N, win0_0.index t = ![t.val / 4, min (t.val % 4) 1] ∧ win0_1.index t = ![t.val / 4, t.val % 4 - 2] ∧ win0_3.index t = ![t.val / 4, 0] ∧ win0_4.index t = ![0, 0]
    ∧ win0_5.index t = ![0, 0] ∧ win0_6.index t = ![t.val / 4, 0] :=
  (by decide +kernel : ∀ t : Fin grid0.N, _)

theorem idx2 : ∀ t : Fin cfg0.N, win0_2.index t = ![0, t.val % 4, 0] := (by decide +kernel : ∀ t : Fin grid0.N, _)

/-- A block of rows is written back at its last point. -/
theorem flush6 : ∀ t : Fin cfg0.N, (cfg0.win 6).flush t = true → t.val % 4 = 3 :=
  (by decide +kernel : ∀ t : Fin grid0.N, win0_6.flush t = true → t.val % 4 = 3)

/-- The arguments as arrays of extended reals. -/
abbrev aX : FVec Ideal S8448x1024 .bf16 := m ((c : Thread nD τ).loc main_arg0)
abbrev aY : FVec Ideal S8448x1024 .bf16 := m ((c : Thread nD τ).loc main_arg1)
abbrev aW : FVec Ideal S2x2048x2048 .f32 := m ((c : Thread nD τ).loc main_arg2)
abbrev aH : FVec Ideal S8448x2048 .f32 := m ((c : Thread nD τ).loc main_arg3)
abbrev aG : FVec Ideal S2048 .f32 := m ((c : Thread nD τ).loc main_arg4)
abbrev aGt : FVec Ideal S2x2048 .f32 := m ((c : Thread nD τ).loc main_arg5)

theorem v0_at (k : Fin 2048) : (V m c main_v0 : FVec Ideal S1x2048 .f32) (ix2 0 k) = aG m c (ix1 k) := by
  show (shapeCast S1x2048 (aG m c) shapeCasts_S2048_S1x2048 : FVec Ideal S1x2048 .f32) (ix2 0 k) = _
  pointwise

theorem x_at (t : Fin cfg0.N) (r : Fin 1056) (f : Fin 512) (R : Fin 8448) (hR : R.val = 1056 * (t.val / 4) + r.val) (n : Fin 1024) (hn : n.val = 512 * min (t.val % 4) 1 + f.val) :
    (iblk m c 0 t : FVec Ideal S1056x512 .bf16) (ix2 r f) = aX m c (ix2 R n) := by
  blk_point [iblk, V, idx0 t]

theorem y_at (t : Fin cfg0.N) (r : Fin 1056) (f : Fin 512) (R : Fin 8448) (hR : R.val = 1056 * (t.val / 4) + r.val) (n : Fin 1024) (hn : n.val = 512 * (t.val % 4 - 2) + f.val) :
    (iblk m c 1 t : FVec Ideal S1056x512 .bf16) (ix2 r f) = aY m c (ix2 R n) := by
  blk_point [iblk, V, idx0 t]

theorem w_at (t : Fin cfg0.N) (k : Fin 2048) (f : Fin 512) (n : Fin 2048) (hn : n.val = 512 * (t.val % 4) + f.val) :
    (iblk m c 2 t : FVec Ideal S1x512x2048 .f32) (ix3 0 f k) = aW m c (ix3 0 n k) := by
  blk_point [iblk, V, idx2 t]

theorem h_at (t : Fin cfg0.N) (r : Fin 1056) (k : Fin 2048) (R : Fin 8448) (hR : R.val = 1056 * (t.val / 4) + r.val) :
    (iblk m c 3 t : FVec Ideal S1056x2048 .f32) (ix2 r k) = aH m c (ix2 R k) := by
  blk_point [iblk, V, idx0 t]

theorem g_at (t : Fin cfg0.N) (k : Fin 2048) : (iblk m c 4 t : FVec Ideal S1x2048 .f32) (ix2 0 k) = aG m c (ix1 k) := by
  refine Eq.trans ?_ (v0_at m c k)
  blk_point [iblk, idx0 t]

theorem gt_at (t : Fin cfg0.N) (b : Fin 2) (k : Fin 2048) : (iblk m c 5 t : FVec Ideal S2x2048 .f32) (ix2 b k) = aGt m c (ix2 b k) := by
  blk_point [iblk, V, idx0 t]

/-- The block of the two parts side by side that a point reads. -/
theorem both_at (t : Fin cfg0.N) (r : Fin 1056) (f : Fin 512) (R : Fin 8448) (hR : R.val = 1056 * (t.val / 4) + r.val) (n : Fin 2048) (hn : n.val = 512 * (t.val % 4) + f.val) :
    (k0_pay4 (F := Ideal) (grid0.coords t) (iblk m c 0 t) (iblk m c 1 t) (ix2 r f) : EReal) = both (aX m c) (aY m c) R n := by
  rw [part_eq, (coords t).2]
  unfold both
  by_cases h : t.val % 4 < 2
  · rw [if_pos h, dif_pos (by omega)]
    exact x_at m c t r f R hR _ (by show n.val = _; omega)
  · rw [if_neg h, dif_neg (by omega)]
    exact y_at m c t r f R hR _ (by show n.val - 1024 = _; omega)

/-! ## What the points of one block of rows leave -/

/-- Term `n` of element `l` of row `R` of the product. -/
def term (R : Fin 8448) (l : Fin 2048) (n : Fin 2048) : EReal := both (aX m c) (aY m c) R n * aW m c (ix3 0 n l)

/-- The sum of the terms of block `j`. -/
def part (R : Fin 8448) (l : Fin 2048) (j : ℕ) : EReal :=
  ∑ q : Fin 512, if h : 512 * j + q.val < 2048 then term m c R l ⟨512 * j + q.val, h⟩ else 0

theorem step_at (t : Fin cfg0.N) (r : Fin 1056) (R : Fin 8448) (hR : R.val = 1056 * (t.val / 4) + r.val) (l : Fin 2048) (j : ℕ) (hj : t.val % 4 = j) :
    step (k0_pay4 (F := Ideal) (grid0.coords t) (iblk m c 0 t) (iblk m c 1 t)) (iblk m c 2 t : FVec Ideal S1x512x2048 .f32) r l = part m c R l j := by
  subst hj
  unfold step part
  refine Finset.sum_congr rfl fun f _ => ?_
  have hn : 512 * (t.val % 4) + f.val < 2048 := by omega
  rw [dif_pos hn]
  exact congrArg₂ (· * ·) (both_at m c t r f R hR ⟨_, hn⟩ rfl) (w_at m c t l f ⟨_, hn⟩ rfl)

/-- What the points up to `j` of block `i` of the rows leave: the sums of the blocks so far. -/
theorem sweep (i j : ℕ) (hj : j < 3) (ht : 4 * i + j < cfg0.N) (r : Fin 1056) (R : Fin 8448) (hR : R.val = 1056 * i + r.val) (l : Fin 2048) :
    (outsAt0 m c (4 * i + j) ht (ix2 r l) : EReal) = ∑ b ∈ Finset.range (j + 1), part m c R l b := by
  have hR' : R.val = 1056 * ((4 * i + j) / 4) + r.val := by omega
  have hs := step_at m c ⟨4 * i + j, ht⟩ r R hR' l j (by show (4 * i + j) % 4 = j; omega)
  induction j with
  | zero =>
    have e := outsAt0_A m c ⟨4 * i + 0, ht⟩ (by show (4 * i + 0) % 4 = 0; omega) (by show ¬(4 * i + 0) % 4 = 3; omega)
    refine (congrFun e (ix2 r l)).trans ?_
    rw [out_A, zero_add, Finset.sum_range_one]
    exact hs
  | succ j ih =>
    have e := outsAt0_B m c ⟨4 * i + (j + 1), ht⟩ (by show ¬(4 * i + (j + 1)) % 4 = 0; omega) (by show ¬(4 * i + (j + 1)) % 4 = 3; omega)
    refine (congrFun e (ix2 r l)).trans ?_
    rw [out_B, Finset.sum_range_succ]
    exact congrArg₂ (· + ·) (ih (by omega) (by omega) (by omega) (step_at m c _ r R (by show _ = 1056 * ((4 * i + j) / 4) + _; omega) l j (by show (4 * i + j) % 4 = j; omega))) hs

/-- Row `R` of the result. -/
def res (R : Fin 8448) : Fin 2048 → EReal :=
  Mlp.resid (fun k => aH m c (ix2 R k)) (fun k => ∑ n, term m c R k n) (fun k => aG m c (ix1 k)) (pick (aGt m c) R)

/-- What the last point of a block of rows leaves. -/
theorem last (i : ℕ) (ht : 4 * i + 3 < cfg0.N) (r : Fin 1056) (R : Fin 8448) (hR : R.val = 1056 * i + r.val) (l : Fin 2048) :
    (outsAt0 m c (4 * i + 3) ht (ix2 r l) : EReal) = res m c R l := by
  have e := outsAt0_C m c ⟨4 * i + 3, ht⟩ (by show ¬(4 * i + 3) % 4 = 0; omega) (by show (4 * i + 3) % 4 = 3; omega)
  have hR' : R.val = 1056 * ((4 * i + 3) / 4) + r.val := by omega
  refine (congrFun e (ix2 r l)).trans ?_
  rw [out_C]
  have hc : 1056 * (grid0.coords (⟨4 * i + 3, ht⟩ : Fin cfg0.N) 0).val + r.val = R.val := by rw [(coords _).1]; exact hR'.symm
  rw [hc]
  refine Mlp.resid_congr l (fun k => h_at m c ⟨4 * i + 3, ht⟩ r k R hR') (fun k => ?_) (fun k => g_at m c _ k) fun k => ?_
  · rw [Cert.Tiles.sum_blocks 4 512 rfl, Finset.sum_range_succ]
    exact congrArg₂ (· + ·) (sweep m c i 2 (by omega) (by omega) r R hR k) (step_at m c ⟨4 * i + 3, ht⟩ r R hR' k 3 (by show (4 * i + 3) % 4 = 3; omega))
  · rw [gt_at, gt_at]

/-- The result array holds any `G` whose rows are the rows of the result. -/
theorem final (G : FVec Ideal S8448x2048 .f32) (hG : ∀ R l, (G (ix2 R l) : EReal) = res m c R l) : (dats m 0 c).arrAt 6 cfg0.N = G := by
  refine (dats m 0 c).arrAt_eq_of_covers 6 G (by decide +kernel) fun t hf y => ?_
  have h3 := flush6 t hf
  have hN : cfg0.N = 32 := N_0
  obtain ⟨r, l, rfl⟩ : ∃ (r : Fin 1056) (l : Fin 2048), y = ix2 r l := ⟨y 0, y 1, by funext a; fin_cases a <;> rfl⟩
  have ht := t.isLt
  have hR : 1056 * (t.val / 4) + r.val < 8448 := by omega
  have e : (((cfg0.win 6).blk t).view.emb (ix2 r l) : S8448x2048.Idx) = ix2 ⟨1056 * (t.val / 4) + r.val, hR⟩ l := by blk_ext [idx0 t]
  refine Eq.trans ?_ (congrArg G e).symm
  refine Eq.trans ?_ (hG _ l).symm
  have h4 : t.val = 4 * (t.val / 4) + 3 := by omega
  blk_simp
  rw [after0_6]
  refine Eq.trans ?_ (last m c (t.val / 4) (by omega) r ⟨_, hR⟩ rfl l)
  have key : ∀ (n n' : ℕ) (hn : n < cfg0.N) (hn' : n' < cfg0.N), n = n' → outsAt0 m c n hn = outsAt0 m c n' hn' := fun n n' hn hn' e => by subst e; rfl
  exact congrFun (key _ _ _ _ h4) _

/-- The result array is the reference's, on the same arguments. -/
theorem equal (X Y : FVec Ideal S8448x1024 .bf16) (W : FVec Ideal S2x2048x2048 .f32) (H : FVec Ideal S8448x2048 .f32) (G : FVec Ideal S2048 .f32) (Gt : FVec Ideal S2x2048 .f32)
    (h0 : X = aX m c) (h1 : Y = aY m c) (h2 : W = aW m c) (h3 : H = aH m c) (h4 : G = aG m c) (h5 : Gt = aGt m c) :
    Cert.OutEvenReferenceIdeal.Read.val_main_v26 (F := Ideal) X Y W H G Gt = ((dats m 0 c).arrAt 6 cfg0.N : FVec Ideal S8448x2048 .f32) := by
  subst h0 h1 h2 h3 h4 h5
  exact (final m c _ fun R l => Cert.OutEvenReferenceIdeal.At.out_at _ _ _ _ _ _ R l).symm

end Cert.OutEvenIdeal.Result

end
-- ==== Proof.Glu.Body.lean ====
module

public import proofs.«01_k».proof.Proof.Gen.GluIdeal.Value
public import proofs.«01_k».proof.Proof.Math.Tiles

@[expose] public section

set_option maxRecDepth 16384

noncomputable section

namespace Cert.GluIdeal.Body

open Cert.GluIdeal Cert.GluIdeal.Gen
open Idealize.ShloMosaic Idealize.ShloMosaic.TcCoe Idealize.SL.Sem

/-! # What one point of the gated unit leaves -/

/-- The smooth rectifier, by the hyperbolic tangent. -/
def gelu (x : EReal) : EReal :=
  x * (Ideal.ofBits .f32 0x3F000000#32 * (1 + Ideal.tanh (Ideal.ofBits .f32 0x3F4C422A#32 * (x + Ideal.ofBits .f32 0x3D372713#32 * (x * (x * x))))))

/-- Element `l` of a row `y` of the unit: its rectifier by the gate its whole row opens. -/
def unit (y w : Fin 1024 → EReal) (b : EReal) (l : Fin 1024) : EReal :=
  gelu (y l) * Ideal.logistic ((∑ k, gelu (y k) * w k) + b)

theorem unit_congr {y y' w w' : Fin 1024 → EReal} {b b' : EReal} (l : Fin 1024) (h1 : ∀ k, y k = y' k) (h2 : ∀ k, w k = w' k) (h3 : b = b') :
    unit y w b l = unit y' w' b' l := by
  rw [funext h1, funext h2, h3]

/-- The block a point stores. -/
theorem pay_at (y : FVec Ideal S1056x1024 .f32) (w : FVec Ideal S1024x1024 .bf16) (b : FVec Ideal S1x1024 .f32) (r : Fin 1056) (l : Fin 1024) :
    (k0_pay1 (F := Ideal) y w b (ix2 r l) : EReal) = unit (fun k => y (ix2 r k)) (fun k => w (ix2 k l)) (b (ix2 0 l)) l := by
  unfold unit gelu
  pointwise [k0_pay1]

/-- What a point leaves. -/
theorem out_at (y : FVec Ideal S1056x1024 .f32) (w : FVec Ideal S1024x1024 .bf16) (b : FVec Ideal S1x1024 .f32) (r : Fin 1056) (l : Fin 1024) :
    (out0_3 (F := Ideal) y w b (ix2 r l) : EReal) = unit (fun k => y (ix2 r k)) (fun k => w (ix2 k l)) (b (ix2 0 l)) l := by
  frame_out
  exact pay_at y w b r l

end Cert.GluIdeal.Body

end
-- ==== Proof.Glu.Ref.lean ====
module

public import proofs.«01_k».proof.Proof.Gen.GluReferenceIdeal
public import proofs.«01_k».proof.Proof.Gen.GluReferenceIdeal.Read
public import proofs.«01_k».proof.Proof.Glu.Body

@[expose] public section

set_option maxRecDepth 16384

noncomputable section

namespace Cert.GluReferenceIdeal.At

open Cert.GluReferenceIdeal Cert.GluReferenceIdeal.Gen Cert.GluReferenceIdeal.Read
open Idealize.ShloMosaic Idealize.SL.Sem
open Cert.GluIdeal.Body (gelu unit)

/-! # The reference of the gated unit, element by element -/

variable (Y : FVec Ideal S8448x1024 .f32) (W : FVec Ideal S1024x1024 .f32) (B : FVec Ideal S1024 .f32)

/-- The rectifier. -/
theorem gelu_at (r : Fin 8448) (k : Fin 1024) : (val_main_v12 (F := Ideal) Y (ix2 r k) : EReal) = gelu (Y (ix2 r k)) := by
  unfold gelu
  rw [mul_comm (Y (ix2 r k) : EReal) (Y (ix2 r k) * Y (ix2 r k))]
  pointwise [val_main_v12, val_main_v11, val_main_v10, val_main_cst_2, val_main_v9, val_main_v8, val_main_cst_1, val_main_v7, val_main_v6, val_main_v5, val_main_cst_0, val_main_v4, val_main_v3, val_main_v2, val_main_cst, val_main_v1, val_main_v0]

/-- The result. -/
theorem out_at (r : Fin 8448) (l : Fin 1024) :
    (val_main_v24 (F := Ideal) Y W B (ix2 r l) : EReal) = unit (fun k => Y (ix2 r k)) (fun k => W (ix2 k l)) (B (ix1 l)) l := by
  unfold unit Ideal.logistic
  pointwise [val_main_v24, val_main_v23, val_main_v22, val_main_v21, val_main_cst_4, val_main_v20, val_main_v19, val_main_cst_3, val_main_v18, val_main_v17, val_main_v16, val_main_v15, val_main_v14, val_main_v13]
  simp only [gelu_at]

end Cert.GluReferenceIdeal.At

end
-- ==== Proof.Glu.Equal.lean ====
module

public import proofs.«01_k».proof.Proof.Glu.Ref

@[expose] public section

set_option maxRecDepth 16384

noncomputable section

namespace Cert.GluIdeal.Result

open Cert.GluIdeal Cert.GluIdeal.Gen Cert.GluIdeal.Body
open Idealize.ShloMosaic Idealize.ShloMosaic.TcCoe Idealize.SL.Sem

variable (m : (ℓ : Loc nD τ sig) → Buf (Elt Ideal) ℓ) (c : Dev nD)

/-! ## The blocks of the arguments -/

theorem idx0 : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The arguments as arrays of extended reals. -/
abbrev aY : FVec Ideal S8448x1024 .f32 := m ((c : Thread nD τ).loc main_arg0)
abbrev aW : FVec Ideal S1024x1024 .f32 := m ((c : Thread nD τ).loc main_arg1)
abbrev aB : FVec Ideal S1024 .f32 := m ((c : Thread nD τ).loc main_arg2)

theorem v0_at (k l : Fin 1024) : ((V m c main_v0 : FVec Ideal S1024x1024 .bf16) (ix2 k l) : EReal) = aW m c (ix2 k l) := rfl

theorem v1_at (l : Fin 1024) : (V m c main_v1 : FVec Ideal S1x1024 .f32) (ix2 0 l) = aB m c (ix1 l) := by
  show (shapeCast S1x1024 (aB m c) shapeCasts_S1024_S1x1024 : FVec Ideal S1x1024 .f32) (ix2 0 l) = _
  pointwise

theorem y_at (t : Fin cfg0.N) (r : Fin 1056) (k : Fin 1024) (R : Fin 8448) (hR : R.val = 1056 * t.val + r.val) :
    (iblk m c 0 t : FVec Ideal S1056x1024 .f32) (ix2 r k) = aY m c (ix2 R k) := by
  blk_point [iblk, V, idx0 t]

theorem w_at (t : Fin cfg0.N) (k l : Fin 1024) : ((iblk m c 1 t : FVec Ideal S1024x1024 .bf16) (ix2 k l) : EReal) = aW m c (ix2 k l) := by
  refine Eq.trans ?_ (v0_at m c k l)
  blk_point [iblk, idx0 t]

theorem b_at (t : Fin cfg0.N) (l : Fin 1024) : (iblk m c 2 t : FVec Ideal S1x1024 .f32) (ix2 0 l) = aB m c (ix1 l) := by
  refine Eq.trans ?_ (v1_at m c l)
  blk_point [iblk, idx0 t]

/-! ## The result -/

/-- Element `l` of row `R` of the result. -/
def res (R : Fin 8448) (l : Fin 1024) : EReal := unit (fun k => aY m c (ix2 R k)) (fun k => aW m c (ix2 k l)) (aB m c (ix1 l)) l

/-- The result array holds any `G` whose elements are the result's. -/
theorem final (G : FVec Ideal S8448x1024 .bf16) (hG : ∀ R l, (G (ix2 R l) : EReal) = res m c R l) : (dats m 0 c).arrAt 3 cfg0.N = G := by
  refine (dats m 0 c).arrAt_eq_of_covers 3 G (by decide +kernel) fun t hf y => ?_
  have hN : cfg0.N = 8 := N_0
  obtain ⟨r, l, rfl⟩ : ∃ (r : Fin 1056) (l : Fin 1024), y = ix2 r l := ⟨y 0, y 1, by funext a; fin_cases a <;> rfl⟩
  have ht : t.val < 8 := lt_of_lt_of_eq t.isLt hN
  have hR : 1056 * t.val + r.val < 8448 := by omega
  have e : (((cfg0.win 3).blk t).view.emb (ix2 r l) : S8448x1024.Idx) = ix2 ⟨1056 * t.val + r.val, hR⟩ l := by blk_ext [idx0 t]
  refine Eq.trans ?_ (congrArg G e).symm
  refine Eq.trans ?_ (hG _ l).symm
  blk_simp
  rw [after0_3]
  refine (out_at _ _ _ r l).trans ?_
  exact unit_congr l (fun k => y_at m c t r k _ rfl) (fun k => w_at m c t k l) (b_at m c t l)

/-- The result array is the reference's, on the same arguments. -/
theorem equal (Y : FVec Ideal S8448x1024 .f32) (W : FVec Ideal S1024x1024 .f32) (B : FVec Ideal S1024 .f32) (h0 : Y = aY m c) (h1 : W = aW m c) (h2 : B = aB m c) :
    Cert.GluReferenceIdeal.Read.val_main_v24 (F := Ideal) Y W B = ((dats m 0 c).arrAt 3 cfg0.N : FVec Ideal S8448x1024 .bf16) := by
  subst h0 h1 h2
  exact (final m c _ fun R l => Cert.GluReferenceIdeal.At.out_at _ _ _ R l).symm

end Cert.GluIdeal.Result

end
-- ==== Proof.Finish.Body.lean ====
module

public import proofs.«01_k».proof.Proof.Gen.FinishIdeal.Value
public import proofs.«01_k».proof.Proof.Math.Tiles

@[expose] public section

set_option maxRecDepth 16384

noncomputable section

namespace Cert.FinishIdeal.Body

open Cert.FinishIdeal Cert.FinishIdeal.Gen
open Idealize.ShloMosaic Idealize.ShloMosaic.TcCoe Idealize.SL.Sem

/-! # What one point of the end of the SSD mixer leaves -/

/-- An element of the gated sum: the input by its weight and the two directions, times the gate. -/
def gated (x d y0 y1 z : EReal) : EReal := (x * d + y0 + y1) * (z * Ideal.logistic z)

/-- Element `l` of the norm of a row, times its weight. -/
def normed (a w : Fin 4096 → EReal) (l : Fin 4096) : EReal :=
  a l * Ideal.rsqrt (Ideal.div (∑ k, a k * a k) (Ideal.ofBits .f32 0x45800000#32) + Ideal.ofBits .f32 0x358637BD#32) * w l

theorem normed_congr {a a' w w' : Fin 4096 → EReal} (l : Fin 4096) (h1 : ∀ k, a k = a' k) (h2 : ∀ k, w k = w' k) : normed a w l = normed a' w' l := by
  rw [funext h1, funext h2]

/-- The block a point stores. -/
theorem pay_at (z x : FVec Ideal S176x4096 .f32) (d : FVec Ideal S1x4096 .f32) (y0 y1 : FVec Ideal S1x176x4096 .f32) (w : FVec Ideal S1x4096 .f32) (r : Fin 176) (l : Fin 4096) :
    (k0_pay1 (F := Ideal) z x d y0 y1 w (ix2 r l) : EReal)
      = normed (fun k => gated (x (ix2 r k)) (d (ix2 0 k)) (y0 (ix3 0 r k)) (y1 (ix3 0 r k)) (z (ix2 r k))) (fun k => w (ix2 0 k)) l := by
  unfold normed gated
  pointwise [k0_pay1]

variable (c : Dev nD) (i : grid0.Coords) (a1 : Memref sig .tc .vmem S2x176x4096 .f32) (h1 : a1.IsWhole) (a2 : Memref sig .tc .vmem S176x4096 .f32) (h2 : a2.IsWhole)
  (a3 : Memref sig .tc .vmem S176x4096 .f32) (h3 : a3.IsWhole) (a4 : Memref sig .tc .vmem S1x4096 .f32) (h4 : a4.IsWhole)
  (a5 : Memref sig .tc .vmem S1x4096 .f32) (h5 : a5.IsWhole) (a6 : Memref sig .tc .vmem S176x4096 .bf16) (h6 : a6.IsWhole)
  (y : FVec Ideal S2x176x4096 .f32) (x z : FVec Ideal S176x4096 .f32) (d w : FVec Ideal S1x4096 .f32)

/-- A direction of the block. -/
theorem dir (b : Fin 2) (inb) (r : Fin 176) (k : Fin 4096) :
    View.ld (Val := Elt Ideal) (e' := .f32) y (Rect.unit (s := S2x176x4096) ![b.val, 0, 0] S1x176x4096.size inb) (ix3 0 r k) = y (ix3 b r k) := by
  refine congrArg y (funext fun a => Fin.ext ?_)
  fin_cases a
  · rfl
  · show 0 + 1 * r.val = _
    simp [ix3]
  · show 0 + 1 * k.val = _
    simp [ix3]

/-- What a point leaves. -/
theorem out_A (r : Fin 176) (l : Fin 4096) :
    (out0_A_5 (F := Ideal) c i a1 h1 a2 h2 a3 h3 a4 h4 a5 h5 a6 h6 y x z d w (ix2 r l) : EReal)
      = normed (fun k => gated (x (ix2 r k)) (d (ix2 0 k)) (y (ix3 0 r k)) (y (ix3 1 r k)) (z (ix2 r k))) (fun k => w (ix2 0 k)) l := by
  frame_out
  refine (pay_at _ _ _ _ _ _ r l).trans ?_
  refine normed_congr l (fun k => ?_) fun k => rfl
  exact congrArg₂ (gated _ _ · · _) (dir y 0 _ r k) (dir y 1 _ r k)

end Cert.FinishIdeal.Body

end
-- ==== Proof.Finish.Ref.lean ====
module

public import proofs.«01_k».proof.Proof.Gen.FinishReferenceIdeal
public import proofs.«01_k».proof.Proof.Gen.FinishReferenceIdeal.Read
public import proofs.«01_k».proof.Proof.Finish.Body

@[expose] public section

set_option maxRecDepth 16384

noncomputable section

namespace Cert.FinishReferenceIdeal.At

open Cert.FinishReferenceIdeal Cert.FinishReferenceIdeal.Gen Cert.FinishReferenceIdeal.Read
open Idealize.ShloMosaic Idealize.SL.Sem
open Cert.FinishIdeal.Body (gated normed)

/-! # The reference of the end of the SSD mixer, element by element -/

variable (Y : FVec Ideal S2x8448x4096 .f32) (X : FVec Ideal S8448x6144 .f32) (P : FVec Ideal S8448x10240 .f32) (D : FVec Ideal S64 .f32) (W : FVec Ideal S4096 .f32)

/-- The gated sum. -/
def sum (R : Fin 8448) (k : Fin 4096) : EReal :=
  gated (X (ix2 R ⟨k.val, by omega⟩)) (D (ix1 ⟨k.val / 64, by omega⟩)) (Y (ix3 0 R k)) (Y (ix3 1 R k)) (P (ix2 R ⟨k.val, by omega⟩))

theorem sum_at (R : Fin 8448) (k : Fin 4096) : (val_main_v15 (F := Ideal) Y X P D (ix2 R k) : EReal) = sum Y X P D R k := by
  unfold sum gated Ideal.logistic
  pointwise [val_main_v15, val_main_v14, val_main_call0_v5, val_main_call0_v4, val_main_call0_cst_0, val_main_call0_v3, val_main_call0_v2, val_main_call0_cst, val_main_call0_v1, val_main_call0_v0, val_main_v13, val_main_v12, val_main_v11, val_main_v10, val_main_v9, val_main_v8, val_main_v7, val_main_v6, val_main_v5, val_main_v4, val_main_v3, val_main_v2, val_main_v1, val_main_v0]

/-- The result. -/
theorem out_at (R : Fin 8448) (l : Fin 4096) :
    (val_main_v29 (F := Ideal) Y X P D W (ix2 R l) : EReal) = normed (sum Y X P D R) (fun k => W (ix1 k)) l := by
  unfold normed
  pointwise [val_main_v29, val_main_v28, val_main_v27, val_main_v26, val_main_v25, val_main_v24, val_main_v23, val_main_v22, val_main_v21, val_main_cst_1, val_main_v20, val_main_v19, val_main_cst_0, val_main_v18, val_main_v17, val_main_cst, val_main_v16]
  simp only [sum_at]

end Cert.FinishReferenceIdeal.At

end
-- ==== Proof.Finish.Equal.lean ====
module

public import proofs.«01_k».proof.Proof.Finish.Ref

@[expose] public section

set_option maxRecDepth 16384

noncomputable section

namespace Cert.FinishIdeal.Result

open Cert.FinishIdeal Cert.FinishIdeal.Gen Cert.FinishIdeal.Body
open Idealize.ShloMosaic Idealize.ShloMosaic.TcCoe Idealize.SL.Sem
open Cert.FinishReferenceIdeal.At (sum)

variable (m : (ℓ : Loc nD τ sig) → Buf (Elt Ideal) ℓ) (c : Dev nD)

/-! ## The blocks of the arguments -/

theorem idx0 : ∀ t : Fin cfg0.N, win0_0.index t = ![0, t.val, 0] ∧ win0_1.index t = ![t.val, 0] ∧ win0_2.index t = ![t.val, 0] ∧ win0_3.index t = ![0, 0]
    ∧ win0_4.index t = ![0, 0] ∧ win0_5.index t = ![t.val, 0] :=
  (by decide +kernel : ∀ t : Fin grid0.N, _)

/-- The arguments as arrays of extended reals. -/
abbrev aY : FVec Ideal S2x8448x4096 .f32 := m ((c : Thread nD τ).loc main_arg0)
abbrev aX : FVec Ideal S8448x6144 .f32 := m ((c : Thread nD τ).loc main_arg1)
abbrev aP : FVec Ideal S8448x10240 .f32 := m ((c : Thread nD τ).loc main_arg2)
abbrev aD : FVec Ideal S64 .f32 := m ((c : Thread nD τ).loc main_arg3)
abbrev aW : FVec Ideal S4096 .f32 := m ((c : Thread nD τ).loc main_arg4)

theorem v2_at (k : Fin 4096) : (V m c main_v2 : FVec Ideal S1x4096 .f32) (ix2 0 k) = aD m c (ix1 ⟨k.val / 64, by omega⟩) := by
  show (shapeCast S1x4096 (shapeCast S4096 (broadcastInDim S64x64 ![0] bcast_S64_S64x64_0 (aD m c) : FVec Ideal S64x64 .f32) shapeCasts_S64x64_S4096 : FVec Ideal S4096 .f32)
    shapeCasts_S4096_S1x4096 : FVec Ideal S1x4096 .f32) (ix2 0 k) = _
  pointwise

theorem v3_at (k : Fin 4096) : (V m c main_v3 : FVec Ideal S1x4096 .f32) (ix2 0 k) = aW m c (ix1 k) := by
  show (shapeCast S1x4096 (aW m c) shapeCasts_S4096_S1x4096 : FVec Ideal S1x4096 .f32) (ix2 0 k) = _
  pointwise

theorem y_at (t : Fin cfg0.N) (b : Fin 2) (r : Fin 176) (k : Fin 4096) (R : Fin 8448) (hR : R.val = 176 * t.val + r.val) :
    (iblk m c 0 t : FVec Ideal S2x176x4096 .f32) (ix3 b r k) = aY m c (ix3 b R k) := by
  blk_point [iblk, V, idx0 t]

theorem x_at (t : Fin cfg0.N) (r : Fin 176) (k : Fin 4096) (R : Fin 8448) (hR : R.val = 176 * t.val + r.val) :
    (X0_1 m c t : FVec Ideal S176x4096 .f32) (ix2 r k) = aX m c (ix2 R ⟨k.val, by omega⟩) := by
  unfold X0_1 Pipeline.Window.fill
  rw [dif_pos (moved0_1 t (ix2 r k))]
  blk_point [iblk, V, idx0 t]

theorem z_at (t : Fin cfg0.N) (r : Fin 176) (k : Fin 4096) (R : Fin 8448) (hR : R.val = 176 * t.val + r.val) :
    (X0_2 m c t : FVec Ideal S176x4096 .f32) (ix2 r k) = aP m c (ix2 R ⟨k.val, by omega⟩) := by
  unfold X0_2 Pipeline.Window.fill
  rw [dif_pos (moved0_2 t (ix2 r k))]
  blk_point [iblk, V, idx0 t]

theorem d_at (t : Fin cfg0.N) (k : Fin 4096) : (iblk m c 3 t : FVec Ideal S1x4096 .f32) (ix2 0 k) = aD m c (ix1 ⟨k.val / 64, by omega⟩) := by
  refine Eq.trans ?_ (v2_at m c k)
  blk_point [iblk, idx0 t]

theorem w_at (t : Fin cfg0.N) (k : Fin 4096) : (iblk m c 4 t : FVec Ideal S1x4096 .f32) (ix2 0 k) = aW m c (ix1 k) := by
  refine Eq.trans ?_ (v3_at m c k)
  blk_point [iblk, idx0 t]

/-! ## The result -/

/-- Row `R` of the result. -/
def res (R : Fin 8448) : Fin 4096 → EReal := normed (sum (aY m c) (aX m c) (aP m c) (aD m c) R) fun k => aW m c (ix1 k)

/-- The result array holds any `G` whose rows are the rows of the result. -/
theorem final (G : FVec Ideal S8448x4096 .bf16) (hG : ∀ R l, (G (ix2 R l) : EReal) = res m c R l) : (dats m 0 c).arrAt 5 cfg0.N = G := by
  refine (dats m 0 c).arrAt_eq_of_covers 5 G (by decide +kernel) fun t hf y => ?_
  have hN : cfg0.N = 48 := N_0
  obtain ⟨r, l, rfl⟩ : ∃ (r : Fin 176) (l : Fin 4096), y = ix2 r l := ⟨y 0, y 1, by funext a; fin_cases a <;> rfl⟩
  have ht : t.val < 48 := lt_of_lt_of_eq t.isLt hN
  have hR : 176 * t.val + r.val < 8448 := by omega
  have e : (((cfg0.win 5).blk t).view.emb (ix2 r l) : S8448x4096.Idx) = ix2 ⟨176 * t.val + r.val, hR⟩ l := by blk_ext [idx0 t]
  refine Eq.trans ?_ (congrArg G e).symm
  refine Eq.trans ?_ (hG _ l).symm
  blk_simp
  rw [after0_5]
  unfold outsAt0
  refine (out_A _ _ _ _ _ _ _ _ _ _ _ _ _ _ _ _ _ _ _ r l).trans ?_
  refine normed_congr l (fun k => ?_) fun k => w_at m c t k
  unfold sum
  rw [x_at m c t r k ⟨_, hR⟩ rfl, z_at m c t r k ⟨_, hR⟩ rfl, d_at, y_at m c t 0 r k ⟨_, hR⟩ rfl, y_at m c t 1 r k ⟨_, hR⟩ rfl]

/-- The result array is the reference's, on the same arguments. -/
theorem equal (Y : FVec Ideal S2x8448x4096 .f32) (X : FVec Ideal S8448x6144 .f32) (P : FVec Ideal S8448x10240 .f32) (D : FVec Ideal S64 .f32) (W : FVec Ideal S4096 .f32)
    (h0 : Y = aY m c) (h1 : X = aX m c) (h2 : P = aP m c) (h3 : D = aD m c) (h4 : W = aW m c) :
    Cert.FinishReferenceIdeal.Read.val_main_v29 (F := Ideal) Y X P D W = ((dats m 0 c).arrAt 5 cfg0.N : FVec Ideal S8448x4096 .bf16) := by
  subst h0 h1 h2 h3 h4
  exact (final m c _ fun R l => Cert.FinishReferenceIdeal.At.out_at _ _ _ _ _ R l).symm

end Cert.FinishIdeal.Result

end
-- ==== Proof.lean ====
module

public import proofs.«01_k».proof.Defs
public import proofs.«01_k».proof.Proof.Gen.Mlp
public import proofs.«01_k».proof.Proof.Gen.Mlp.Frame
public import proofs.«01_k».proof.Proof.Gen.MlpIdeal
public import proofs.«01_k».proof.Proof.Gen.MlpIdeal.Value
public import proofs.«01_k».proof.Proof.Gen.MlpReferenceIdeal
public import proofs.«01_k».proof.Proof.Gen.MlpReferenceIdeal.Run
public import proofs.«01_k».proof.Proof.Gen.MlpReferenceIdeal.Read
public import proofs.«01_k».proof.Proof.Gen.Kernel
public import proofs.«01_k».proof.Proof.Gen.KernelIdeal
public import proofs.«01_k».proof.Proof.Gen.Kernel.Loops
public import proofs.«01_k».proof.Proof.Gen.KernelIdeal.Loops
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Kernel.Run
public import proofs.«01_k».proof.Proof.KernelIdeal.Run
public import proofs.«01_k».proof.Proof.Gen.InEven
public import proofs.«01_k».proof.Proof.Gen.InEven.Frame
public import proofs.«01_k».proof.Proof.Gen.InEvenIdeal
public import proofs.«01_k».proof.Proof.Gen.InEvenIdeal.Value
public import proofs.«01_k».proof.Proof.Gen.InEvenReferenceIdeal
public import proofs.«01_k».proof.Proof.Gen.InEvenReferenceIdeal.Run
public import proofs.«01_k».proof.Proof.Gen.InEvenReferenceIdeal.Read
public import proofs.«01_k».proof.Proof.Gen.OutOdd
public import proofs.«01_k».proof.Proof.Gen.OutOdd.Frame
public import proofs.«01_k».proof.Proof.Gen.OutOddIdeal
public import proofs.«01_k».proof.Proof.Gen.OutOddIdeal.Value
public import proofs.«01_k».proof.Proof.Gen.OutOddReferenceIdeal
public import proofs.«01_k».proof.Proof.Gen.OutOddReferenceIdeal.Run
public import proofs.«01_k».proof.Proof.Gen.OutOddReferenceIdeal.Read
public import proofs.«01_k».proof.Proof.Gen.OutEven
public import proofs.«01_k».proof.Proof.Gen.OutEven.Frame
public import proofs.«01_k».proof.Proof.Gen.OutEvenIdeal
public import proofs.«01_k».proof.Proof.Gen.OutEvenIdeal.Value
public import proofs.«01_k».proof.Proof.Gen.OutEvenReferenceIdeal
public import proofs.«01_k».proof.Proof.Gen.OutEvenReferenceIdeal.Run
public import proofs.«01_k».proof.Proof.Gen.OutEvenReferenceIdeal.Read
public import proofs.«01_k».proof.Proof.Gen.Glu
public import proofs.«01_k».proof.Proof.Gen.Glu.Frame
public import proofs.«01_k».proof.Proof.Gen.GluIdeal
public import proofs.«01_k».proof.Proof.Gen.GluIdeal.Value
public import proofs.«01_k».proof.Proof.Gen.GluReferenceIdeal
public import proofs.«01_k».proof.Proof.Gen.GluReferenceIdeal.Run
public import proofs.«01_k».proof.Proof.Gen.GluReferenceIdeal.Read
public import proofs.«01_k».proof.Proof.Gen.Finish
public import proofs.«01_k».proof.Proof.Gen.Finish.Frame
public import proofs.«01_k».proof.Proof.Gen.FinishIdeal
public import proofs.«01_k».proof.Proof.Gen.FinishIdeal.Value
public import proofs.«01_k».proof.Proof.Gen.FinishReferenceIdeal
public import proofs.«01_k».proof.Proof.Gen.FinishReferenceIdeal.Run
public import proofs.«01_k».proof.Proof.Gen.FinishReferenceIdeal.Read
public import proofs.«01_k».proof.Proof.Value.Equal
public import proofs.«01_k».proof.Proof.Mlp.Equal
public import proofs.«01_k».proof.Proof.InEven.Equal
public import proofs.«01_k».proof.Proof.OutOdd.Equal
public import proofs.«01_k».proof.Proof.OutEven.Equal
public import proofs.«01_k».proof.Proof.Glu.Equal
public import proofs.«01_k».proof.Proof.Finish.Equal
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- Every run of the kernel ends without a fault, its arguments unchanged and its counters at zero. -/
theorem kernel_frame : Cert.quiescent_Kernel (hKernel := Cert.Kernel.Gen.facts) := fun m g _ =>
  (θ_run _ _ _).mono (fun _ h => ⟨fun c => ⟨(h.1 c).1, (h.1 c).2.1, (h.1 c).2.2.1, (h.1 c).2.2.2.1, (h.1 c).2.2.2.2.1, (h.1 c).2.2.2.2.2.1⟩, h.2⟩) (Cert.Kernel.Run.run m g)

/-- The same of the kernel over the extended reals. -/
theorem ideal_frame : Cert.quiescent_KernelIdeal (hKernelIdeal := Cert.KernelIdeal.Gen.facts) := fun m g _ =>
  (θ_run _ _ _).mono (fun _ h => ⟨fun c => ⟨(h.1 c).1, (h.1 c).2.1, (h.1 c).2.2.1, (h.1 c).2.2.2.1, (h.1 c).2.2.2.2.1, (h.1 c).2.2.2.2.2.1⟩, h.2⟩) (Cert.KernelIdeal.Run.run m g)

/-- The same of the reference over the extended reals. -/
theorem reference_frame : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- The kernel's frame from the memories the precondition holds of. -/
theorem ideal_frame_finite : Cert.quiescent_KernelIdeal_pre_finite (hKernelIdeal := Cert.KernelIdeal.Gen.facts) (hPre_finite := Cert.Pre_finite.Gen.facts) := fun m g _ =>
  (θ_run _ _ _).mono (fun _ h => ⟨fun c => ⟨(h.1 c).1, (h.1 c).2.1, (h.1 c).2.2.1, (h.1 c).2.2.2.1, (h.1 c).2.2.2.2.1, (h.1 c).2.2.2.2.2.1⟩, h.2⟩) (Cert.KernelIdeal.Run.run m g)

/-- The reference's, likewise. -/
theorem reference_frame_finite : Cert.quiescent_ReferenceIdeal_pre_finite (hReferenceIdeal := Cert.ReferenceIdeal.Gen.facts) (hPre_finite := Cert.Pre_finite.Gen.facts) := fun m g _ =>
  (θ_run _ _ _).mono (fun r h => ⟨fun c => (h c).2, sem_eq_zero_of_no_sems (by decide) r.2⟩) (Cert.ReferenceIdeal.Value.run m g)

/-- On the same arguments, the values and the weight's parameters finite, kernel and reference end with equal results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => (Cert.KernelIdeal.Reg1.dat (Cert.KernelIdeal.Run.V7 m g) c).arrAt 7 Cert.KernelIdeal.cfg1.N, ?_, ?_⟩
  · exact (θ_run _ _ _).mono (fun _ h c => ⟨(h.1 c).2.2.2.2.2.2, (h.1 c).1, (h.1 c).2.1, (h.1 c).2.2.1, (h.1 c).2.2.2.1, (h.1 c).2.2.2.2.1, (h.1 c).2.2.2.2.2.1⟩) (Cert.KernelIdeal.Run.run m g)
  · refine (θ_run _ _ _).mono (fun r h c => ⟨(h c).1.trans ?_, (h c).2⟩) (Cert.ReferenceIdeal.Value.run m' g')
    refine (Cert.ReferenceIdeal.Read.val_main_v94_eq (StableHlo.launchContents m' c)).trans ?_
    obtain ⟨h0, h1, h2, h3, h4, h5⟩ := hagree c
    haveI : Cert.Pre_finite.Facts := Cert.Pre_finite.Gen.facts
    refine Cert.Value.equal m g c _ _ _ _ _ _ h0.symm h1.symm h2.symm h3.symm h4.symm h5.symm ?_
    refine Eq.trans ?_ (hpre c)
    rw [← h0, ← h1, ← h2, ← h3, ← h4, ← h5]

/-- Every run of the network's kernel ends without a fault, its arguments unchanged and its counters at zero. -/
theorem mlp_frame : Cert.quiescent_Mlp (hMlp := Cert.Mlp.Gen.facts) := fun m g _ => Cert.Mlp.Gen.frame m g

/-- The same of the network's kernel over the extended reals. -/
theorem mlp_ideal_frame : Cert.quiescent_MlpIdeal (hMlpIdeal := Cert.MlpIdeal.Gen.facts) := fun m g _ => Cert.MlpIdeal.Gen.frame m g

/-- The same of the network's reference over the extended reals. -/
theorem mlp_reference_frame : Cert.quiescent_MlpReferenceIdeal (hMlpReferenceIdeal := Cert.MlpReferenceIdeal.Gen.facts) := fun m g _ =>
  (θ_run _ _ _).mono (fun r h => ⟨fun c => (h c).2, sem_eq_zero_of_no_sems (by decide) r.2⟩) (Cert.MlpReferenceIdeal.Value.run m g)

/-- On the same arguments the network's kernel and its reference end with equal results. -/
theorem mlp_algebraic : Cert.algebraic_MlpIdeal_MlpReferenceIdeal (hMlpIdeal := Cert.MlpIdeal.Gen.facts) (hMlpReferenceIdeal := Cert.MlpReferenceIdeal.Gen.facts) := by
  intro m g m' g' _ hagree
  refine ⟨fun c => Cert.MlpIdeal.Value.G8 m c, Cert.MlpIdeal.Value.run m g, ?_⟩
  refine (θ_run _ _ _).mono (fun r h c => ⟨(h c).1.trans ?_, (h c).2⟩) (Cert.MlpReferenceIdeal.Value.run m' g')
  refine (Cert.MlpReferenceIdeal.Read.val_main_v60_eq m' c).trans ?_
  obtain ⟨h0, h1, h2, h3, h4, h5, h6, h7⟩ := hagree c
  exact Cert.MlpIdeal.Result.equal m c _ _ _ _ _ _ _ _ h0 h1 h2 h3 h4 h5 h6 h7

/-- Every run of the input projection's kernel ends without a fault, its arguments unchanged and its counters at zero. -/
theorem in_even_frame : Cert.quiescent_InEven (hInEven := Cert.InEven.Gen.facts) := fun m g _ => Cert.InEven.Gen.frame m g

/-- The same of the input projection's kernel over the extended reals. -/
theorem in_even_ideal_frame : Cert.quiescent_InEvenIdeal (hInEvenIdeal := Cert.InEvenIdeal.Gen.facts) := fun m g _ => Cert.InEvenIdeal.Gen.frame m g

/-- The same of the input projection's reference over the extended reals. -/
theorem in_even_reference_frame : Cert.quiescent_InEvenReferenceIdeal (hInEvenReferenceIdeal := Cert.InEvenReferenceIdeal.Gen.facts) := fun m g _ =>
  (θ_run _ _ _).mono (fun r h => ⟨fun c => (h c).2, sem_eq_zero_of_no_sems (by decide) r.2⟩) (Cert.InEvenReferenceIdeal.Value.run m g)

/-- On the same arguments the input projection's kernel and its reference end with equal results. -/
theorem in_even_algebraic : Cert.algebraic_InEvenIdeal_InEvenReferenceIdeal (hInEvenIdeal := Cert.InEvenIdeal.Gen.facts) (hInEvenReferenceIdeal := Cert.InEvenReferenceIdeal.Gen.facts) := by
  intro m g m' g' _ hagree
  refine ⟨fun c => Cert.InEvenIdeal.Value.G5 m c, Cert.InEvenIdeal.Value.run m g, ?_⟩
  refine (θ_run _ _ _).mono (fun r h c => ⟨(h c).1.trans ?_, (h c).2⟩) (Cert.InEvenReferenceIdeal.Value.run m' g')
  refine (Cert.InEvenReferenceIdeal.Read.val_main_v33_eq _ _ _ _ _).trans ?_
  obtain ⟨h0, h1, h2, h3, h4⟩ := hagree c
  exact Cert.InEvenIdeal.Result.equal m c _ _ _ _ _ h0 h1 h2 h3 h4

/-- Every run of the output projection's kernel ends without a fault, its arguments unchanged and its counters at zero. -/
theorem out_odd_frame : Cert.quiescent_OutOdd (hOutOdd := Cert.OutOdd.Gen.facts) := fun m g _ => Cert.OutOdd.Gen.frame m g

/-- The same of the output projection's kernel over the extended reals. -/
theorem out_odd_ideal_frame : Cert.quiescent_OutOddIdeal (hOutOddIdeal := Cert.OutOddIdeal.Gen.facts) := fun m g _ => Cert.OutOddIdeal.Gen.frame m g

/-- The same of the output projection's reference over the extended reals. -/
theorem out_odd_reference_frame : Cert.quiescent_OutOddReferenceIdeal (hOutOddReferenceIdeal := Cert.OutOddReferenceIdeal.Gen.facts) := fun m g _ =>
  (θ_run _ _ _).mono (fun r h => ⟨fun c => (h c).2, sem_eq_zero_of_no_sems (by decide) r.2⟩) (Cert.OutOddReferenceIdeal.Value.run m g)

/-- On the same arguments the output projection's kernel and its reference end with equal results. -/
theorem out_odd_algebraic : Cert.algebraic_OutOddIdeal_OutOddReferenceIdeal (hOutOddIdeal := Cert.OutOddIdeal.Gen.facts) (hOutOddReferenceIdeal := Cert.OutOddReferenceIdeal.Gen.facts) := by
  intro m g m' g' _ hagree
  refine ⟨fun c => (Cert.OutOddIdeal.Gen.dats m 0 c).arrAt 5 Cert.OutOddIdeal.cfg0.N, Cert.OutOddIdeal.Value.run_blocks m g, ?_⟩
  refine (θ_run _ _ _).mono (fun r h c => ⟨(h c).1.trans ?_, (h c).2⟩) (Cert.OutOddReferenceIdeal.Value.run m' g')
  refine (Cert.OutOddReferenceIdeal.Read.val_main_v25_eq _ _ _ _ _).trans ?_
  obtain ⟨h0, h1, h2, h3, h4⟩ := hagree c
  exact Cert.OutOddIdeal.Result.equal m c _ _ _ _ _ h0 h1 h2 h3 h4

/-- Every run of the kernel of the output projection with two parts ends without a fault, its arguments unchanged and its counters at zero. -/
theorem out_even_frame : Cert.quiescent_OutEven (hOutEven := Cert.OutEven.Gen.facts) := fun m g _ => Cert.OutEven.Gen.frame m g

/-- The same of that kernel over the extended reals. -/
theorem out_even_ideal_frame : Cert.quiescent_OutEvenIdeal (hOutEvenIdeal := Cert.OutEvenIdeal.Gen.facts) := fun m g _ => Cert.OutEvenIdeal.Gen.frame m g

/-- The same of its reference over the extended reals. -/
theorem out_even_reference_frame : Cert.quiescent_OutEvenReferenceIdeal (hOutEvenReferenceIdeal := Cert.OutEvenReferenceIdeal.Gen.facts) := fun m g _ =>
  (θ_run _ _ _).mono (fun r h => ⟨fun c => (h c).2, sem_eq_zero_of_no_sems (by decide) r.2⟩) (Cert.OutEvenReferenceIdeal.Value.run m g)

/-- On the same arguments the kernel of the output projection with two parts and its reference end with equal results. -/
theorem out_even_algebraic : Cert.algebraic_OutEvenIdeal_OutEvenReferenceIdeal (hOutEvenIdeal := Cert.OutEvenIdeal.Gen.facts) (hOutEvenReferenceIdeal := Cert.OutEvenReferenceIdeal.Gen.facts) := by
  intro m g m' g' _ hagree
  refine ⟨fun c => (Cert.OutEvenIdeal.Gen.dats m 0 c).arrAt 6 Cert.OutEvenIdeal.cfg0.N, Cert.OutEvenIdeal.Value.run_blocks m g, ?_⟩
  refine (θ_run _ _ _).mono (fun r h c => ⟨(h c).1.trans ?_, (h c).2⟩) (Cert.OutEvenReferenceIdeal.Value.run m' g')
  refine (Cert.OutEvenReferenceIdeal.Read.val_main_v26_eq _ _ _ _ _ _).trans ?_
  obtain ⟨h0, h1, h2, h3, h4, h5⟩ := hagree c
  exact Cert.OutEvenIdeal.Result.equal m c _ _ _ _ _ _ h0 h1 h2 h3 h4 h5

/-- Every run of the gated unit's kernel ends without a fault, its arguments unchanged and its counters at zero. -/
theorem glu_frame : Cert.quiescent_Glu (hGlu := Cert.Glu.Gen.facts) := fun m g _ => Cert.Glu.Gen.frame m g

/-- The same of the gated unit's kernel over the extended reals. -/
theorem glu_ideal_frame : Cert.quiescent_GluIdeal (hGluIdeal := Cert.GluIdeal.Gen.facts) := fun m g _ => Cert.GluIdeal.Gen.frame m g

/-- The same of the gated unit's reference over the extended reals. -/
theorem glu_reference_frame : Cert.quiescent_GluReferenceIdeal (hGluReferenceIdeal := Cert.GluReferenceIdeal.Gen.facts) := fun m g _ =>
  (θ_run _ _ _).mono (fun r h => ⟨fun c => (h c).2, sem_eq_zero_of_no_sems (by decide) r.2⟩) (Cert.GluReferenceIdeal.Value.run m g)

/-- On the same arguments the gated unit's kernel and its reference end with equal results. -/
theorem glu_algebraic : Cert.algebraic_GluIdeal_GluReferenceIdeal (hGluIdeal := Cert.GluIdeal.Gen.facts) (hGluReferenceIdeal := Cert.GluReferenceIdeal.Gen.facts) := by
  intro m g m' g' _ hagree
  refine ⟨fun c => (Cert.GluIdeal.Gen.dats m 0 c).arrAt 3 Cert.GluIdeal.cfg0.N, Cert.GluIdeal.Value.run_blocks m g, ?_⟩
  refine (θ_run _ _ _).mono (fun r h c => ⟨(h c).1.trans ?_, (h c).2⟩) (Cert.GluReferenceIdeal.Value.run m' g')
  refine (Cert.GluReferenceIdeal.Read.val_main_v24_eq _ _ _).trans ?_
  obtain ⟨h0, h1, h2⟩ := hagree c
  exact Cert.GluIdeal.Result.equal m c _ _ _ h0 h1 h2

/-- Every run of the kernel of the end of the SSD mixer ends without a fault, its arguments unchanged and its counters at zero. -/
theorem finish_frame : Cert.quiescent_Finish (hFinish := Cert.Finish.Gen.facts) := fun m g _ => Cert.Finish.Gen.frame m g

/-- The same of the kernel of the end of the SSD mixer over the extended reals. -/
theorem finish_ideal_frame : Cert.quiescent_FinishIdeal (hFinishIdeal := Cert.FinishIdeal.Gen.facts) := fun m g _ => Cert.FinishIdeal.Gen.frame m g

/-- The same of the reference of the end of the SSD mixer over the extended reals. -/
theorem finish_reference_frame : Cert.quiescent_FinishReferenceIdeal (hFinishReferenceIdeal := Cert.FinishReferenceIdeal.Gen.facts) := fun m g _ =>
  (θ_run _ _ _).mono (fun r h => ⟨fun c => (h c).2, sem_eq_zero_of_no_sems (by decide) r.2⟩) (Cert.FinishReferenceIdeal.Value.run m g)

/-- On the same arguments the kernel of the end of the SSD mixer and its reference finish with equal results. -/
theorem finish_algebraic : Cert.algebraic_FinishIdeal_FinishReferenceIdeal (hFinishIdeal := Cert.FinishIdeal.Gen.facts) (hFinishReferenceIdeal := Cert.FinishReferenceIdeal.Gen.facts) := by
  intro m g m' g' _ hagree
  refine ⟨fun c => (Cert.FinishIdeal.Gen.dats m 0 c).arrAt 5 Cert.FinishIdeal.cfg0.N, Cert.FinishIdeal.Value.run_blocks m g, ?_⟩
  refine (θ_run _ _ _).mono (fun r h c => ⟨(h c).1.trans ?_, (h c).2⟩) (Cert.FinishReferenceIdeal.Value.run m' g')
  refine (Cert.FinishReferenceIdeal.Read.val_main_v29_eq m' c).trans ?_
  obtain ⟨h0, h1, h2, h3, h4⟩ := hagree c
  exact Cert.FinishIdeal.Result.equal m c _ _ _ _ _ h0 h1 h2 h3 h4

theorem claim : Cert.Claim := ⟨Cert.Kernel.Gen.facts, Cert.KernelIdeal.Gen.facts, Cert.ReferenceIdeal.Gen.facts, Cert.Mlp.Gen.facts, Cert.MlpIdeal.Gen.facts,
  Cert.MlpReferenceIdeal.Gen.facts, Cert.InEven.Gen.facts, Cert.InEvenIdeal.Gen.facts, Cert.InEvenReferenceIdeal.Gen.facts,
  Cert.OutOdd.Gen.facts, Cert.OutOddIdeal.Gen.facts, Cert.OutOddReferenceIdeal.Gen.facts,
  Cert.OutEven.Gen.facts, Cert.OutEvenIdeal.Gen.facts, Cert.OutEvenReferenceIdeal.Gen.facts,
  Cert.Glu.Gen.facts, Cert.GluIdeal.Gen.facts, Cert.GluReferenceIdeal.Gen.facts,
  Cert.Finish.Gen.facts, Cert.FinishIdeal.Gen.facts, Cert.FinishReferenceIdeal.Gen.facts, Cert.Pre_finite.Gen.facts,
  kernel_frame, ideal_frame, ideal_frame_finite, reference_frame, reference_frame_finite, mlp_frame, mlp_ideal_frame, mlp_reference_frame,
  in_even_frame, in_even_ideal_frame, in_even_reference_frame, out_odd_frame, out_odd_ideal_frame, out_odd_reference_frame,
  out_even_frame, out_even_ideal_frame, out_even_reference_frame, glu_frame, glu_ideal_frame, glu_reference_frame,
  finish_frame, finish_ideal_frame, finish_reference_frame,
  IdealRules.named_const.statement Cert.KernelIdeal.κ "log2e_8" .f32 0x3E38AA3B#32 (((8 * (Real.log 2))⁻¹ : ℝ) : EReal) rfl, algebraic, trivial, mlp_algebraic,
  trivial, in_even_algebraic, trivial, out_odd_algebraic, trivial, out_even_algebraic, trivial, glu_algebraic, trivial, finish_algebraic⟩

end Cert.Proof

end
